-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v34)) (v1 : (c : Dev Cert.Kernel16Ideal.nD) → Buf (Elt Ideal) ((c.tc : Thread Cert.Kernel16Ideal.nD Cert.Kernel16Ideal.τ).loc Cert.Kernel16Ideal.main_v35)) (v2 : (c : Dev Cert.Kernel16Ideal.nD) → Buf (Elt Ideal) ((c.tc : Thread Cert.Kernel16Ideal.nD Cert.Kernel16Ideal.τ).loc Cert.Kernel16Ideal.main_v37)) (v3 : (c : Dev Cert.Kernel16Ideal.nD) → Buf (Elt Ideal) ((c.tc : Thread Cert.Kernel16Ideal.nD Cert.Kernel16Ideal.τ).loc Cert.Kernel16Ideal.main_v38)) (v4 : (c : Dev Cert.Kernel16Ideal.nD) → Buf (Elt Ideal) ((c.tc : Thread Cert.Kernel16Ideal.nD Cert.Kernel16Ideal.τ).loc Cert.Kernel16Ideal.main_v39)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v34) = v0 c
          ∧ r.2.mem ((c.tc : Thread Cert.Kernel16Ideal.nD Cert.Kernel16Ideal.τ).loc Cert.Kernel16Ideal.main_v35) = v1 c
          ∧ r.2.mem ((c.tc : Thread Cert.Kernel16Ideal.nD Cert.Kernel16Ideal.τ).loc Cert.Kernel16Ideal.main_v37) = v2 c
          ∧ r.2.mem ((c.tc : Thread Cert.Kernel16Ideal.nD Cert.Kernel16Ideal.τ).loc Cert.Kernel16Ideal.main_v38) = v3 c
          ∧ r.2.mem ((c.tc : Thread Cert.Kernel16Ideal.nD Cert.Kernel16Ideal.τ).loc Cert.Kernel16Ideal.main_v39) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v62) = v0 c
          ∧ r.2.mem ((c.tc : Thread Cert.Reference16Ideal.nD Cert.Reference16Ideal.τ).loc Cert.Reference16Ideal.main_v63) = v1 c
          ∧ r.2.mem ((c.tc : Thread Cert.Reference16Ideal.nD Cert.Reference16Ideal.τ).loc Cert.Reference16Ideal.main_v64) = v2 c
          ∧ r.2.mem ((c.tc : Thread Cert.Reference16Ideal.nD Cert.Reference16Ideal.τ).loc Cert.Reference16Ideal.main_v65) = v3 c
          ∧ r.2.mem ((c.tc : Thread Cert.Reference16Ideal.nD Cert.Reference16Ideal.τ).loc Cert.Reference16Ideal.main_v66) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v19) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v42)) (v1 : (c : Dev Cert.Kernel22Ideal.nD) → Buf (Elt Ideal) ((c.tc : Thread Cert.Kernel22Ideal.nD Cert.Kernel22Ideal.τ).loc Cert.Kernel22Ideal.main_v43)) (v2 : (c : Dev Cert.Kernel22Ideal.nD) → Buf (Elt Ideal) ((c.tc : Thread Cert.Kernel22Ideal.nD Cert.Kernel22Ideal.τ).loc Cert.Kernel22Ideal.main_v44)) (v3 : (c : Dev Cert.Kernel22Ideal.nD) → Buf (Elt Ideal) ((c.tc : Thread Cert.Kernel22Ideal.nD Cert.Kernel22Ideal.τ).loc Cert.Kernel22Ideal.main_v45)) (v4 : (c : Dev Cert.Kernel22Ideal.nD) → Buf (Elt Ideal) ((c.tc : Thread Cert.Kernel22Ideal.nD Cert.Kernel22Ideal.τ).loc Cert.Kernel22Ideal.main_v46)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v42) = v0 c
          ∧ r.2.mem ((c.tc : Thread Cert.Kernel22Ideal.nD Cert.Kernel22Ideal.τ).loc Cert.Kernel22Ideal.main_v43) = v1 c
          ∧ r.2.mem ((c.tc : Thread Cert.Kernel22Ideal.nD Cert.Kernel22Ideal.τ).loc Cert.Kernel22Ideal.main_v44) = v2 c
          ∧ r.2.mem ((c.tc : Thread Cert.Kernel22Ideal.nD Cert.Kernel22Ideal.τ).loc Cert.Kernel22Ideal.main_v45) = v3 c
          ∧ r.2.mem ((c.tc : Thread Cert.Kernel22Ideal.nD Cert.Kernel22Ideal.τ).loc Cert.Kernel22Ideal.main_v46) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v58) = v0 c
          ∧ r.2.mem ((c.tc : Thread Cert.Reference22Ideal.nD Cert.Reference22Ideal.τ).loc Cert.Reference22Ideal.main_v40) = v1 c
          ∧ r.2.mem ((c.tc : Thread Cert.Reference22Ideal.nD Cert.Reference22Ideal.τ).loc Cert.Reference22Ideal.main_v59) = v2 c
          ∧ r.2.mem ((c.tc : Thread Cert.Reference22Ideal.nD Cert.Reference22Ideal.τ).loc Cert.Reference22Ideal.main_v56) = v3 c
          ∧ r.2.mem ((c.tc : Thread Cert.Reference22Ideal.nD Cert.Reference22Ideal.τ).loc Cert.Reference22Ideal.main_v57) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v31) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Kernel.lean ====
abbrev S16384x2048 : Shape := ⟨2, ![16384, 2048]⟩
abbrev S8x128x16384 : Shape := ⟨3, ![8, 128, 16384]⟩
abbrev S8x16384 : Shape := ⟨2, ![8, 16384]⟩
abbrev S512x2048 : Shape := ⟨2, ![512, 2048]⟩
abbrev S8x128x512 : Shape := ⟨3, ![8, 128, 512]⟩
abbrev S8x512 : Shape := ⟨2, ![8, 512]⟩
abbrev S512x512 : Shape := ⟨2, ![512, 512]⟩
abbrev S128x512 : Shape := ⟨2, ![128, 512]⟩
abbrev S1x128x512 : Shape := ⟨3, ![1, 128, 512]⟩
abbrev S1x1x512 : Shape := ⟨3, ![1, 1, 512]⟩
abbrev S1x512 : Shape := ⟨2, ![1, 512]⟩
abbrev S512x128 : Shape := ⟨2, ![512, 128]⟩
abbrev S512x256 : Shape := ⟨2, ![512, 256]⟩
abbrev S256x2048 : Shape := ⟨2, ![256, 2048]⟩

abbrev nBuf : Space → Nat
  | .hbm => 7
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S8x128x16384, .f32⟩
  | .hbm, ⟨4, _⟩ => ⟨S8x128x16384, .f32⟩
  | .hbm, ⟨5, _⟩ => ⟨S8x16384, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x512, .f32⟩
  | .local _ .vmem, ⟨11, _⟩ => ⟨S8x512, .f32⟩
  | .local _ .vmem, ⟨12, _⟩ => ⟨S512x2048, .f32⟩
  | .local _ .vmem, ⟨13, _⟩ => ⟨S512x2048, .f32⟩
  | .local _ .vmem, ⟨14, _⟩ => ⟨S512x512, .f32⟩
  | .local _ .vmem, ⟨15, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 33], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c32_i32 : BitVec 32 := 32#32
  let v4 : BitVec 1 := Scalar.cmpi .slt arg1 c32_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg1 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off1 (i : grid0.Coords) (c0_i32_40 : BitVec 32) : Fin 3 → Nat :=
  let c0_45 : Index := 0#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v76 : Index := Scalar.indexCast v72
  let c0_46 : Index := 0#32
  ![0, v76.toNat, 0]
def k0_off2 (i : grid0.Coords) (c0_i32_40 : BitVec 32) : Fin 3 → Nat :=
  let c1_52 : Index := 1#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v89 : Index := Scalar.indexCast v72
  let c0_53 : Index := 0#32
  ![1, v89.toNat, 0]
def k0_off3 (i : grid0.Coords) (c0_i32_40 : BitVec 32) : Fin 3 → Nat :=
  let c2_59 : Index := 2#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v102 : Index := Scalar.indexCast v72
  let c0_60 : Index := 0#32
  ![2, v102.toNat, 0]
def k0_off4 (i : grid0.Coords) (c0_i32_40 : BitVec 32) : Fin 3 → Nat :=
  let c3_66 : Index := 3#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v115 : Index := Scalar.indexCast v72
  let c0_67 : Index := 0#32
  ![3, v115.toNat, 0]
def k0_off5 (i : grid0.Coords) (c0_i32_40 : BitVec 32) : Fin 3 → Nat :=
  let c4_73 : Index := 4#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v128 : Index := Scalar.indexCast v72
  let c0_74 : Index := 0#32
  ![4, v128.toNat, 0]
def k0_off6 (i : grid0.Coords) (c0_i32_40 : BitVec 32) : Fin 3 → Nat :=
  let c5_80 : Index := 5#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v141 : Index := Scalar.indexCast v72
  let c0_81 : Index := 0#32
  ![5, v141.toNat, 0]
def k0_off7 (i : grid0.Coords) (c0_i32_40 : BitVec 32) : Fin 3 → Nat :=
  let c6_87 : Index := 6#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v154 : Index := Scalar.indexCast v72
  let c0_88 : Index := 0#32
  ![6, v154.toNat, 0]
def k0_off8 (i : grid0.Coords) (c0_i32_40 : BitVec 32) : Fin 3 → Nat :=
  let c7_94 : Index := 7#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v167 : Index := Scalar.indexCast v72
  let c0_95 : Index := 0#32
  ![7, v167.toNat, 0]
def k0_cond3 (i : grid0.Coords) : BitVec 1 :=
  let arg1 : BitVec 32 := BitVec.ofNat 32 (i 1).val
  let c0_i32_8 : BitVec 32 := 0#32
  let v20 : BitVec 1 := Scalar.cmpi .sgt arg1 c0_i32_8
  let c32_i32_9 : BitVec 32 := 32#32
  let v21 : BitVec 1 := Scalar.cmpi .slt arg1 c32_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg1 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_off9 (i : grid0.Coords) (c0_i32_40 : BitVec 32) : Fin 3 → Nat :=
  let c0_45 : Index := 0#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v76 : Index := Scalar.indexCast v72
  let c0_46 : Index := 0#32
  ![0, v76.toNat, 0]
def k0_off10 (i : grid0.Coords) (c0_i32_40 : BitVec 32) : Fin 3 → Nat :=
  let c1_52 : Index := 1#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v89 : Index := Scalar.indexCast v72
  let c0_53 : Index := 0#32
  ![1, v89.toNat, 0]
def k0_off11 (i : grid0.Coords) (c0_i32_40 : BitVec 32) : Fin 3 → Nat :=
  let c2_59 : Index := 2#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v102 : Index := Scalar.indexCast v72
  let c0_60 : Index := 0#32
  ![2, v102.toNat, 0]
def k0_off12 (i : grid0.Coords) (c0_i32_40 : BitVec 32) : Fin 3 → Nat :=
  let c3_66 : Index := 3#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v115 : Index := Scalar.indexCast v72
  let c0_67 : Index := 0#32
  ![3, v115.toNat, 0]
def k0_off13 (i : grid0.Coords) (c0_i32_40 : BitVec 32) : Fin 3 → Nat :=
  let c4_73 : Index := 4#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v128 : Index := Scalar.indexCast v72
  let c0_74 : Index := 0#32
  ![4, v128.toNat, 0]
def k0_off14 (i : grid0.Coords) (c0_i32_40 : BitVec 32) : Fin 3 → Nat :=
  let c5_80 : Index := 5#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v141 : Index := Scalar.indexCast v72
  let c0_81 : Index := 0#32
  ![5, v141.toNat, 0]
def k0_off15 (i : grid0.Coords) (c0_i32_40 : BitVec 32) : Fin 3 → Nat :=
  let c6_87 : Index := 6#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v154 : Index := Scalar.indexCast v72
  let c0_88 : Index := 0#32
  ![6, v154.toNat, 0]
def k0_off16 (i : grid0.Coords) (c0_i32_40 : BitVec 32) : Fin 3 → Nat :=
  let c7_94 : Index := 7#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v167 : Index := Scalar.indexCast v72
  let c0_95 : Index := 0#32
  ![7, v167.toNat, 0]
def k0_cond4 (i : grid0.Coords) : BitVec 1 :=
  let arg1 : BitVec 32 := BitVec.ofNat 32 (i 1).val
  let c32_i32_18 : BitVec 32 := 32#32
  let v37 : BitVec 1 := Scalar.cmpi .eq arg1 c32_i32_18
  let c2_i32_19 : BitVec 32 := 2#32
  let c0_i32_20 : BitVec 32 := 0#32
  let v38 : BitVec 1 := Scalar.cmpi .eq c2_i32_19 c0_i32_20
  let c1_i32_21 : BitVec 32 := 1#32
  let v39 : BitVec 32 := Scalar.select v38 c1_i32_21 c2_i32_19
  let v40 : BitVec 32 := Scalar.remsi arg1 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c0_i32_25 : BitVec 32 := 0#32
  let v48 : BitVec 1 := Scalar.cmpi .eq v47 c0_i32_25
  let v49 : BitVec 1 := Scalar.andi v37 v48
  let v50 : BitVec 32 := Scalar.extui v49
  let c0_i32_26 : BitVec 32 := 0#32
  let v51 : BitVec 1 := Scalar.cmpi .ne v50 c0_i32_26
  v51

def k0_off17 (i : grid0.Coords) (c0_i32_37 : BitVec 32) : Fin 3 → Nat :=
  let c0_40 : Index := 0#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v73 : Index := Scalar.indexCast v69
  let c0_41 : Index := 0#32
  ![0, v73.toNat, 0]
def k0_off18 (i : grid0.Coords) (c0_i32_37 : BitVec 32) : Fin 3 → Nat :=
  let c1_47 : Index := 1#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v86 : Index := Scalar.indexCast v69
  let c0_48 : Index := 0#32
  ![1, v86.toNat, 0]
def k0_off19 (i : grid0.Coords) (c0_i32_37 : BitVec 32) : Fin 3 → Nat :=
  let c2_54 : Index := 2#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v99 : Index := Scalar.indexCast v69
  let c0_55 : Index := 0#32
  ![2, v99.toNat, 0]
def k0_off20 (i : grid0.Coords) (c0_i32_37 : BitVec 32) : Fin 3 → Nat :=
  let c3_61 : Index := 3#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v112 : Index := Scalar.indexCast v69
  let c0_62 : Index := 0#32
  ![3, v112.toNat, 0]
def k0_off21 (i : grid0.Coords) (c0_i32_37 : BitVec 32) : Fin 3 → Nat :=
  let c4_68 : Index := 4#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v125 : Index := Scalar.indexCast v69
  let c0_69 : Index := 0#32
  ![4, v125.toNat, 0]
def k0_off22 (i : grid0.Coords) (c0_i32_37 : BitVec 32) : Fin 3 → Nat :=
  let c5_75 : Index := 5#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v138 : Index := Scalar.indexCast v69
  let c0_76 : Index := 0#32
  ![5, v138.toNat, 0]
def k0_off23 (i : grid0.Coords) (c0_i32_37 : BitVec 32) : Fin 3 → Nat :=
  let c6_82 : Index := 6#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v151 : Index := Scalar.indexCast v69
  let c0_83 : Index := 0#32
  ![6, v151.toNat, 0]
def k0_off24 (i : grid0.Coords) (c0_i32_37 : BitVec 32) : Fin 3 → Nat :=
  let c7_89 : Index := 7#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v164 : Index := Scalar.indexCast v69
  let c0_90 : Index := 0#32
  ![7, v164.toNat, 0]
def k0_cond5 (i : grid0.Coords) : BitVec 1 :=
  let arg1 : BitVec 32 := BitVec.ofNat 32 (i 1).val
  let c32_i32_27 : BitVec 32 := 32#32
  let v52 : BitVec 1 := Scalar.cmpi .eq arg1 c32_i32_27
  let c2_i32_28 : BitVec 32 := 2#32
  let c0_i32_29 : BitVec 32 := 0#32
  let v53 : BitVec 1 := Scalar.cmpi .eq c2_i32_28 c0_i32_29
  let c1_i32_30 : BitVec 32 := 1#32
  let v54 : BitVec 32 := Scalar.select v53 c1_i32_30 c2_i32_28
  let v55 : BitVec 32 := Scalar.remsi arg1 v54
  let c0_i32_32 : BitVec 32 := 0#32
  let v57 : BitVec 1 := Scalar.cmpi .slt v55 c0_i32_32
  let c0_i32_33 : BitVec 32 := 0#32
  let v58 : BitVec 1 := Scalar.cmpi .slt v54 c0_i32_33
  let v59 : BitVec 1 := Scalar.xori v57 v58
  let c0_i32_31 : BitVec 32 := 0#32
  let v56 : BitVec 1 := Scalar.cmpi .ne v55 c0_i32_31
  let v60 : BitVec 1 := Scalar.andi v59 v56
  let v61 : BitVec 32 := Scalar.addi v55 v54
  let v62 : BitVec 32 := Scalar.select v60 v61 v55
  let c1_i32_34 : BitVec 32 := 1#32
  let v63 : BitVec 1 := Scalar.cmpi .eq v62 c1_i32_34
  let v64 : BitVec 1 := Scalar.andi v52 v63
  let v65 : BitVec 32 := Scalar.extui v64
  let c0_i32_35 : BitVec 32 := 0#32
  let v66 : BitVec 1 := Scalar.cmpi .ne v65 c0_i32_35
  v66

def k0_off25 (i : grid0.Coords) (c0_i32_37 : BitVec 32) : Fin 3 → Nat :=
  let c0_40 : Index := 0#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v73 : Index := Scalar.indexCast v69
  let c0_41 : Index := 0#32
  ![0, v73.toNat, 0]
def k0_off26 (i : grid0.Coords) (c0_i32_37 : BitVec 32) : Fin 3 → Nat :=
  let c1_47 : Index := 1#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v86 : Index := Scalar.indexCast v69
  let c0_48 : Index := 0#32
  ![1, v86.toNat, 0]
def k0_off27 (i : grid0.Coords) (c0_i32_37 : BitVec 32) : Fin 3 → Nat :=
  let c2_54 : Index := 2#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v99 : Index := Scalar.indexCast v69
  let c0_55 : Index := 0#32
  ![2, v99.toNat, 0]
def k0_off28 (i : grid0.Coords) (c0_i32_37 : BitVec 32) : Fin 3 → Nat :=
  let c3_61 : Index := 3#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v112 : Index := Scalar.indexCast v69
  let c0_62 : Index := 0#32
  ![3, v112.toNat, 0]
def k0_off29 (i : grid0.Coords) (c0_i32_37 : BitVec 32) : Fin 3 → Nat :=
  let c4_68 : Index := 4#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v125 : Index := Scalar.indexCast v69
  let c0_69 : Index := 0#32
  ![4, v125.toNat, 0]
def k0_off30 (i : grid0.Coords) (c0_i32_37 : BitVec 32) : Fin 3 → Nat :=
  let c5_75 : Index := 5#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v138 : Index := Scalar.indexCast v69
  let c0_76 : Index := 0#32
  ![5, v138.toNat, 0]
def k0_off31 (i : grid0.Coords) (c0_i32_37 : BitVec 32) : Fin 3 → Nat :=
  let c6_82 : Index := 6#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v151 : Index := Scalar.indexCast v69
  let c0_83 : Index := 0#32
  ![6, v151.toNat, 0]
def k0_off32 (i : grid0.Coords) (c0_i32_37 : BitVec 32) : Fin 3 → Nat :=
  let c7_89 : Index := 7#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v164 : Index := Scalar.indexCast v69
  let c0_90 : Index := 0#32
  ![7, v164.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x2048 : Shape := ⟨2, ![16384, 2048]⟩
abbrev S8x128x16384 : Shape := ⟨3, ![8, 128, 16384]⟩
abbrev S8x16384 : Shape := ⟨2, ![8, 16384]⟩
abbrev S8x128x1x16384 : Shape := ⟨4, ![8, 128, 1, 16384]⟩
abbrev S8x1x128x16384 : Shape := ⟨4, ![8, 1, 128, 16384]⟩
abbrev S8x128x128x16384 : Shape := ⟨4, ![8, 128, 128, 16384]⟩
abbrev S8x1x1x16384 : Shape := ⟨4, ![8, 1, 1, 16384]⟩
abbrev S_ : Shape := ⟨0, ![]⟩
abbrev S128x128x16384 : Shape := ⟨3, ![128, 128, 16384]⟩
abbrev S16384x16384 : Shape := ⟨2, ![16384, 16384]⟩
abbrev S2048x16384 : Shape := ⟨2, ![2048, 16384]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S8x128x16384, .f32⟩
  | .hbm, ⟨4, _⟩ => ⟨S8x128x16384, .f32⟩
  | .hbm, ⟨5, _⟩ => ⟨S8x16384, .f32⟩
  | .hbm, ⟨6, _⟩ => ⟨S8x128x1x16384, .f32⟩
  | .hbm, ⟨7, _⟩ => ⟨S8x1x128x16384, .f32⟩
  | .hbm, ⟨8, _⟩ => ⟨S8x128x128x16384, .f32⟩
  | .hbm, ⟨9, _⟩ => ⟨S8x128x128x16384, .f32⟩
  | .hbm, ⟨10, _⟩ => ⟨S8x128x128x16384, .f32⟩
  | .hbm, ⟨11, _⟩ => ⟨S8x1x1x16384, .f32⟩
  | .hbm, ⟨12, _⟩ => ⟨S8x128x128x16384, .f32⟩
  | .hbm, ⟨13, _⟩ => ⟨S8x128x128x16384, .i1⟩
  | .hbm, ⟨14, _⟩ => ⟨S_, .f32⟩
  | .hbm, ⟨15, _⟩ => ⟨S_, .f32⟩
  | .hbm, ⟨16, _⟩ => ⟨S8x128x128x16384, .f32⟩
  | .hbm, ⟨17, _⟩ => ⟨S8x128x128x16384, .f32⟩
  | .hbm, ⟨18, _⟩ => ⟨S_, .f32⟩
  | .hbm, ⟨19, _⟩ => ⟨S128x128x16384, .f32⟩
  | .hbm, ⟨20, _⟩ => ⟨S16384x16384, .f32⟩
  | .hbm, ⟨21, _⟩ => ⟨S16384x16384, .f32⟩
  | .hbm, ⟨22, _⟩ => ⟨S16384x2048, .f32⟩
  | .hbm, ⟨23, _⟩ => ⟨S16384x2048, .f32⟩
  | .hbm, ⟨24, _⟩ => ⟨S2048x16384, .f32⟩
  | .hbm, ⟨25, _⟩ => ⟨S16384x16384, .f32⟩
  | .hbm, ⟨26, _⟩ => ⟨S16384x16384, .f32⟩
  | .hbm, ⟨27, _⟩ => ⟨S16384x16384, .f32⟩
  | .hbm, ⟨28, _⟩ => ⟨S_, .f32⟩
  | .hbm, ⟨29, _⟩ => ⟨S16384x16384, .f32⟩
  | .hbm, ⟨30, _⟩ => ⟨S16384x16384, .f32⟩
  | .hbm, ⟨31, _⟩ => ⟨S16384x16384, .f32⟩
  | .hbm, ⟨32, _⟩ => ⟨S_, .f32⟩
  | .hbm, ⟨33, _⟩ => ⟨S16384x16384, .f32⟩
  | .hbm, ⟨34, _⟩ => ⟨S16384x16384, .f32⟩
  | .hbm, ⟨35, _⟩ => ⟨S16384x16384, .f32⟩
  | .hbm, ⟨36, _⟩ => ⟨S_, .f32⟩
  | .hbm, ⟨37, _⟩ => ⟨S16384x16384, .f32⟩
  | .hbm, ⟨38, _⟩ => ⟨S16384x16384, .f32⟩
  | .hbm, ⟨39, _⟩ => ⟨S_, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S16384x2048, .f32⟩
  | .hbm, ⟨45, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel2.lean ====
abbrev S16384x2048 : Shape := ⟨2, ![16384, 2048]⟩
abbrev S2048x1024 : Shape := ⟨2, ![2048, 1024]⟩
abbrev S128 : Shape := ⟨1, ![128]⟩
abbrev S1x128 : Shape := ⟨2, ![1, 128]⟩
abbrev S16384x1024 : Shape := ⟨2, ![16384, 1024]⟩
abbrev S512x2048 : Shape := ⟨2, ![512, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S128, .f32⟩
  | .hbm, ⟨3, _⟩ => ⟨S1x128, .f32⟩
  | .hbm, ⟨4, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x128, .f32⟩
  | .local _ .vmem, ⟨4, _⟩ => ⟨S512x1024, .f32⟩
  | .local _ .vmem, ⟨5, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16384x2048 : Shape := ⟨2, ![16384, 2048]⟩
abbrev S2048x1024 : Shape := ⟨2, ![2048, 1024]⟩
abbrev S128 : Shape := ⟨1, ![128]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S128, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x8x128, .f32⟩
  | .hbm, ⟨7, _⟩ => ⟨S16384x8x128, .f32⟩
  | .hbm, ⟨8, _⟩ => ⟨S_, .f32⟩
  | .hbm, ⟨9, _⟩ => ⟨S16384x8, .f32⟩
  | .hbm, ⟨10, _⟩ => ⟨S16384x8x1, .f32⟩
  | .hbm, ⟨11, _⟩ => ⟨S_, .f32⟩
  | .hbm, ⟨12, _⟩ => ⟨S16384x8x1, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S16384x8x1, .f32⟩
  | .hbm, ⟨18, _⟩ => ⟨S16384x8x128, .f32⟩
  | .hbm, ⟨19, _⟩ => ⟨S16384x8x128, .f32⟩
  | .hbm, ⟨20, _⟩ => ⟨S1x1x128, .f32⟩
  | .hbm, ⟨21, _⟩ => ⟨S16384x8x128, .f32⟩
  | .hbm, ⟨22, _⟩ => ⟨S16384x8x128, .f32⟩
  | .hbm, ⟨23, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S16384x2048 : Shape := ⟨2, ![16384, 2048]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x2048, .f32⟩
  | .hbm, ⟨3, _⟩ => ⟨S2048x1024, .f32⟩
  | .hbm, ⟨4, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2048x2048, .f32⟩
  | .hbm, ⟨4, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x2048 : Shape := ⟨2, ![16384, 2048]⟩
abbrev S2048x64 : Shape := ⟨2, ![2048, 64]⟩
abbrev S16384x64 : Shape := ⟨2, ![16384, 64]⟩
abbrev S512x2048 : Shape := ⟨2, ![512, 2048]⟩
abbrev S512x64 : Shape := ⟨2, ![512, 64]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x64, .bf16⟩
  | .hbm, ⟨2, _⟩ => ⟨S16384x64, .f32⟩
  | .local _ .vmem, ⟨0, _⟩ => ⟨S512x2048, .bf16⟩
  | .local _ .vmem, ⟨1, _⟩ => ⟨S512x2048, .bf16⟩
  | .local _ .vmem, ⟨2, _⟩ => ⟨S2048x64, .bf16⟩
  | .local _ .vmem, ⟨3, _⟩ => ⟨S512x64, .f32⟩
  | .local _ .vmem, ⟨4, _⟩ => ⟨S512x64, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x2048 : Shape := ⟨2, ![16384, 2048]⟩
abbrev S2048x64 : Shape := ⟨2, ![2048, 64]⟩
abbrev S16384x64 : Shape := ⟨2, ![16384, 64]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x64, .bf16⟩
  | .hbm, ⟨2, _⟩ => ⟨S16384x2048, .f32⟩
  | .hbm, ⟨3, _⟩ => ⟨S2048x64, .f32⟩
  | .hbm, ⟨4, _⟩ => ⟨S16384x64, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16384x1024 : Shape := ⟨2, ![16384, 1024]⟩
abbrev S16384x2048 : Shape := ⟨2, ![16384, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S16384x2048, .f32⟩
  | .hbm, ⟨4, _⟩ => ⟨S1024x2048, .bf16⟩
  | .hbm, ⟨5, _⟩ => ⟨S1024x2048, .bf16⟩
  | .hbm, ⟨6, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S512x2048, .bf16⟩
  | .local _ .vmem, ⟨11, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x1024 : Shape := ⟨2, ![16384, 1024]⟩
abbrev S16384x2048 : Shape := ⟨2, ![16384, 2048]⟩
abbrev S1024x2048 : Shape := ⟨2, ![1024, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S16384x2048, .f32⟩
  | .hbm, ⟨4, _⟩ => ⟨S1024x2048, .bf16⟩
  | .hbm, ⟨5, _⟩ => ⟨S1024x2048, .bf16⟩
  | .hbm, ⟨6, _⟩ => ⟨S1024x2048, .f32⟩
  | .hbm, ⟨7, _⟩ => ⟨S16384x2048, .f32⟩
  | .hbm, ⟨8, _⟩ => ⟨S1024x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel7.lean ====
abbrev S16384x2048 : Shape := ⟨2, ![16384, 2048]⟩
abbrev S2048x2048 : Shape := ⟨2, ![2048, 2048]⟩
abbrev S4x1x2048 : Shape := ⟨3, ![4, 1, 2048]⟩
abbrev S2048 : Shape := ⟨1, ![2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S4x1x2048, .f32⟩
  | .hbm, ⟨4, _⟩ => ⟨S2048, .f32⟩
  | .hbm, ⟨5, _⟩ => ⟨S4x1x2048, .f32⟩
  | .hbm, ⟨6, _⟩ => ⟨S4x1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S16384x2048 : Shape := ⟨2, ![16384, 2048]⟩
abbrev S2048x2048 : Shape := ⟨2, ![2048, 2048]⟩
abbrev S4x1x2048 : Shape := ⟨3, ![4, 1, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S4x1x2048, .f32⟩
  | .hbm, ⟨4, _⟩ => ⟨S2048, .f32⟩
  | .hbm, ⟨5, _⟩ => ⟨S4x1x2048, .f32⟩
  | .hbm, ⟨6, _⟩ => ⟨S4x1x2048, .f32⟩
  | .hbm, ⟨7, _⟩ => ⟨S4x4096x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel8.lean ====
abbrev S136x2048 : Shape := ⟨2, ![136, 2048]⟩
abbrev S2048x12288 : Shape := ⟨2, ![2048, 12288]⟩
abbrev S12288 : Shape := ⟨1, ![12288]⟩
abbrev S1x12288 : Shape := ⟨2, ![1, 12288]⟩
abbrev S136x12288 : Shape := ⟨2, ![136, 12288]⟩
abbrev S2048x512 : Shape := ⟨2, ![2048, 512]⟩
abbrev S1x512 : Shape := ⟨2, ![1, 512]⟩
abbrev S136x512 : Shape := ⟨2, ![136, 512]⟩

abbrev nBuf : Space → Nat
  | .hbm => 5
  | .vmem => 7
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S136x12288, .f32⟩
  | .local _ .vmem, ⟨0, _⟩ => ⟨S136x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S136x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S136x2048 : Shape := ⟨2, ![136, 2048]⟩
abbrev S2048x12288 : Shape := ⟨2, ![2048, 12288]⟩
abbrev S12288 : Shape := ⟨1, ![12288]⟩
abbrev S_ : Shape := ⟨0, ![]⟩
abbrev S136x12288 : Shape := ⟨2, ![136, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S136x2048, .f32⟩
  | .hbm, ⟨4, _⟩ => ⟨S136x2048, .f32⟩
  | .hbm, ⟨5, _⟩ => ⟨S_, .f32⟩
  | .hbm, ⟨6, _⟩ => ⟨S136x2048, .f32⟩
  | .hbm, ⟨7, _⟩ => ⟨S136x2048, .f32⟩
  | .hbm, ⟨8, _⟩ => ⟨S_, .f32⟩
  | .hbm, ⟨9, _⟩ => ⟨S136x2048, .f32⟩
  | .hbm, ⟨10, _⟩ => ⟨S136x2048, .f32⟩
  | .hbm, ⟨11, _⟩ => ⟨S136x2048, .f32⟩
  | .hbm, ⟨12, _⟩ => ⟨S136x12288, .f32⟩
  | .hbm, ⟨13, _⟩ => ⟨S1x12288, .f32⟩
  | .hbm, ⟨14, _⟩ => ⟨S136x12288, .f32⟩
  | .hbm, ⟨15, _⟩ => ⟨S136x12288, .f32⟩
  | _, _ => ⟨S136x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S4x1x2048 : Shape := ⟨3, ![4, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16384x2048 : Shape := ⟨2, ![16384, 2048]⟩
abbrev S2048 : Shape := ⟨1, ![2048]⟩
abbrev S4x1x2048 : Shape := ⟨3, ![4, 1, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x4096x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S16384x2048, .f32⟩
  | .hbm, ⟨29, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel10.lean ====
abbrev S128x2048 : Shape := ⟨2, ![128, 2048]⟩
abbrev S2048 : Shape := ⟨1, ![2048]⟩
abbrev S1x128x2048 : Shape := ⟨3, ![1, 128, 2048]⟩
abbrev S1x2048 : Shape := ⟨2, ![1, 2048]⟩
abbrev S128 : Shape := ⟨1, ![128]⟩
abbrev S128x1 : Shape := ⟨2, ![128, 1]⟩

abbrev nBuf : Space → Nat
  | .hbm => 6
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x128x2048, .f32⟩
  | .hbm, ⟨3, _⟩ => ⟨S1x128x2048, .f32⟩
  | .hbm, ⟨4, _⟩ => ⟨S1x2048, .f32⟩
  | .hbm, ⟨5, _⟩ => ⟨S128x2048, .bf16⟩
  | .local _ .vmem, ⟨0, _⟩ => ⟨S128x2048, .f32⟩
  | .local _ .vmem, ⟨1, _⟩ => ⟨S1x2048, .f32⟩
  | .local _ .vmem, ⟨2, _⟩ => ⟨S1x128x2048, .f32⟩
  | .local _ .vmem, ⟨3, _⟩ => ⟨S1x128x2048, .f32⟩
  | .local _ .vmem, ⟨4, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference10Ideal.lean ====
abbrev S128x2048 : Shape := ⟨2, ![128, 2048]⟩
abbrev S2048 : Shape := ⟨1, ![2048]⟩
abbrev S1x128x2048 : Shape := ⟨3, ![1, 128, 2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x128x2048, .f32⟩
  | .hbm, ⟨3, _⟩ => ⟨S1x128x2048, .f32⟩
  | .hbm, ⟨4, _⟩ => ⟨S128x2048, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x2048, .f32⟩
  | .hbm, ⟨16, _⟩ => ⟨S128x2048, .f32⟩
  | .hbm, ⟨17, _⟩ => ⟨S1x2048, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel11.lean ====
abbrev S128x2048 : Shape := ⟨2, ![128, 2048]⟩
abbrev S2048x1024 : Shape := ⟨2, ![2048, 1024]⟩
abbrev S128 : Shape := ⟨1, ![128]⟩
abbrev S1x128 : Shape := ⟨2, ![1, 128]⟩
abbrev S128x1024 : Shape := ⟨2, ![128, 1024]⟩
abbrev S128x128 : Shape := ⟨2, ![128, 128]⟩
abbrev S128x1 : Shape := ⟨2, ![128, 1]⟩

abbrev nBuf : Space → Nat
  | .hbm => 5
  | .vmem => 4
  | .smem => 0
  | _ => 0

abbrev bufTy : (tb : Table) → Fin (tcTables nBuf tb) → BufTy
  | .hbm, ⟨0, _⟩ => ⟨S128x2048, .bf16⟩
  | .hbm, ⟨1, _⟩ => ⟨S2048x1024, .bf16⟩
  | .hbm, ⟨2, _⟩ => ⟨S128, .f32⟩
  | .hbm, ⟨3, _⟩ => ⟨S1x128, .f32⟩
  | .hbm, ⟨4, _⟩ => ⟨S128x1024, .f32⟩
  | .local _ .vmem, ⟨0, _⟩ => ⟨S128x2048, .bf16⟩
  | .local _ .vmem, ⟨1, _⟩ => ⟨S2048x1024, .bf16⟩
  | .local _ .vmem, ⟨2, _⟩ => ⟨S1x128, .f32⟩
  | .local _ .vmem, ⟨3, _⟩ => ⟨S128x1024, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference11Ideal.lean ====
abbrev S128x2048 : Shape := ⟨2, ![128, 2048]⟩
abbrev S2048x1024 : Shape := ⟨2, ![2048, 1024]⟩
abbrev S128 : Shape := ⟨1, ![128]⟩
abbrev S128x1024 : Shape := ⟨2, ![128, 1024]⟩
abbrev S128x8x128 : Shape := ⟨3, ![128, 8, 128]⟩
abbrev S_ : Shape := ⟨0, ![]⟩
abbrev S128x8 : Shape := ⟨2, ![128, 8]⟩
abbrev S128x8x1 : Shape := ⟨3, ![128, 8, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x1024, .bf16⟩
  | .hbm, ⟨2, _⟩ => ⟨S128, .f32⟩
  | .hbm, ⟨3, _⟩ => ⟨S128x2048, .f32⟩
  | .hbm, ⟨4, _⟩ => ⟨S2048x1024, .f32⟩
  | .hbm, ⟨5, _⟩ => ⟨S128x1024, .f32⟩
  | .hbm, ⟨6, _⟩ => ⟨S128x8x128, .f32⟩
  | .hbm, ⟨7, _⟩ => ⟨S128x8x128, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x128, .f32⟩
  | .hbm, ⟨19, _⟩ => ⟨S128x8x128, .f32⟩
  | .hbm, ⟨20, _⟩ => ⟨S1x1x128, .f32⟩
  | .hbm, ⟨21, _⟩ => ⟨S128x8x128, .f32⟩
  | .hbm, ⟨22, _⟩ => ⟨S128x8x128, .f32⟩
  | .hbm, ⟨23, _⟩ => ⟨S128x1024, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel12.lean ====
abbrev S128x2048 : Shape := ⟨2, ![128, 2048]⟩
abbrev S2048x1024 : Shape := ⟨2, ![2048, 1024]⟩
abbrev S128x1024 : Shape := ⟨2, ![128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x2048, .bf16⟩
  | .hbm, ⟨1, _⟩ => ⟨S2048x1024, .bf16⟩
  | .hbm, ⟨2, _⟩ => ⟨S128x1024, .f32⟩
  | .local _ .vmem, ⟨0, _⟩ => ⟨S128x2048, .bf16⟩
  | .local _ .vmem, ⟨1, _⟩ => ⟨S2048x1024, .bf16⟩
  | .local _ .vmem, ⟨2, _⟩ => ⟨S128x1024, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference12Ideal.lean ====
abbrev S128x2048 : Shape := ⟨2, ![128, 2048]⟩
abbrev S2048x1024 : Shape := ⟨2, ![2048, 1024]⟩
abbrev S128x1024 : Shape := ⟨2, ![128, 1024]⟩

abbrev nBuf : Space → Nat
  | .hbm => 5
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x1024, .bf16⟩
  | .hbm, ⟨2, _⟩ => ⟨S128x2048, .f32⟩
  | .hbm, ⟨3, _⟩ => ⟨S2048x1024, .f32⟩
  | .hbm, ⟨4, _⟩ => ⟨S128x1024, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S128x2048 : Shape := ⟨2, ![128, 2048]⟩
abbrev S2048x64 : Shape := ⟨2, ![2048, 64]⟩
abbrev S128x64 : Shape := ⟨2, ![128, 64]⟩

abbrev nBuf : Space → Nat
  | .hbm => 3
  | .vmem => 3
  | .smem => 0
  | _ => 0

abbrev bufTy : (tb : Table) → Fin (tcTables nBuf tb) → BufTy
  | .hbm, ⟨0, _⟩ => ⟨S128x2048, .bf16⟩
  | .hbm, ⟨1, _⟩ => ⟨S2048x64, .bf16⟩
  | .hbm, ⟨2, _⟩ => ⟨S128x64, .f32⟩
  | .local _ .vmem, ⟨0, _⟩ => ⟨S128x2048, .bf16⟩
  | .local _ .vmem, ⟨1, _⟩ => ⟨S2048x64, .bf16⟩
  | .local _ .vmem, ⟨2, _⟩ => ⟨S128x64, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference13Ideal.lean ====
abbrev S128x2048 : Shape := ⟨2, ![128, 2048]⟩
abbrev S2048x64 : Shape := ⟨2, ![2048, 64]⟩
abbrev S128x64 : Shape := ⟨2, ![128, 64]⟩

abbrev nBuf : Space → Nat
  | .hbm => 5
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x64, .bf16⟩
  | .hbm, ⟨2, _⟩ => ⟨S128x2048, .f32⟩
  | .hbm, ⟨3, _⟩ => ⟨S2048x64, .f32⟩
  | .hbm, ⟨4, _⟩ => ⟨S128x64, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S16384x2048 : Shape := ⟨2, ![16384, 2048]⟩
abbrev S4x1x2048 : Shape := ⟨3, ![4, 1, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4x1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S16384x2048 : Shape := ⟨2, ![16384, 2048]⟩
abbrev S4x1x2048 : Shape := ⟨3, ![4, 1, 2048]⟩
abbrev S4x4096x2048 : Shape := ⟨3, ![4, 4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4x1x2048, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S128x2048 : Shape := ⟨2, ![128, 2048]⟩
abbrev S1x128x2048 : Shape := ⟨3, ![1, 128, 2048]⟩

abbrev nBuf : Space → Nat
  | .hbm => 4
  | .vmem => 4
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x128x2048, .f32⟩
  | .hbm, ⟨3, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S1x128x2048, .f32⟩
  | .local _ .vmem, ⟨3, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference15Ideal.lean ====
abbrev S128x2048 : Shape := ⟨2, ![128, 2048]⟩
abbrev S1x128x2048 : Shape := ⟨3, ![1, 128, 2048]⟩

abbrev nBuf : Space → Nat
  | .hbm => 6
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x128x2048, .f32⟩
  | .hbm, ⟨3, _⟩ => ⟨S128x2048, .f32⟩
  | .hbm, ⟨4, _⟩ => ⟨S128x2048, .f32⟩
  | .hbm, ⟨5, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S4x4096x2048 : Shape := ⟨3, ![4, 4096, 2048]⟩
abbrev S4x2048 : Shape := ⟨2, ![4, 2048]⟩
abbrev S2048x12288 : Shape := ⟨2, ![2048, 12288]⟩
abbrev S12288 : Shape := ⟨1, ![12288]⟩
abbrev S2048 : Shape := ⟨1, ![2048]⟩
abbrev S2048x11344 : Shape := ⟨2, ![2048, 11344]⟩
abbrev S128 : Shape := ⟨1, ![128]⟩
abbrev S_ : Shape := ⟨0, ![]⟩
abbrev S132x2048 : Shape := ⟨2, ![132, 2048]⟩
abbrev S136x2048 : Shape := ⟨2, ![136, 2048]⟩
abbrev S1x12288 : Shape := ⟨2, ![1, 12288]⟩
abbrev S136x12288 : Shape := ⟨2, ![136, 12288]⟩
abbrev S2048x512 : Shape := ⟨2, ![2048, 512]⟩
abbrev S1x512 : Shape := ⟨2, ![1, 512]⟩
abbrev S136x512 : Shape := ⟨2, ![136, 512]⟩
abbrev S4x1x2048 : Shape := ⟨3, ![4, 1, 2048]⟩
abbrev S2048x1024 : Shape := ⟨2, ![2048, 1024]⟩
abbrev S2048x64 : Shape := ⟨2, ![2048, 64]⟩
abbrev S2048x16 : Shape := ⟨2, ![2048, 16]⟩
abbrev S2048x2048 : Shape := ⟨2, ![2048, 2048]⟩
abbrev S16384x2048 : Shape := ⟨2, ![16384, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S1x128 : Shape := ⟨2, ![1, 128]⟩
abbrev S16384x1024 : Shape := ⟨2, ![16384, 1024]⟩
abbrev S512x1024 : Shape := ⟨2, ![512, 1024]⟩
abbrev S512x128 : Shape := ⟨2, ![512, 128]⟩
abbrev S16384x64 : Shape := ⟨2, ![16384, 64]⟩
abbrev S512x64 : Shape := ⟨2, ![512, 64]⟩

abbrev nBuf : Space → Nat
  | .hbm => 49
  | .vmem => 43
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2048x12288, .f32⟩
  | .hbm, ⟨3, _⟩ => ⟨S12288, .f32⟩
  | .hbm, ⟨4, _⟩ => ⟨S2048, .f32⟩
  | .hbm, ⟨5, _⟩ => ⟨S2048x11344, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S132x2048, .f32⟩
  | .hbm, ⟨10, _⟩ => ⟨S136x2048, .f32⟩
  | .hbm, ⟨11, _⟩ => ⟨S1x12288, .f32⟩
  | .hbm, ⟨12, _⟩ => ⟨S136x12288, .f32⟩
  | .hbm, ⟨13, _⟩ => ⟨S4x2048, .f32⟩
  | .hbm, ⟨14, _⟩ => ⟨S4x1x2048, .f32⟩
  | .hbm, ⟨15, _⟩ => ⟨S4x2048, .f32⟩
  | .hbm, ⟨16, _⟩ => ⟨S4x1x2048, .f32⟩
  | .hbm, ⟨17, _⟩ => ⟨S2048x1024, .f32⟩
  | .hbm, ⟨18, _⟩ => ⟨S2048x1024, .bf16⟩
  | .hbm, ⟨19, _⟩ => ⟨S2048x1024, .f32⟩
  | .hbm, ⟨20, _⟩ => ⟨S2048x1024, .bf16⟩
  | .hbm, ⟨21, _⟩ => ⟨S2048x1024, .f32⟩
  | .hbm, ⟨22, _⟩ => ⟨S2048x1024, .bf16⟩
  | .hbm, ⟨23, _⟩ => ⟨S2048x1024, .f32⟩
  | .hbm, ⟨24, _⟩ => ⟨S2048x1024, .bf16⟩
  | .hbm, ⟨25, _⟩ => ⟨S2048x1024, .f32⟩
  | .hbm, ⟨26, _⟩ => ⟨S2048x1024, .bf16⟩
  | .hbm, ⟨27, _⟩ => ⟨S2048x1024, .f32⟩
  | .hbm, ⟨28, _⟩ => ⟨S2048x1024, .bf16⟩
  | .hbm, ⟨29, _⟩ => ⟨S2048x1024, .f32⟩
  | .hbm, ⟨30, _⟩ => ⟨S2048x1024, .bf16⟩
  | .hbm, ⟨31, _⟩ => ⟨S2048x64, .f32⟩
  | .hbm, ⟨32, _⟩ => ⟨S2048x64, .bf16⟩
  | .hbm, ⟨33, _⟩ => ⟨S2048x16, .f32⟩
  | .hbm, ⟨34, _⟩ => ⟨S2048x16, .bf16⟩
  | .hbm, ⟨35, _⟩ => ⟨S2048x2048, .f32⟩
  | .hbm, ⟨36, _⟩ => ⟨S2048x2048, .bf16⟩
  | .hbm, ⟨37, _⟩ => ⟨S2048x2048, .f32⟩
  | .hbm, ⟨38, _⟩ => ⟨S2048x2048, .bf16⟩
  | .hbm, ⟨39, _⟩ => ⟨S16384x2048, .f32⟩
  | .hbm, ⟨40, _⟩ => ⟨S1x2048, .f32⟩
  | .hbm, ⟨41, _⟩ => ⟨S16384x2048, .bf16⟩
  | .hbm, ⟨42, _⟩ => ⟨S1x128, .f32⟩
  | .hbm, ⟨43, _⟩ => ⟨S16384x1024, .f32⟩
  | .hbm, ⟨44, _⟩ => ⟨S16384x1024, .f32⟩
  | .hbm, ⟨45, _⟩ => ⟨S1x128, .f32⟩
  | .hbm, ⟨46, _⟩ => ⟨S16384x1024, .f32⟩
  | .hbm, ⟨47, _⟩ => ⟨S16384x1024, .f32⟩
  | .hbm, ⟨48, _⟩ => ⟨S16384x64, .f32⟩
  | .local _ .vmem, ⟨0, _⟩ => ⟨S136x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S2048x1024, .bf16⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S512x2048, .bf16⟩
  | .local _ .vmem, ⟨23, _⟩ => ⟨S512x2048, .bf16⟩
  | .local _ .vmem, ⟨24, _⟩ => ⟨S2048x1024, .bf16⟩
  | .local _ .vmem, ⟨25, _⟩ => ⟨S512x1024, .f32⟩
  | .local _ .vmem, ⟨26, _⟩ => ⟨S512x1024, .f32⟩
  | .local _ .vmem, ⟨27, _⟩ => ⟨S512x2048, .bf16⟩
  | .local _ .vmem, ⟨28, _⟩ => ⟨S512x2048, .bf16⟩
  | .local _ .vmem, ⟨29, _⟩ => ⟨S2048x1024, .bf16⟩
  | .local _ .vmem, ⟨30, _⟩ => ⟨S1x128, .f32⟩
  | .local _ .vmem, ⟨31, _⟩ => ⟨S512x1024, .f32⟩
  | .local _ .vmem, ⟨32, _⟩ => ⟨S512x1024, .f32⟩
  | .local _ .vmem, ⟨33, _⟩ => ⟨S512x2048, .bf16⟩
  | .local _ .vmem, ⟨34, _⟩ => ⟨S512x2048, .bf16⟩
  | .local _ .vmem, ⟨35, _⟩ => ⟨S2048x1024, .bf16⟩
  | .local _ .vmem, ⟨36, _⟩ => ⟨S512x1024, .f32⟩
  | .local _ .vmem, ⟨37, _⟩ => ⟨S512x1024, .f32⟩
  | .local _ .vmem, ⟨38, _⟩ => ⟨S512x2048, .bf16⟩
  | .local _ .vmem, ⟨39, _⟩ => ⟨S512x2048, .bf16⟩
  | .local _ .vmem, ⟨40, _⟩ => ⟨S2048x64, .bf16⟩
  | .local _ .vmem, ⟨41, _⟩ => ⟨S512x64, .f32⟩
  | .local _ .vmem, ⟨42, _⟩ => ⟨S512x64, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== Reference16Ideal.lean ====
abbrev S4x4096x2048 : Shape := ⟨3, ![4, 4096, 2048]⟩
abbrev S4x2048 : Shape := ⟨2, ![4, 2048]⟩
abbrev S2048x12288 : Shape := ⟨2, ![2048, 12288]⟩
abbrev S12288 : Shape := ⟨1, ![12288]⟩
abbrev S2048 : Shape := ⟨1, ![2048]⟩
abbrev S2048x11344 : Shape := ⟨2, ![2048, 11344]⟩
abbrev S128 : Shape := ⟨1, ![128]⟩
abbrev S_ : Shape := ⟨0, ![]⟩
abbrev S4x12288 : Shape := ⟨2, ![4, 12288]⟩
abbrev S1x12288 : Shape := ⟨2, ![1, 12288]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11344 : Shape := ⟨3, ![4, 4096, 11344]⟩
abbrev S4x4096x1024 : Shape := ⟨3, ![4, 4096, 1024]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x64 : Shape := ⟨3, ![4, 4096, 64]⟩
abbrev S16384x1024 : Shape := ⟨2, ![16384, 1024]⟩
abbrev S16384x64 : Shape := ⟨2, ![16384, 64]⟩

abbrev nBuf : Space → Nat
  | .hbm => 93
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2048x12288, .f32⟩
  | .hbm, ⟨3, _⟩ => ⟨S12288, .f32⟩
  | .hbm, ⟨4, _⟩ => ⟨S2048, .f32⟩
  | .hbm, ⟨5, _⟩ => ⟨S2048x11344, .f32⟩
  | .hbm, ⟨6, _⟩ => ⟨S128, .f32⟩
  | .hbm, ⟨7, _⟩ => ⟨S128, .f32⟩
  | .hbm, ⟨8, _⟩ => ⟨S4x2048, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S4x12288, .f32⟩
  | .hbm, ⟨18, _⟩ => ⟨S1x12288, .f32⟩
  | .hbm, ⟨19, _⟩ => ⟨S4x12288, .f32⟩
  | .hbm, ⟨20, _⟩ => ⟨S4x12288, .f32⟩
  | .hbm, ⟨21, _⟩ => ⟨S4x2048, .f32⟩
  | .hbm, ⟨22, _⟩ => ⟨S4x1x2048, .f32⟩
  | .hbm, ⟨23, _⟩ => ⟨S4x2048, .f32⟩
  | .hbm, ⟨24, _⟩ => ⟨S4x1x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S1x1x2048, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x1x2048, .f32⟩
  | .hbm, ⟨43, _⟩ => ⟨S4x1x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x11344, .f32⟩
  | .hbm, ⟨49, _⟩ => ⟨S4x4096x1024, .f32⟩
  | .hbm, ⟨50, _⟩ => ⟨S4x4096x8x128, .f32⟩
  | .hbm, ⟨51, _⟩ => ⟨S4x4096x8x128, .f32⟩
  | .hbm, ⟨52, _⟩ => ⟨S_, .f32⟩
  | .hbm, ⟨53, _⟩ => ⟨S4x4096x8, .f32⟩
  | .hbm, ⟨54, _⟩ => ⟨S4x4096x8x1, .f32⟩
  | .hbm, ⟨55, _⟩ => ⟨S_, .f32⟩
  | .hbm, ⟨56, _⟩ => ⟨S4x4096x8x1, .f32⟩
  | .hbm, ⟨57, _⟩ => ⟨S4x4096x8x1, .f32⟩
  | .hbm, ⟨58, _⟩ => ⟨S_, .f32⟩
  | .hbm, ⟨59, _⟩ => ⟨S4x4096x8x1, .f32⟩
  | .hbm, ⟨60, _⟩ => ⟨S4x4096x8x1, .f32⟩
  | .hbm, ⟨61, _⟩ => ⟨S4x4096x8x1, .f32⟩
  | .hbm, ⟨62, _⟩ => ⟨S4x4096x8x128, .f32⟩
  | .hbm, ⟨63, _⟩ => ⟨S4x4096x8x128, .f32⟩
  | .hbm, ⟨64, _⟩ => ⟨S1x1x1x128, .f32⟩
  | .hbm, ⟨65, _⟩ => ⟨S4x4096x8x128, .f32⟩
  | .hbm, ⟨66, _⟩ => ⟨S4x4096x8x128, .f32⟩
  | .hbm, ⟨67, _⟩ => ⟨S4x4096x1024, .f32⟩
  | .hbm, ⟨68, _⟩ => ⟨S4x4096x1024, .f32⟩
  | .hbm, ⟨69, _⟩ => ⟨S4x4096x8x128, .f32⟩
  | .hbm, ⟨70, _⟩ => ⟨S4x4096x8x128, .f32⟩
  | .hbm, ⟨71, _⟩ => ⟨S_, .f32⟩
  | .hbm, ⟨72, _⟩ => ⟨S4x4096x8, .f32⟩
  | .hbm, ⟨73, _⟩ => ⟨S4x4096x8x1, .f32⟩
  | .hbm, ⟨74, _⟩ => ⟨S_, .f32⟩
  | .hbm, ⟨75, _⟩ => ⟨S4x4096x8x1, .f32⟩
  | .hbm, ⟨76, _⟩ => ⟨S4x4096x8x1, .f32⟩
  | .hbm, ⟨77, _⟩ => ⟨S_, .f32⟩
  | .hbm, ⟨78, _⟩ => ⟨S4x4096x8x1, .f32⟩
  | .hbm, ⟨79, _⟩ => ⟨S4x4096x8x1, .f32⟩
  | .hbm, ⟨80, _⟩ => ⟨S4x4096x8x1, .f32⟩
  | .hbm, ⟨81, _⟩ => ⟨S4x4096x8x128, .f32⟩
  | .hbm, ⟨82, _⟩ => ⟨S4x4096x8x128, .f32⟩
  | .hbm, ⟨83, _⟩ => ⟨S1x1x1x128, .f32⟩
  | .hbm, ⟨84, _⟩ => ⟨S4x4096x8x128, .f32⟩
  | .hbm, ⟨85, _⟩ => ⟨S4x4096x8x128, .f32⟩
  | .hbm, ⟨86, _⟩ => ⟨S4x4096x1024, .f32⟩
  | .hbm, ⟨87, _⟩ => ⟨S4x4096x64, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Kernel17.lean ====
abbrev S16384x2048 : Shape := ⟨2, ![16384, 2048]⟩
abbrev S2048x16 : Shape := ⟨2, ![2048, 16]⟩
abbrev S16x2048 : Shape := ⟨2, ![16, 2048]⟩
abbrev S16x16384 : Shape := ⟨2, ![16, 16384]⟩
abbrev S512x2048 : Shape := ⟨2, ![512, 2048]⟩
abbrev S16x512 : Shape := ⟨2, ![16, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x16, .bf16⟩
  | .hbm, ⟨2, _⟩ => ⟨S16x2048, .bf16⟩
  | .hbm, ⟨3, _⟩ => ⟨S16x16384, .f32⟩
  | .local _ .vmem, ⟨0, _⟩ => ⟨S16x2048, .bf16⟩
  | .local _ .vmem, ⟨1, _⟩ => ⟨S512x2048, .bf16⟩
  | .local _ .vmem, ⟨2, _⟩ => ⟨S512x2048, .bf16⟩
  | .local _ .vmem, ⟨3, _⟩ => ⟨S16x512, .f32⟩
  | .local _ .vmem, ⟨4, _⟩ => ⟨S16x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S16384x2048 : Shape := ⟨2, ![16384, 2048]⟩
abbrev S2048x16 : Shape := ⟨2, ![2048, 16]⟩
abbrev S16384x16 : Shape := ⟨2, ![16384, 16]⟩
abbrev S16x16384 : Shape := ⟨2, ![16, 16384]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x16, .bf16⟩
  | .hbm, ⟨2, _⟩ => ⟨S16384x2048, .f32⟩
  | .hbm, ⟨3, _⟩ => ⟨S2048x16, .f32⟩
  | .hbm, ⟨4, _⟩ => ⟨S16384x16, .f32⟩
  | .hbm, ⟨5, _⟩ => ⟨S16x16384, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S128x2048 : Shape := ⟨2, ![128, 2048]⟩
abbrev S2048x16 : Shape := ⟨2, ![2048, 16]⟩
abbrev S16x2048 : Shape := ⟨2, ![16, 2048]⟩
abbrev S16x128 : Shape := ⟨2, ![16, 128]⟩

abbrev nBuf : Space → Nat
  | .hbm => 4
  | .vmem => 3
  | .smem => 0
  | _ => 0

abbrev bufTy : (tb : Table) → Fin (tcTables nBuf tb) → BufTy
  | .hbm, ⟨0, _⟩ => ⟨S128x2048, .bf16⟩
  | .hbm, ⟨1, _⟩ => ⟨S2048x16, .bf16⟩
  | .hbm, ⟨2, _⟩ => ⟨S16x2048, .bf16⟩
  | .hbm, ⟨3, _⟩ => ⟨S16x128, .f32⟩
  | .local _ .vmem, ⟨0, _⟩ => ⟨S16x2048, .bf16⟩
  | .local _ .vmem, ⟨1, _⟩ => ⟨S128x2048, .bf16⟩
  | .local _ .vmem, ⟨2, _⟩ => ⟨S16x128, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference18Ideal.lean ====
abbrev S128x2048 : Shape := ⟨2, ![128, 2048]⟩
abbrev S2048x16 : Shape := ⟨2, ![2048, 16]⟩
abbrev S128x16 : Shape := ⟨2, ![128, 16]⟩
abbrev S16x128 : Shape := ⟨2, ![16, 128]⟩

abbrev nBuf : Space → Nat
  | .hbm => 6
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x16, .bf16⟩
  | .hbm, ⟨2, _⟩ => ⟨S128x2048, .f32⟩
  | .hbm, ⟨3, _⟩ => ⟨S2048x16, .f32⟩
  | .hbm, ⟨4, _⟩ => ⟨S128x16, .f32⟩
  | .hbm, ⟨5, _⟩ => ⟨S16x128, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S128x2048 : Shape := ⟨2, ![128, 2048]⟩
abbrev S2048x2048 : Shape := ⟨2, ![2048, 2048]⟩

abbrev nBuf : Space → Nat
  | .hbm => 3
  | .vmem => 3
  | .smem => 0
  | _ => 0

abbrev bufTy : (tb : Table) → Fin (tcTables nBuf tb) → BufTy
  | .hbm, ⟨0, _⟩ => ⟨S128x2048, .bf16⟩
  | .hbm, ⟨1, _⟩ => ⟨S2048x2048, .bf16⟩
  | .hbm, ⟨2, _⟩ => ⟨S128x2048, .f32⟩
  | .local _ .vmem, ⟨0, _⟩ => ⟨S128x2048, .bf16⟩
  | .local _ .vmem, ⟨1, _⟩ => ⟨S2048x2048, .bf16⟩
  | .local _ .vmem, ⟨2, _⟩ => ⟨S128x2048, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S128x2048 : Shape := ⟨2, ![128, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x2048, .bf16⟩
  | .hbm, ⟨2, _⟩ => ⟨S128x2048, .f32⟩
  | .hbm, ⟨3, _⟩ => ⟨S2048x2048, .f32⟩
  | .hbm, ⟨4, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S128x1024 : Shape := ⟨2, ![128, 1024]⟩
abbrev S128x2048 : Shape := ⟨2, ![128, 2048]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x2048, .f32⟩
  | .hbm, ⟨3, _⟩ => ⟨S128x2048, .f32⟩
  | .hbm, ⟨4, _⟩ => ⟨S1024x2048, .bf16⟩
  | .hbm, ⟨5, _⟩ => ⟨S1024x2048, .bf16⟩
  | .hbm, ⟨6, _⟩ => ⟨S128x2048, .bf16⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S1024x2048, .bf16⟩
  | .local _ .vmem, ⟨5, _⟩ => ⟨S1024x2048, .bf16⟩
  | .local _ .vmem, ⟨6, _⟩ => ⟨S128x2048, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S128x1024 : Shape := ⟨2, ![128, 1024]⟩
abbrev S128x2048 : Shape := ⟨2, ![128, 2048]⟩
abbrev S1024x2048 : Shape := ⟨2, ![1024, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x2048, .f32⟩
  | .hbm, ⟨3, _⟩ => ⟨S128x2048, .f32⟩
  | .hbm, ⟨4, _⟩ => ⟨S1024x2048, .bf16⟩
  | .hbm, ⟨5, _⟩ => ⟨S1024x2048, .bf16⟩
  | .hbm, ⟨6, _⟩ => ⟨S1024x2048, .f32⟩
  | .hbm, ⟨7, _⟩ => ⟨S128x2048, .f32⟩
  | .hbm, ⟨8, _⟩ => ⟨S1024x2048, .f32⟩
  | .hbm, ⟨9, _⟩ => ⟨S128x2048, .f32⟩
  | .hbm, ⟨10, _⟩ => ⟨S128x2048, .f32⟩
  | .hbm, ⟨11, _⟩ => ⟨S128x2048, .f32⟩
  | .hbm, ⟨12, _⟩ => ⟨S_, .f32⟩
  | .hbm, ⟨13, _⟩ => ⟨S128x2048, .f32⟩
  | .hbm, ⟨14, _⟩ => ⟨S128x2048, .f32⟩
  | .hbm, ⟨15, _⟩ => ⟨S_, .f32⟩
  | .hbm, ⟨16, _⟩ => ⟨S128x2048, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S128x2048, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel21.lean ====
abbrev S128x2048 : Shape := ⟨2, ![128, 2048]⟩
abbrev S2048x2048 : Shape := ⟨2, ![2048, 2048]⟩
abbrev S1x128x2048 : Shape := ⟨3, ![1, 128, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩

abbrev nBuf : Space → Nat
  | .hbm => 10
  | .vmem => 9
  | .smem => 0
  | _ => 0

abbrev bufTy : (tb : Table) → Fin (tcTables nBuf tb) → BufTy
  | .hbm, ⟨0, _⟩ => ⟨S128x2048, .bf16⟩
  | .hbm, ⟨1, _⟩ => ⟨S2048x2048, .bf16⟩
  | .hbm, ⟨2, _⟩ => ⟨S128x2048, .f32⟩
  | .hbm, ⟨3, _⟩ => ⟨S1x128x2048, .f32⟩
  | .hbm, ⟨4, _⟩ => ⟨S2048, .f32⟩
  | .hbm, ⟨5, _⟩ => ⟨S1x128x2048, .f32⟩
  | .hbm, ⟨6, _⟩ => ⟨S1x128x2048, .f32⟩
  | .hbm, ⟨7, _⟩ => ⟨S1x2048, .f32⟩
  | .hbm, ⟨8, _⟩ => ⟨S128x2048, .f32⟩
  | .hbm, ⟨9, _⟩ => ⟨S128x2048, .bf16⟩
  | .local _ .vmem, ⟨0, _⟩ => ⟨S128x2048, .bf16⟩
  | .local _ .vmem, ⟨1, _⟩ => ⟨S2048x2048, .bf16⟩
  | .local _ .vmem, ⟨2, _⟩ => ⟨S128x2048, .f32⟩
  | .local _ .vmem, ⟨3, _⟩ => ⟨S1x128x2048, .f32⟩
  | .local _ .vmem, ⟨4, _⟩ => ⟨S1x2048, .f32⟩
  | .local _ .vmem, ⟨5, _⟩ => ⟨S1x128x2048, .f32⟩
  | .local _ .vmem, ⟨6, _⟩ => ⟨S1x128x2048, .f32⟩
  | .local _ .vmem, ⟨7, _⟩ => ⟨S128x2048, .f32⟩
  | .local _ .vmem, ⟨8, _⟩ => ⟨S128x2048, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference21Ideal.lean ====
abbrev S128x2048 : Shape := ⟨2, ![128, 2048]⟩
abbrev S2048x2048 : Shape := ⟨2, ![2048, 2048]⟩
abbrev S1x128x2048 : Shape := ⟨3, ![1, 128, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x2048, .bf16⟩
  | .hbm, ⟨2, _⟩ => ⟨S128x2048, .f32⟩
  | .hbm, ⟨3, _⟩ => ⟨S1x128x2048, .f32⟩
  | .hbm, ⟨4, _⟩ => ⟨S2048, .f32⟩
  | .hbm, ⟨5, _⟩ => ⟨S1x128x2048, .f32⟩
  | .hbm, ⟨6, _⟩ => ⟨S1x128x2048, .f32⟩
  | .hbm, ⟨7, _⟩ => ⟨S128x2048, .f32⟩
  | .hbm, ⟨8, _⟩ => ⟨S128x2048, .f32⟩
  | .hbm, ⟨9, _⟩ => ⟨S2048x2048, .f32⟩
  | .hbm, ⟨10, _⟩ => ⟨S128x2048, .f32⟩
  | .hbm, ⟨11, _⟩ => ⟨S128x2048, .f32⟩
  | .hbm, ⟨12, _⟩ => ⟨S128x2048, .f32⟩
  | .hbm, ⟨13, _⟩ => ⟨S128x2048, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x2048, .f32⟩
  | .hbm, ⟨25, _⟩ => ⟨S128x2048, .f32⟩
  | .hbm, ⟨26, _⟩ => ⟨S1x2048, .f32⟩
  | .hbm, ⟨27, _⟩ => ⟨S128x2048, .f32⟩
  | .hbm, ⟨28, _⟩ => ⟨S128x2048, .f32⟩
  | .hbm, ⟨29, _⟩ => ⟨S128x2048, .f32⟩
  | .hbm, ⟨30, _⟩ => ⟨S_, .f32⟩
  | .hbm, ⟨31, _⟩ => ⟨S128x2048, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S128x2048, .f32⟩
  | .hbm, ⟨36, _⟩ => ⟨S128x2048, .bf16⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel22.lean ====
abbrev S32x2048 : Shape := ⟨2, ![32, 2048]⟩
abbrev S2048x12288 : Shape := ⟨2, ![2048, 12288]⟩
abbrev S12288 : Shape := ⟨1, ![12288]⟩
abbrev S2048 : Shape := ⟨1, ![2048]⟩
abbrev S2048x11344 : Shape := ⟨2, ![2048, 11344]⟩
abbrev S128 : Shape := ⟨1, ![128]⟩
abbrev S_ : Shape := ⟨0, ![]⟩
abbrev S4x2048 : Shape := ⟨2, ![4, 2048]⟩
abbrev S100x2048 : Shape := ⟨2, ![100, 2048]⟩
abbrev S136x2048 : Shape := ⟨2, ![136, 2048]⟩
abbrev S1x12288 : Shape := ⟨2, ![1, 12288]⟩
abbrev S136x12288 : Shape := ⟨2, ![136, 12288]⟩
abbrev S2048x512 : Shape := ⟨2, ![2048, 512]⟩
abbrev S1x512 : Shape := ⟨2, ![1, 512]⟩
abbrev S136x512 : Shape := ⟨2, ![136, 512]⟩
abbrev S128x2048 : Shape := ⟨2, ![128, 2048]⟩
abbrev S1x128x2048 : Shape := ⟨3, ![1, 128, 2048]⟩
abbrev S2048x1024 : Shape := ⟨2, ![2048, 1024]⟩
abbrev S2048x64 : Shape := ⟨2, ![2048, 64]⟩
abbrev S2048x16 : Shape := ⟨2, ![2048, 16]⟩
abbrev S2048x2048 : Shape := ⟨2, ![2048, 2048]⟩
abbrev S96x2048 : Shape := ⟨2, ![96, 2048]⟩
abbrev S1x2048 : Shape := ⟨2, ![1, 2048]⟩
abbrev S128x1 : Shape := ⟨2, ![128, 1]⟩
abbrev S1x128 : Shape := ⟨2, ![1, 128]⟩
abbrev S128x1024 : Shape := ⟨2, ![128, 1024]⟩
abbrev S128x128 : Shape := ⟨2, ![128, 128]⟩
abbrev S128x64 : Shape := ⟨2, ![128, 64]⟩
abbrev S32x1024 : Shape := ⟨2, ![32, 1024]⟩
abbrev S32x64 : Shape := ⟨2, ![32, 64]⟩

abbrev nBuf : Space → Nat
  | .hbm => 58
  | .vmem => 29
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S2048x12288, .f32⟩
  | .hbm, ⟨3, _⟩ => ⟨S12288, .f32⟩
  | .hbm, ⟨4, _⟩ => ⟨S2048, .f32⟩
  | .hbm, ⟨5, _⟩ => ⟨S2048x11344, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S4x2048, .f32⟩
  | .hbm, ⟨10, _⟩ => ⟨S_, .f32⟩
  | .hbm, ⟨11, _⟩ => ⟨S100x2048, .f32⟩
  | .hbm, ⟨12, _⟩ => ⟨S136x2048, .f32⟩
  | .hbm, ⟨13, _⟩ => ⟨S1x12288, .f32⟩
  | .hbm, ⟨14, _⟩ => ⟨S136x12288, .f32⟩
  | .hbm, ⟨15, _⟩ => ⟨S128x2048, .f32⟩
  | .hbm, ⟨16, _⟩ => ⟨S1x128x2048, .f32⟩
  | .hbm, ⟨17, _⟩ => ⟨S128x2048, .f32⟩
  | .hbm, ⟨18, _⟩ => ⟨S1x128x2048, .f32⟩
  | .hbm, ⟨19, _⟩ => ⟨S2048x1024, .f32⟩
  | .hbm, ⟨20, _⟩ => ⟨S2048x1024, .bf16⟩
  | .hbm, ⟨21, _⟩ => ⟨S2048x1024, .f32⟩
  | .hbm, ⟨22, _⟩ => ⟨S2048x1024, .bf16⟩
  | .hbm, ⟨23, _⟩ => ⟨S2048x1024, .f32⟩
  | .hbm, ⟨24, _⟩ => ⟨S2048x1024, .bf16⟩
  | .hbm, ⟨25, _⟩ => ⟨S2048x1024, .f32⟩
  | .hbm, ⟨26, _⟩ => ⟨S2048x1024, .bf16⟩
  | .hbm, ⟨27, _⟩ => ⟨S2048x1024, .f32⟩
  | .hbm, ⟨28, _⟩ => ⟨S2048x1024, .bf16⟩
  | .hbm, ⟨29, _⟩ => ⟨S2048x1024, .f32⟩
  | .hbm, ⟨30, _⟩ => ⟨S2048x1024, .bf16⟩
  | .hbm, ⟨31, _⟩ => ⟨S2048x1024, .f32⟩
  | .hbm, ⟨32, _⟩ => ⟨S2048x1024, .bf16⟩
  | .hbm, ⟨33, _⟩ => ⟨S2048x64, .f32⟩
  | .hbm, ⟨34, _⟩ => ⟨S2048x64, .bf16⟩
  | .hbm, ⟨35, _⟩ => ⟨S2048x16, .f32⟩
  | .hbm, ⟨36, _⟩ => ⟨S2048x16, .bf16⟩
  | .hbm, ⟨37, _⟩ => ⟨S2048x2048, .f32⟩
  | .hbm, ⟨38, _⟩ => ⟨S2048x2048, .bf16⟩
  | .hbm, ⟨39, _⟩ => ⟨S2048x2048, .f32⟩
  | .hbm, ⟨40, _⟩ => ⟨S2048x2048, .bf16⟩
  | .hbm, ⟨41, _⟩ => ⟨S_, .f32⟩
  | .hbm, ⟨42, _⟩ => ⟨S96x2048, .f32⟩
  | .hbm, ⟨43, _⟩ => ⟨S128x2048, .f32⟩
  | .hbm, ⟨44, _⟩ => ⟨S1x2048, .f32⟩
  | .hbm, ⟨45, _⟩ => ⟨S128x2048, .bf16⟩
  | .hbm, ⟨46, _⟩ => ⟨S1x128, .f32⟩
  | .hbm, ⟨47, _⟩ => ⟨S128x1024, .f32⟩
  | .hbm, ⟨48, _⟩ => ⟨S128x1024, .f32⟩
  | .hbm, ⟨49, _⟩ => ⟨S1x128, .f32⟩
  | .hbm, ⟨50, _⟩ => ⟨S128x1024, .f32⟩
  | .hbm, ⟨51, _⟩ => ⟨S128x1024, .f32⟩
  | .hbm, ⟨52, _⟩ => ⟨S128x64, .f32⟩
  | .hbm, ⟨53, _⟩ => ⟨S32x1024, .f32⟩
  | .hbm, ⟨54, _⟩ => ⟨S32x1024, .f32⟩
  | .hbm, ⟨55, _⟩ => ⟨S32x1024, .f32⟩
  | .hbm, ⟨56, _⟩ => ⟨S32x1024, .f32⟩
  | .hbm, ⟨57, _⟩ => ⟨S32x64, .f32⟩
  | .local _ .vmem, ⟨0, _⟩ => ⟨S136x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | .local _ .vmem, ⟨7, _⟩ => ⟨S128x2048, .f32⟩
  | .local _ .vmem, ⟨8, _⟩ => ⟨S1x2048, .f32⟩
  | .local _ .vmem, ⟨9, _⟩ => ⟨S1x128x2048, .f32⟩
  | .local _ .vmem, ⟨10, _⟩ => ⟨S1x128x2048, .f32⟩
  | .local _ .vmem, ⟨11, _⟩ => ⟨S128x2048, .bf16⟩
  | .local _ .vmem, ⟨12, _⟩ => ⟨S128x2048, .bf16⟩
  | .local _ .vmem, ⟨13, _⟩ => ⟨S2048x1024, .bf16⟩
  | .local _ .vmem, ⟨14, _⟩ => ⟨S1x128, .f32⟩
  | .local _ .vmem, ⟨15, _⟩ => ⟨S128x1024, .f32⟩
  | .local _ .vmem, ⟨16, _⟩ => ⟨S128x2048, .bf16⟩
  | .local _ .vmem, ⟨17, _⟩ => ⟨S2048x1024, .bf16⟩
  | .local _ .vmem, ⟨18, _⟩ => ⟨S128x1024, .f32⟩
  | .local _ .vmem, ⟨19, _⟩ => ⟨S128x2048, .bf16⟩
  | .local _ .vmem, ⟨20, _⟩ => ⟨S2048x1024, .bf16⟩
  | .local _ .vmem, ⟨21, _⟩ => ⟨S1x128, .f32⟩
  | .local _ .vmem, ⟨22, _⟩ => ⟨S128x1024, .f32⟩
  | .local _ .vmem, ⟨23, _⟩ => ⟨S128x2048, .bf16⟩
  | .local _ .vmem, ⟨24, _⟩ => ⟨S2048x1024, .bf16⟩
  | .local _ .vmem, ⟨25, _⟩ => ⟨S128x1024, .f32⟩
  | .local _ .vmem, ⟨26, _⟩ => ⟨S128x2048, .bf16⟩
  | .local _ .vmem, ⟨27, _⟩ => ⟨S2048x64, .bf16⟩
  | .local _ .vmem, ⟨28, _⟩ => ⟨S128x64, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg3_0 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc6_stg0_0 : Ref sig .tc := ⟨.vmem, 26, rfl⟩
abbrev cc6_stg1_0 : Ref sig .tc := ⟨.vmem, 27, rfl⟩
abbrev cc6_stg2_0 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc4_sem0_0 : DmaSem sig := 19
abbrev cc4_sem1_0 : DmaSem sig := 20
abbrev cc4_sem2_0 : DmaSem sig := 21
abbrev cc4_sem3_0 : DmaSem sig := 22
abbrev cc5_sem0_0 : DmaSem sig := 23
abbrev cc5_sem1_0 : DmaSem sig := 24
abbrev cc5_sem2_0 : DmaSem sig := 25
abbrev cc6_sem0_0 : DmaSem sig := 26
abbrev cc6_sem1_0 : DmaSem sig := 27
abbrev cc6_sem2_0 : DmaSem sig := 28

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S128x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S128x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S128x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S128x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S2048x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]
-- ==== Reference22Ideal.lean ====
abbrev S32x2048 : Shape := ⟨2, ![32, 2048]⟩
abbrev S2048x12288 : Shape := ⟨2, ![2048, 12288]⟩
abbrev S12288 : Shape := ⟨1, ![12288]⟩
abbrev S2048 : Shape := ⟨1, ![2048]⟩
abbrev S2048x11344 : Shape := ⟨2, ![2048, 11344]⟩
abbrev S128 : Shape := ⟨1, ![128]⟩
abbrev S_ : Shape := ⟨0, ![]⟩
abbrev S32x12288 : Shape := ⟨2, ![32, 12288]⟩
abbrev S1x12288 : Shape := ⟨2, ![1, 12288]⟩
abbrev S32 : Shape := ⟨1, ![32]⟩
abbrev S32x1 : Shape := ⟨2, ![32, 1]⟩
abbrev S1x2048 : Shape := ⟨2, ![1, 2048]⟩
abbrev S32x11344 : Shape := ⟨2, ![32, 11344]⟩
abbrev S32x1024 : Shape := ⟨2, ![32, 1024]⟩
abbrev S32x8x128 : Shape := ⟨3, ![32, 8, 128]⟩
abbrev S32x8 : Shape := ⟨2, ![32, 8]⟩
abbrev S32x8x1 : Shape := ⟨3, ![32, 8, 1]⟩
abbrev S1x1x128 : Shape := ⟨3, ![1, 1, 128]⟩
abbrev S32x64 : Shape := ⟨2, ![32, 64]⟩

abbrev nBuf : Space → Nat
  | .hbm => 86
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S2048x12288, .f32⟩
  | .hbm, ⟨3, _⟩ => ⟨S12288, .f32⟩
  | .hbm, ⟨4, _⟩ => ⟨S2048, .f32⟩
  | .hbm, ⟨5, _⟩ => ⟨S2048x11344, .f32⟩
  | .hbm, ⟨6, _⟩ => ⟨S128, .f32⟩
  | .hbm, ⟨7, _⟩ => ⟨S128, .f32⟩
  | .hbm, ⟨8, _⟩ => ⟨S32x2048, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S_, .f32⟩
  | .hbm, ⟨14, _⟩ => ⟨S32x2048, .f32⟩
  | .hbm, ⟨15, _⟩ => ⟨S32x2048, .f32⟩
  | .hbm, ⟨16, _⟩ => ⟨S32x2048, .f32⟩
  | .hbm, ⟨17, _⟩ => ⟨S32x12288, .f32⟩
  | .hbm, ⟨18, _⟩ => ⟨S1x12288, .f32⟩
  | .hbm, ⟨19, _⟩ => ⟨S32x12288, .f32⟩
  | .hbm, ⟨20, _⟩ => ⟨S32x12288, .f32⟩
  | .hbm, ⟨21, _⟩ => ⟨S32x2048, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32, .f32⟩
  | .hbm, ⟨26, _⟩ => ⟨S32x1, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S_, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S32x2048, .f32⟩
  | .hbm, ⟨35, _⟩ => ⟨S32x2048, .f32⟩
  | .hbm, ⟨36, _⟩ => ⟨S1x2048, .f32⟩
  | .hbm, ⟨37, _⟩ => ⟨S32x2048, .f32⟩
  | .hbm, ⟨38, _⟩ => ⟨S32x2048, .f32⟩
  | .hbm, ⟨39, _⟩ => ⟨S_, .f32⟩
  | .hbm, ⟨40, _⟩ => ⟨S32x2048, .f32⟩
  | .hbm, ⟨41, _⟩ => ⟨S32x2048, .f32⟩
  | .hbm, ⟨42, _⟩ => ⟨S32x2048, .f32⟩
  | .hbm, ⟨43, _⟩ => ⟨S32x2048, .f32⟩
  | .hbm, ⟨44, _⟩ => ⟨S32x11344, .f32⟩
  | .hbm, ⟨45, _⟩ => ⟨S32x1024, .f32⟩
  | .hbm, ⟨46, _⟩ => ⟨S32x8x128, .f32⟩
  | .hbm, ⟨47, _⟩ => ⟨S32x8x128, .f32⟩
  | .hbm, ⟨48, _⟩ => ⟨S_, .f32⟩
  | .hbm, ⟨49, _⟩ => ⟨S32x8, .f32⟩
  | .hbm, ⟨50, _⟩ => ⟨S32x8x1, .f32⟩
  | .hbm, ⟨51, _⟩ => ⟨S_, .f32⟩
  | .hbm, ⟨52, _⟩ => ⟨S32x8x1, .f32⟩
  | .hbm, ⟨53, _⟩ => ⟨S32x8x1, .f32⟩
  | .hbm, ⟨54, _⟩ => ⟨S_, .f32⟩
  | .hbm, ⟨55, _⟩ => ⟨S32x8x1, .f32⟩
  | .hbm, ⟨56, _⟩ => ⟨S32x8x1, .f32⟩
  | .hbm, ⟨57, _⟩ => ⟨S32x8x1, .f32⟩
  | .hbm, ⟨58, _⟩ => ⟨S32x8x128, .f32⟩
  | .hbm, ⟨59, _⟩ => ⟨S32x8x128, .f32⟩
  | .hbm, ⟨60, _⟩ => ⟨S1x1x128, .f32⟩
  | .hbm, ⟨61, _⟩ => ⟨S32x8x128, .f32⟩
  | .hbm, ⟨62, _⟩ => ⟨S32x8x128, .f32⟩
  | .hbm, ⟨63, _⟩ => ⟨S32x1024, .f32⟩
  | .hbm, ⟨64, _⟩ => ⟨S32x1024, .f32⟩
  | .hbm, ⟨65, _⟩ => ⟨S32x8x128, .f32⟩
  | .hbm, ⟨66, _⟩ => ⟨S32x8x128, .f32⟩
  | .hbm, ⟨67, _⟩ => ⟨S_, .f32⟩
  | .hbm, ⟨68, _⟩ => ⟨S32x8, .f32⟩
  | .hbm, ⟨69, _⟩ => ⟨S32x8x1, .f32⟩
  | .hbm, ⟨70, _⟩ => ⟨S_, .f32⟩
  | .hbm, ⟨71, _⟩ => ⟨S32x8x1, .f32⟩
  | .hbm, ⟨72, _⟩ => ⟨S32x8x1, .f32⟩
  | .hbm, ⟨73, _⟩ => ⟨S_, .f32⟩
  | .hbm, ⟨74, _⟩ => ⟨S32x8x1, .f32⟩
  | .hbm, ⟨75, _⟩ => ⟨S32x8x1, .f32⟩
  | .hbm, ⟨76, _⟩ => ⟨S32x8x1, .f32⟩
  | .hbm, ⟨77, _⟩ => ⟨S32x8x128, .f32⟩
  | .hbm, ⟨78, _⟩ => ⟨S32x8x128, .f32⟩
  | .hbm, ⟨79, _⟩ => ⟨S1x1x128, .f32⟩
  | .hbm, ⟨80, _⟩ => ⟨S32x8x128, .f32⟩
  | .hbm, ⟨81, _⟩ => ⟨S32x8x128, .f32⟩
  | .hbm, ⟨82, _⟩ => ⟨S32x1024, .f32⟩
  | .hbm, ⟨83, _⟩ => ⟨S32x64, .f32⟩
  | .hbm, ⟨84, _⟩ => ⟨S32x1024, .f32⟩
  | .hbm, ⟨85, _⟩ => ⟨S32x1024, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel23.lean ====
abbrev S128x2048 : Shape := ⟨2, ![128, 2048]⟩
abbrev S16384x2048 : Shape := ⟨2, ![16384, 2048]⟩
abbrev S8x128x128 : Shape := ⟨3, ![8, 128, 128]⟩
abbrev S8x128 : Shape := ⟨2, ![8, 128]⟩
abbrev S512x2048 : Shape := ⟨2, ![512, 2048]⟩
abbrev S512x128 : Shape := ⟨2, ![512, 128]⟩
abbrev S512x512 : Shape := ⟨2, ![512, 512]⟩
abbrev S128x512 : Shape := ⟨2, ![128, 512]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S128x256 : Shape := ⟨2, ![128, 256]⟩
abbrev S256x2048 : Shape := ⟨2, ![256, 2048]⟩

abbrev nBuf : Space → Nat
  | .hbm => 7
  | .vmem => 11
  | .smem => 0
  | _ => 0

abbrev bufTy : (tb : Table) → Fin (tcTables nBuf tb) → BufTy
  | .hbm, ⟨0, _⟩ => ⟨S128x2048, .bf16⟩
  | .hbm, ⟨1, _⟩ => ⟨S16384x2048, .bf16⟩
  | .hbm, ⟨2, _⟩ => ⟨S16384x2048, .bf16⟩
  | .hbm, ⟨3, _⟩ => ⟨S8x128x128, .f32⟩
  | .hbm, ⟨4, _⟩ => ⟨S8x128x128, .f32⟩
  | .hbm, ⟨5, _⟩ => ⟨S8x128, .f32⟩
  | .hbm, ⟨6, _⟩ => ⟨S128x2048, .f32⟩
  | .local _ .vmem, ⟨0, _⟩ => ⟨S128x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S8x128x128, .f32⟩
  | .local _ .vmem, ⟨6, _⟩ => ⟨S8x128x128, .f32⟩
  | .local _ .vmem, ⟨7, _⟩ => ⟨S8x128, .f32⟩
  | .local _ .vmem, ⟨8, _⟩ => ⟨S128x2048, .f32⟩
  | .local _ .vmem, ⟨9, _⟩ => ⟨S512x128, .f32⟩
  | .local _ .vmem, ⟨10, _⟩ => ⟨S512x128, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 33], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c32_i32 : BitVec 32 := 32#32
  let v4 : BitVec 1 := Scalar.cmpi .slt arg1 c32_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg1 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off1 (i : grid0.Coords) (c0_i32_40 : BitVec 32) : Fin 3 → Nat :=
  let c0_45 : Index := 0#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v76 : Index := Scalar.indexCast v72
  let c0_46 : Index := 0#32
  ![0, v76.toNat, 0]
def k0_off2 (i : grid0.Coords) (c0_i32_40 : BitVec 32) : Fin 3 → Nat :=
  let c1_52 : Index := 1#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v89 : Index := Scalar.indexCast v72
  let c0_53 : Index := 0#32
  ![1, v89.toNat, 0]
def k0_off3 (i : grid0.Coords) (c0_i32_40 : BitVec 32) : Fin 3 → Nat :=
  let c2_59 : Index := 2#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v102 : Index := Scalar.indexCast v72
  let c0_60 : Index := 0#32
  ![2, v102.toNat, 0]
def k0_off4 (i : grid0.Coords) (c0_i32_40 : BitVec 32) : Fin 3 → Nat :=
  let c3_66 : Index := 3#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v115 : Index := Scalar.indexCast v72
  let c0_67 : Index := 0#32
  ![3, v115.toNat, 0]
def k0_off5 (i : grid0.Coords) (c0_i32_40 : BitVec 32) : Fin 3 → Nat :=
  let c4_73 : Index := 4#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v128 : Index := Scalar.indexCast v72
  let c0_74 : Index := 0#32
  ![4, v128.toNat, 0]
def k0_off6 (i : grid0.Coords) (c0_i32_40 : BitVec 32) : Fin 3 → Nat :=
  let c5_80 : Index := 5#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v141 : Index := Scalar.indexCast v72
  let c0_81 : Index := 0#32
  ![5, v141.toNat, 0]
def k0_off7 (i : grid0.Coords) (c0_i32_40 : BitVec 32) : Fin 3 → Nat :=
  let c6_87 : Index := 6#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v154 : Index := Scalar.indexCast v72
  let c0_88 : Index := 0#32
  ![6, v154.toNat, 0]
def k0_off8 (i : grid0.Coords) (c0_i32_40 : BitVec 32) : Fin 3 → Nat :=
  let c7_94 : Index := 7#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v167 : Index := Scalar.indexCast v72
  let c0_95 : Index := 0#32
  ![7, v167.toNat, 0]
def k0_cond3 (i : grid0.Coords) : BitVec 1 :=
  let arg1 : BitVec 32 := BitVec.ofNat 32 (i 1).val
  let c0_i32_8 : BitVec 32 := 0#32
  let v20 : BitVec 1 := Scalar.cmpi .sgt arg1 c0_i32_8
  let c32_i32_9 : BitVec 32 := 32#32
  let v21 : BitVec 1 := Scalar.cmpi .slt arg1 c32_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg1 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_off9 (i : grid0.Coords) (c0_i32_40 : BitVec 32) : Fin 3 → Nat :=
  let c0_45 : Index := 0#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v76 : Index := Scalar.indexCast v72
  let c0_46 : Index := 0#32
  ![0, v76.toNat, 0]
def k0_off10 (i : grid0.Coords) (c0_i32_40 : BitVec 32) : Fin 3 → Nat :=
  let c1_52 : Index := 1#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v89 : Index := Scalar.indexCast v72
  let c0_53 : Index := 0#32
  ![1, v89.toNat, 0]
def k0_off11 (i : grid0.Coords) (c0_i32_40 : BitVec 32) : Fin 3 → Nat :=
  let c2_59 : Index := 2#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v102 : Index := Scalar.indexCast v72
  let c0_60 : Index := 0#32
  ![2, v102.toNat, 0]
def k0_off12 (i : grid0.Coords) (c0_i32_40 : BitVec 32) : Fin 3 → Nat :=
  let c3_66 : Index := 3#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v115 : Index := Scalar.indexCast v72
  let c0_67 : Index := 0#32
  ![3, v115.toNat, 0]
def k0_off13 (i : grid0.Coords) (c0_i32_40 : BitVec 32) : Fin 3 → Nat :=
  let c4_73 : Index := 4#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v128 : Index := Scalar.indexCast v72
  let c0_74 : Index := 0#32
  ![4, v128.toNat, 0]
def k0_off14 (i : grid0.Coords) (c0_i32_40 : BitVec 32) : Fin 3 → Nat :=
  let c5_80 : Index := 5#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v141 : Index := Scalar.indexCast v72
  let c0_81 : Index := 0#32
  ![5, v141.toNat, 0]
def k0_off15 (i : grid0.Coords) (c0_i32_40 : BitVec 32) : Fin 3 → Nat :=
  let c6_87 : Index := 6#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v154 : Index := Scalar.indexCast v72
  let c0_88 : Index := 0#32
  ![6, v154.toNat, 0]
def k0_off16 (i : grid0.Coords) (c0_i32_40 : BitVec 32) : Fin 3 → Nat :=
  let c7_94 : Index := 7#32
  let arg1 : BitVec 32 := BitVec.ofNat 32 (i 1).val
  let c1_i32_39 : BitVec 32 := 1#32
  let v70 : BitVec 32 := Scalar.subi arg1 c1_i32_39
  let c4_i32 : BitVec 32 := 4#32
  let v71 : BitVec 32 := Scalar.muli v70 c4_i32
  let v72 : BitVec 32 := Scalar.addi v71 c0_i32_40
  let v167 : Index := Scalar.indexCast v72
  let c0_95 : Index := 0#32
  ![7, v167.toNat, 0]
def k0_cond4 (i : grid0.Coords) : BitVec 1 :=
  let arg1 : BitVec 32 := BitVec.ofNat 32 (i 1).val
  let c32_i32_18 : BitVec 32 := 32#32
  let v37 : BitVec 1 := Scalar.cmpi .eq arg1 c32_i32_18
  let c2_i32_19 : BitVec 32 := 2#32
  let c0_i32_20 : BitVec 32 := 0#32
  let v38 : BitVec 1 := Scalar.cmpi .eq c2_i32_19 c0_i32_20
  let c1_i32_21 : BitVec 32 := 1#32
  let v39 : BitVec 32 := Scalar.select v38 c1_i32_21 c2_i32_19
  let v40 : BitVec 32 := Scalar.remsi arg1 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c0_i32_25 : BitVec 32 := 0#32
  let v48 : BitVec 1 := Scalar.cmpi .eq v47 c0_i32_25
  let v49 : BitVec 1 := Scalar.andi v37 v48
  let v50 : BitVec 32 := Scalar.extui v49
  let c0_i32_26 : BitVec 32 := 0#32
  let v51 : BitVec 1 := Scalar.cmpi .ne v50 c0_i32_26
  v51

def k0_off17 (i : grid0.Coords) (c0_i32_37 : BitVec 32) : Fin 3 → Nat :=
  let c0_40 : Index := 0#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v73 : Index := Scalar.indexCast v69
  let c0_41 : Index := 0#32
  ![0, v73.toNat, 0]
def k0_off18 (i : grid0.Coords) (c0_i32_37 : BitVec 32) : Fin 3 → Nat :=
  let c1_47 : Index := 1#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v86 : Index := Scalar.indexCast v69
  let c0_48 : Index := 0#32
  ![1, v86.toNat, 0]
def k0_off19 (i : grid0.Coords) (c0_i32_37 : BitVec 32) : Fin 3 → Nat :=
  let c2_54 : Index := 2#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v99 : Index := Scalar.indexCast v69
  let c0_55 : Index := 0#32
  ![2, v99.toNat, 0]
def k0_off20 (i : grid0.Coords) (c0_i32_37 : BitVec 32) : Fin 3 → Nat :=
  let c3_61 : Index := 3#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v112 : Index := Scalar.indexCast v69
  let c0_62 : Index := 0#32
  ![3, v112.toNat, 0]
def k0_off21 (i : grid0.Coords) (c0_i32_37 : BitVec 32) : Fin 3 → Nat :=
  let c4_68 : Index := 4#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v125 : Index := Scalar.indexCast v69
  let c0_69 : Index := 0#32
  ![4, v125.toNat, 0]
def k0_off22 (i : grid0.Coords) (c0_i32_37 : BitVec 32) : Fin 3 → Nat :=
  let c5_75 : Index := 5#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v138 : Index := Scalar.indexCast v69
  let c0_76 : Index := 0#32
  ![5, v138.toNat, 0]
def k0_off23 (i : grid0.Coords) (c0_i32_37 : BitVec 32) : Fin 3 → Nat :=
  let c6_82 : Index := 6#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v151 : Index := Scalar.indexCast v69
  let c0_83 : Index := 0#32
  ![6, v151.toNat, 0]
def k0_off24 (i : grid0.Coords) (c0_i32_37 : BitVec 32) : Fin 3 → Nat :=
  let c7_89 : Index := 7#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v164 : Index := Scalar.indexCast v69
  let c0_90 : Index := 0#32
  ![7, v164.toNat, 0]
def k0_cond5 (i : grid0.Coords) : BitVec 1 :=
  let arg1 : BitVec 32 := BitVec.ofNat 32 (i 1).val
  let c32_i32_27 : BitVec 32 := 32#32
  let v52 : BitVec 1 := Scalar.cmpi .eq arg1 c32_i32_27
  let c2_i32_28 : BitVec 32 := 2#32
  let c0_i32_29 : BitVec 32 := 0#32
  let v53 : BitVec 1 := Scalar.cmpi .eq c2_i32_28 c0_i32_29
  let c1_i32_30 : BitVec 32 := 1#32
  let v54 : BitVec 32 := Scalar.select v53 c1_i32_30 c2_i32_28
  let v55 : BitVec 32 := Scalar.remsi arg1 v54
  let c0_i32_32 : BitVec 32 := 0#32
  let v57 : BitVec 1 := Scalar.cmpi .slt v55 c0_i32_32
  let c0_i32_33 : BitVec 32 := 0#32
  let v58 : BitVec 1 := Scalar.cmpi .slt v54 c0_i32_33
  let v59 : BitVec 1 := Scalar.xori v57 v58
  let c0_i32_31 : BitVec 32 := 0#32
  let v56 : BitVec 1 := Scalar.cmpi .ne v55 c0_i32_31
  let v60 : BitVec 1 := Scalar.andi v59 v56
  let v61 : BitVec 32 := Scalar.addi v55 v54
  let v62 : BitVec 32 := Scalar.select v60 v61 v55
  let c1_i32_34 : BitVec 32 := 1#32
  let v63 : BitVec 1 := Scalar.cmpi .eq v62 c1_i32_34
  let v64 : BitVec 1 := Scalar.andi v52 v63
  let v65 : BitVec 32 := Scalar.extui v64
  let c0_i32_35 : BitVec 32 := 0#32
  let v66 : BitVec 1 := Scalar.cmpi .ne v65 c0_i32_35
  v66

def k0_off25 (i : grid0.Coords) (c0_i32_37 : BitVec 32) : Fin 3 → Nat :=
  let c0_40 : Index := 0#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v73 : Index := Scalar.indexCast v69
  let c0_41 : Index := 0#32
  ![0, v73.toNat, 0]
def k0_off26 (i : grid0.Coords) (c0_i32_37 : BitVec 32) : Fin 3 → Nat :=
  let c1_47 : Index := 1#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v86 : Index := Scalar.indexCast v69
  let c0_48 : Index := 0#32
  ![1, v86.toNat, 0]
def k0_off27 (i : grid0.Coords) (c0_i32_37 : BitVec 32) : Fin 3 → Nat :=
  let c2_54 : Index := 2#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v99 : Index := Scalar.indexCast v69
  let c0_55 : Index := 0#32
  ![2, v99.toNat, 0]
def k0_off28 (i : grid0.Coords) (c0_i32_37 : BitVec 32) : Fin 3 → Nat :=
  let c3_61 : Index := 3#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v112 : Index := Scalar.indexCast v69
  let c0_62 : Index := 0#32
  ![3, v112.toNat, 0]
def k0_off29 (i : grid0.Coords) (c0_i32_37 : BitVec 32) : Fin 3 → Nat :=
  let c4_68 : Index := 4#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v125 : Index := Scalar.indexCast v69
  let c0_69 : Index := 0#32
  ![4, v125.toNat, 0]
def k0_off30 (i : grid0.Coords) (c0_i32_37 : BitVec 32) : Fin 3 → Nat :=
  let c5_75 : Index := 5#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v138 : Index := Scalar.indexCast v69
  let c0_76 : Index := 0#32
  ![5, v138.toNat, 0]
def k0_off31 (i : grid0.Coords) (c0_i32_37 : BitVec 32) : Fin 3 → Nat :=
  let c6_82 : Index := 6#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v151 : Index := Scalar.indexCast v69
  let c0_83 : Index := 0#32
  ![6, v151.toNat, 0]
def k0_off32 (i : grid0.Coords) (c0_i32_37 : BitVec 32) : Fin 3 → Nat :=
  let c7_89 : Index := 7#32
  let arg1 : BitVec 32 := BitVec.ofNat 32 (i 1).val
  let c1_i32_36 : BitVec 32 := 1#32
  let v67 : BitVec 32 := Scalar.subi arg1 c1_i32_36
  let c4_i32 : BitVec 32 := 4#32
  let v68 : BitVec 32 := Scalar.muli v67 c4_i32
  let v69 : BitVec 32 := Scalar.addi v68 c0_i32_37
  let v164 : Index := Scalar.indexCast v69
  let c0_90 : Index := 0#32
  ![7, v164.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference23Ideal.lean ====
abbrev S128x2048 : Shape := ⟨2, ![128, 2048]⟩
abbrev S16384x2048 : Shape := ⟨2, ![16384, 2048]⟩
abbrev S8x128x128 : Shape := ⟨3, ![8, 128, 128]⟩
abbrev S8x128 : Shape := ⟨2, ![8, 128]⟩
abbrev S8x128x1x128 : Shape := ⟨4, ![8, 128, 1, 128]⟩
abbrev S8x1x128x128 : Shape := ⟨4, ![8, 1, 128, 128]⟩
abbrev S8x128x128x128 : Shape := ⟨4, ![8, 128, 128, 128]⟩
abbrev S8x1x1x128 : Shape := ⟨4, ![8, 1, 1, 128]⟩
abbrev S_ : Shape := ⟨0, ![]⟩
abbrev S128x128x128 : Shape := ⟨3, ![128, 128, 128]⟩
abbrev S16384x128 : Shape := ⟨2, ![16384, 128]⟩
abbrev S128x16384 : Shape := ⟨2, ![128, 16384]⟩
abbrev S2048x16384 : Shape := ⟨2, ![2048, 16384]⟩

abbrev nBuf : Space → Nat
  | .hbm => 46
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S16384x2048, .bf16⟩
  | .hbm, ⟨2, _⟩ => ⟨S16384x2048, .bf16⟩
  | .hbm, ⟨3, _⟩ => ⟨S8x128x128, .f32⟩
  | .hbm, ⟨4, _⟩ => ⟨S8x128x128, .f32⟩
  | .hbm, ⟨5, _⟩ => ⟨S8x128, .f32⟩
  | .hbm, ⟨6, _⟩ => ⟨S8x128x1x128, .f32⟩
  | .hbm, ⟨7, _⟩ => ⟨S8x1x128x128, .f32⟩
  | .hbm, ⟨8, _⟩ => ⟨S8x128x128x128, .f32⟩
  | .hbm, ⟨9, _⟩ => ⟨S8x128x128x128, .f32⟩
  | .hbm, ⟨10, _⟩ => ⟨S8x128x128x128, .f32⟩
  | .hbm, ⟨11, _⟩ => ⟨S8x1x1x128, .f32⟩
  | .hbm, ⟨12, _⟩ => ⟨S8x128x128x128, .f32⟩
  | .hbm, ⟨13, _⟩ => ⟨S8x128x128x128, .i1⟩
  | .hbm, ⟨14, _⟩ => ⟨S_, .f32⟩
  | .hbm, ⟨15, _⟩ => ⟨S_, .f32⟩
  | .hbm, ⟨16, _⟩ => ⟨S8x128x128x128, .f32⟩
  | .hbm, ⟨17, _⟩ => ⟨S8x128x128x128, .f32⟩
  | .hbm, ⟨18, _⟩ => ⟨S_, .f32⟩
  | .hbm, ⟨19, _⟩ => ⟨S128x128x128, .f32⟩
  | .hbm, ⟨20, _⟩ => ⟨S16384x128, .f32⟩
  | .hbm, ⟨21, _⟩ => ⟨S128x16384, .f32⟩
  | .hbm, ⟨22, _⟩ => ⟨S128x2048, .f32⟩
  | .hbm, ⟨23, _⟩ => ⟨S16384x2048, .f32⟩
  | .hbm, ⟨24, _⟩ => ⟨S2048x16384, .f32⟩
  | .hbm, ⟨25, _⟩ => ⟨S128x16384, .f32⟩
  | .hbm, ⟨26, _⟩ => ⟨S128x16384, .f32⟩
  | .hbm, ⟨27, _⟩ => ⟨S128x16384, .f32⟩
  | .hbm, ⟨28, _⟩ => ⟨S_, .f32⟩
  | .hbm, ⟨29, _⟩ => ⟨S128x16384, .f32⟩
  | .hbm, ⟨30, _⟩ => ⟨S128x16384, .f32⟩
  | .hbm, ⟨31, _⟩ => ⟨S128x16384, .f32⟩
  | .hbm, ⟨32, _⟩ => ⟨S_, .f32⟩
  | .hbm, ⟨33, _⟩ => ⟨S128x16384, .f32⟩
  | .hbm, ⟨34, _⟩ => ⟨S128x16384, .f32⟩
  | .hbm, ⟨35, _⟩ => ⟨S128x16384, .f32⟩
  | .hbm, ⟨36, _⟩ => ⟨S_, .f32⟩
  | .hbm, ⟨37, _⟩ => ⟨S128x16384, .f32⟩
  | .hbm, ⟨38, _⟩ => ⟨S128x16384, .f32⟩
  | .hbm, ⟨39, _⟩ => ⟨S_, .f32⟩
  | .hbm, ⟨40, _⟩ => ⟨S128x16384, .f32⟩
  | .hbm, ⟨41, _⟩ => ⟨S128x16384, .f32⟩
  | .hbm, ⟨42, _⟩ => ⟨S128x16384, .f32⟩
  | .hbm, ⟨43, _⟩ => ⟨S128x16384, .f32⟩
  | .hbm, ⟨44, _⟩ => ⟨S16384x2048, .f32⟩
  | .hbm, ⟨45, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Bits.Cond.lean ====
module

public import proofs.«01_k».proof.Proof.Gen.Kernel.Frame
public import Idealize.ShloMosaic.Lib.WordCmp

@[expose] public section

/-! # The body's branches in closed form

Grid point `t` is block `t / 33`, tile number `t % 33`: which branch of the body runs there. -/

set_option maxRecDepth 16384

noncomputable section

namespace Cert.Kernel.Gen

open Idealize.ShloMosaic Idealize.ShloMosaic.TcCoe Idealize.ShloMosaic.Tactic

/-- The tile number of a point. -/
theorem tile_eq (t : Fin cfg0.N) : ((grid0.coords t) 1).val = t.val % 33 := by
  have h : ((grid0.coords t) 1).val = t.val / 1 % 33 := Pipeline.Grid.coords_val t 1 (by decide) rfl
  rw [h, Nat.div_one]

theorem cond1_iff (i : grid0.Coords) : k0_cond1 i = 1#1 ↔ (i 1).val = 0 := by
  unfold k0_cond1; dsimp only
  generalize hk : i 1 = k
  clear hk
  change Fin 33 at k
  revert k; decide +kernel

theorem cond2_iff (i : grid0.Coords) : k0_cond2 i = 1#1 ↔ (i 1).val % 2 = 0 ∧ 0 < (i 1).val ∧ (i 1).val < 32 := by
  unfold k0_cond2; dsimp only
  generalize hk : i 1 = k
  clear hk
  change Fin 33 at k
  revert k; decide +kernel

theorem cond3_iff (i : grid0.Coords) : k0_cond3 i = 1#1 ↔ (i 1).val % 2 = 1 := by
  unfold k0_cond3; dsimp only
  generalize hk : i 1 = k
  clear hk
  change Fin 33 at k
  revert k; decide +kernel

theorem cond4_iff (i : grid0.Coords) : k0_cond4 i = 1#1 ↔ (i 1).val = 32 := by
  unfold k0_cond4; dsimp only
  generalize hk : i 1 = k
  clear hk
  change Fin 33 at k
  revert k; decide +kernel

theorem cond5_iff (i : grid0.Coords) : ¬ k0_cond5 i = 1#1 := by
  unfold k0_cond5; dsimp only
  generalize hk : i 1 = k
  clear hk
  change Fin 33 at k
  revert k; decide +kernel

end Cert.Kernel.Gen

end
-- ==== Proof.Bits.Body.lean ====
module

public import Idealize.ShloMosaic.Lib.Claim
public import proofs.«01_k».proof.Proof.Bits.Cond
public import proofs.«01_k».proof.Proof.Bits.RunA
public import proofs.«01_k».proof.Proof.Bits.RunB
public import proofs.«01_k».proof.Proof.Bits.RunC
public import proofs.«01_k».proof.Proof.Bits.RunD

@[expose] public section

/-! # The frame of the expert kernel at the machine's values

The body's obligation with nothing named of what the scratch and the output hold, and the frame from it. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer, whole. -/
abbrev scA : Memref sig .tc .vmem S512x512 .f32 := Memref.whole cc0_scratch0
abbrev scB : Memref sig .tc .vmem S512x512 .f32 := Memref.whole cc0_scratch1

theorem PhiA_eq (c : Dev nD) : (Pipeline.ΦA (Val := Elt F) spec0 c : sProp 𝕄)
    = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- The output's contents are not followed. -/
def forgets0 : Fin 7 → Bool := fun w => w.val == 6

/-- The proof data of the pipeline: the inputs' buffers keep their blocks; nothing is said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

set_option maxHeartbeats 4000000 in
/-- The body at a block's first point. -/
theorem soundA (c : Dev nD) (t : Fin cfg0.N) (h : t.val % 33 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runA c (grid0.coords t) _ _ _ _ _ _ _ _ _ _ _ _ _ _ _ _ _ _ ((cond1_iff _).mpr (by rw [tile_eq]; omega)) (fun h => absurd ((cond2_iff _).mp h) (by rw [tile_eq]; omega)) (fun h => absurd ((cond3_iff _).mp h) (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HA]; · iexists _; iexact HA
  isplitl [HB]; · iexists _; iexact HB
  iintro ⟨H0, H1, H2, H3, H4, H5, H6, HA, HB⟩
  isplitl [HA HB Hg]
  · isplitl [HA HB]
    · isplitl [HA]
      · iexists _; iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at an even tile number within a block. -/
theorem soundB (c : Dev nD) (t : Fin cfg0.N) (h0 : ¬ t.val % 33 = 0) (h32 : ¬ t.val % 33 = 32) (h : ¬ t.val % 33 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runB c (grid0.coords t) _ _ _ _ _ _ _ _ _ _ _ _ _ _ _ _ _ _ (fun h => absurd ((cond1_iff _).mp h) (by rw [tile_eq]; omega)) ((cond2_iff _).mpr (by rw [tile_eq]; omega)) (fun h => absurd ((cond3_iff _).mp h) (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t) _ dB).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexists _; iexact HA
  isplitl [HB]; · iexact HB
  iintro ⟨H0, H1, H2, H3, H4, H5, H6, HA, HB⟩
  isplitl [HA HB Hg]
  · isplitl [HA HB]
    · isplitl [HA]
      · iexists _; iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at an odd tile number. -/
theorem soundC (c : Dev nD) (t : Fin cfg0.N) (h : t.val % 33 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runC c (grid0.coords t) _ _ _ _ _ _ _ _ _ _ _ _ _ _ _ _ _ _ (fun h => absurd ((cond1_iff _).mp h) (by rw [tile_eq]; omega)) (fun h => absurd ((cond2_iff _).mp h) (by rw [tile_eq]; omega)) ((cond3_iff _).mpr (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t) _ dA).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexists _; iexact HB
  iintro ⟨H0, H1, H2, H3, H4, H5, H6, HA, HB⟩
  isplitl [HA HB Hg]
  · isplitl [HA HB]
    · isplitl [HA]
      · iexists _; iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at a block's last point. -/
theorem soundD (c : Dev nD) (t : Fin cfg0.N) (h : t.val % 33 = 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runD c (grid0.coords t) _ _ _ _ _ _ _ _ _ _ _ _ _ _ _ _ _ _ (fun h => absurd ((cond1_iff _).mp h) (by rw [tile_eq]; omega)) (fun h => absurd ((cond2_iff _).mp h) (by rw [tile_eq]; omega)) (fun h => absurd ((cond3_iff _).mp h) (by rw [tile_eq]; omega)) ((cond4_iff _).mpr (by rw [tile_eq]; omega)) (cond5_iff _) (iblk m c 0 t) (iblk m c 1 t) (iblk m c 2 t) (iblk m c 3 t) (iblk m c 4 t) (iblk m c 5 t) _ dB).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexists _; iexact HA
  isplitl [HB]; · iexact HB
  iintro ⟨H0, H1, H2, H3, H4, H5, H6, HA, HB⟩
  isplitl [HA HB Hg]
  · isplitl [HA HB]
    · isplitl [HA]
      · iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 33 = 0
  · exact soundA m c t h0
  by_cases h1 : t.val % 33 % 2 = 1
  · exact soundC m c t h1
  by_cases h2 : t.val % 33 = 32
  · exact soundD m c t h2
  · exact soundB m c t h0 h2 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

set_option backward.isDefEq.respectTransparency.types false in
/-- The run: the inputs' arrays end as they were, and every counter at zero. -/
theorem run_main_quiescent : θ_run defs (onTc (τ := τ) (main (F := F))) (s₀ m ρ) (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c))⟩) (run_main m ρ)) ((θ_run defs _ _).mono (fun _ h => h.2) (run_main_quiescent m ρ))

end Cert.Kernel.Gen

end
-- ==== Proof.Ideal.Spec.lean ====
module

public import proofs.«01_k».proof.Proof.Gen.KernelIdeal.Frame
public import proofs.«01_k».proof.Proof.Gen.KernelIdeal.Skeleton
public import Idealize.ShloMosaic.Lib.VecWindow

@[expose] public section

/-! # What one grid point of the expert kernel computes, as vector operations

A grid point works on 512 tokens and, of the 16384 experts, on two tiles of 512: it projects the tokens on one tile's
first weights (`projV`) and mixes the tile before it into the block's sum (`mixV`). -/

set_option maxRecDepth 16384

noncomputable section

namespace Cert.KernelIdeal.Gen

open Idealize.ShloMosaic Idealize.ShloMosaic.TcCoe

variable {F : FTy → Type} [FloatOps F]

/-- A load through a whole memref that holds `x` reads a window of `x`. -/
theorem readAt_unread {s : Shape} {e : EltTy} {arg : Memref sig .tc .vmem s e} (h : arg.IsWhole) (x : s.Idx → Elt F e)
    {off size : Fin s.rank → ℕ} (inb : ∀ a, off a + size a ≤ s.size a) :
    arg.view.readAt (Elt F) (Rect.unit off size inb).toLoadRect (h.unread x) = VecWindow.window x off size inb := by
  rw [View.readAt_unit _ _ inb rfl inb, h.read_unread]

/-- The row of the gate table that belongs to expert group `r` of the tile before point `i`'s. -/
def rowNat (i : grid0.Coords) (r : BitVec 32) : ℕ :=
  (Scalar.addi (Scalar.muli (Scalar.subi (BitVec.ofNat 32 (i 1).val) 1#32) 4#32) r).toNat

theorem inb_row {h : ℕ} (hh : h < 8) {row : ℕ} (hr : row < 128) : ∀ a, (![h, row, 0] : Fin 3 → ℕ) a + S1x1x512.size a ≤ S8x128x512.size a := fun
  | ⟨0, _⟩ => Nat.succ_le_of_lt hh
  | ⟨1, _⟩ => Nat.succ_le_of_lt hr
  | ⟨2, _⟩ => Nat.le_refl 512

theorem inb_plane {h : ℕ} (hh : h < 8) : ∀ a, (![h, 0, 0] : Fin 3 → ℕ) a + S1x128x512.size a ≤ S8x128x512.size a := fun
  | ⟨0, _⟩ => Nat.succ_le_of_lt hh
  | ⟨1, _⟩ => Nat.le_refl 128
  | ⟨2, _⟩ => Nat.le_refl 512

theorem inb_tau {h : ℕ} (hh : h < 8) : ∀ a, (![h, 0] : Fin 2 → ℕ) a + S1x512.size a ≤ S8x512.size a := fun
  | ⟨0, _⟩ => Nat.succ_le_of_lt hh
  | ⟨1, _⟩ => Nat.le_refl 512

theorem inb_act {o : ℕ} (ho : o + 128 ≤ 512) : ∀ a, (![o, 0] : Fin 2 → ℕ) a + S128x512.size a ≤ S512x512.size a := fun
  | ⟨0, _⟩ => ho
  | ⟨1, _⟩ => Nat.le_refl 512

theorem inb_half {o : ℕ} (ho : o + 256 ≤ 512) : ∀ a, (![o, 0] : Fin 2 → ℕ) a + S256x2048.size a ≤ S512x2048.size a := fun
  | ⟨0, _⟩ => ho
  | ⟨1, _⟩ => Nat.le_refl 2048

theorem inb_chunk {o : ℕ} (ho : o + 512 ≤ 2048) : ∀ a, (![0, o] : Fin 2 → ℕ) a + S512x512.size a ≤ S512x2048.size a := fun
  | ⟨0, _⟩ => Nat.le_refl 512
  | ⟨1, _⟩ => ho

/-- One head's weights of the 128 experts of a group, for each token: a product of two gates. -/
def headW (x5 x6 : Vec F S8x128x512 .f32) (h : ℕ) (hh : h < 8) (row : ℕ) (hr : row < 128) : FVec F S128x512 .f32 :=
  mulf (shapeCast S128x512 (VecWindow.window x6 ![h, 0, 0] S1x128x512.size (inb_plane hh) : Vec F S1x128x512 .f32) shapeCasts_S1x128x512_S128x512)
    (broadcastTo S128x512 (shapeCast S1x512 (VecWindow.window x5 ![h, row, 0] S1x1x512.size (inb_row hh hr) : Vec F S1x1x512 .f32) shapeCasts_S1x1x512_S1x512)
      broadcasts_S1x512_S128x512)

/-- The same, with zero for a weight under the head's threshold. -/
def headT (x5 x6 : Vec F S8x128x512 .f32) (x7 : Vec F S8x512 .f32) (h : ℕ) (hh : h < 8) (row : ℕ) (hr : row < 128) : FVec F S128x512 .f32 :=
  select (cmpf .oge (headW x5 x6 h hh row hr)
      (broadcastTo S128x512 (VecWindow.window x7 ![h, 0] S1x512.size (inb_tau hh) : Vec F S1x512 .f32) broadcasts_S1x512_S128x512))
    (headW x5 x6 h hh row hr) (broadcast S128x512 (Scalar.ofBits .f32 0x00000000#32))

/-- The gate of a group's experts: the eight heads' weights summed. -/
def gateV (x5 x6 : Vec F S8x128x512 .f32) (x7 : Vec F S8x512 .f32) (row : ℕ) (hr : row < 128) : FVec F S128x512 .f32 :=
  addf (addf (addf (addf (addf (addf (addf (addf (broadcast S128x512 (Scalar.ofBits .f32 0x00000000#32))
    (headT x5 x6 x7 0 (by decide) row hr)) (headT x5 x6 x7 1 (by decide) row hr)) (headT x5 x6 x7 2 (by decide) row hr))
    (headT x5 x6 x7 3 (by decide) row hr)) (headT x5 x6 x7 4 (by decide) row hr)) (headT x5 x6 x7 5 (by decide) row hr))
    (headT x5 x6 x7 6 (by decide) row hr)) (headT x5 x6 x7 7 (by decide) row hr)

/-- The activation (the tanh form of GELU). -/
def geluV (a : FVec F S128x512 .f32) : FVec F S128x512 .f32 :=
  mulf (mulf (broadcast S128x512 (Scalar.ofBits .f32 0x3F000000#32)) a)
    (addf (broadcast S128x512 (Scalar.ofBits .f32 0x3F800000#32))
      (tanh (mulf (broadcast S128x512 (Scalar.ofBits .f32 0x3F4C422A#32))
        (addf a (mulf (broadcast S128x512 (Scalar.ofBits .f32 0x3D372713#32)) (mulf (mulf a a) a))))))

/-- A group's gated activations, a row per token. -/
def pieceV (x5 x6 : Vec F S8x128x512 .f32) (x7 : Vec F S8x512 .f32) (s : Vec F S512x512 .f32) (row : ℕ) (hr : row < 128) (o : ℕ) (ho : o + 128 ≤ 512) :
    FVec F S512x128 .bf16 :=
  truncf .bf16 (transpose S512x128 [1, 0]
    (mulf (gateV x5 x6 x7 row hr) (geluV (VecWindow.window s ![o, 0] S128x512.size (inb_act ho) : Vec F S128x512 .f32)))
    transposes_S128x512_p1_0_S512x128) bitsLt_bf16_f32

/-- Two groups' gated activations times their second weights. -/
def pairV (x4 : Vec F S512x2048 .bf16) (a b : FVec F S512x128 .bf16) (o : ℕ) (ho : o + 256 ≤ 512) : FVec F S512x2048 .f32 :=
  matmul dot_S512x256_S256x2048_S512x2048_1_0_0_1_n_n none
    (concatenate S512x256 1 [⟨S512x128, a⟩, ⟨S512x128, b⟩] concatenates_S512x128_S512x128_S512x256_d1)
    (VecWindow.window x4 ![o, 0] S256x2048.size (inb_half ho) : Vec F S256x2048 .bf16) (constant S512x2048 .f32 0x00000000#32)

/-- A tile of 512 experts mixed into the block's sum `x8`: `s` holds the tile's projections, `row r` its groups' gate rows. -/
def mixV (x4 : Vec F S512x2048 .bf16) (x5 x6 : Vec F S8x128x512 .f32) (x7 : Vec F S8x512 .f32) (x8 : Vec F S512x2048 .f32) (s : Vec F S512x512 .f32)
    (r0 r1 r2 r3 : ℕ) (h0 : r0 < 128) (h1 : r1 < 128) (h2 : r2 < 128) (h3 : r3 < 128) : FVec F S512x2048 .f32 :=
  addf (shapeCast S512x2048 (VecWindow.window x8 ![0, 0] S512x2048.size inb_S512x2048_S512x2048_0_0 : Vec F S512x2048 .f32) shapeCasts_S512x2048_S512x2048)
    (addf (pairV x4 (pieceV x5 x6 x7 s r0 h0 0 (by decide)) (pieceV x5 x6 x7 s r1 h1 128 (by decide)) 0 (by decide))
      (pairV x4 (pieceV x5 x6 x7 s r2 h2 256 (by decide)) (pieceV x5 x6 x7 s r3 h3 384 (by decide)) 256 (by decide)))

/-- One quarter of the projection: 512 of the 2048 features. -/
def chunkV (x2 x3 : Vec F S512x2048 .bf16) (o : ℕ) (ho : o + 512 ≤ 2048) : FVec F S512x512 .f32 :=
  matmul dot_S512x512_S512x512_S512x512_1_1_0_0_n_n none
    (VecWindow.window x3 ![0, o] S512x512.size (inb_chunk ho) : Vec F S512x512 .bf16)
    (VecWindow.window x2 ![0, o] S512x512.size (inb_chunk ho) : Vec F S512x512 .bf16) (constant S512x512 .f32 0x00000000#32)

/-- The tokens `x2` projected on a tile's first weights `x3`: a row per expert. -/
def projV (x2 x3 : Vec F S512x2048 .bf16) : FVec F S512x512 .f32 :=
  shapeCast S512x512 (addf (addf (addf (chunkV x2 x3 0 (by decide)) (chunkV x2 x3 512 (by decide))) (chunkV x2 x3 1024 (by decide)))
    (chunkV x2 x3 1536 (by decide))) shapeCasts_S512x512_S512x512

/-- The block's sum before the first tile. -/
def zeroV : FVec F S512x2048 .f32 := broadcast S512x2048 (Scalar.ofBits .f32 0x00000000#32)

end Cert.KernelIdeal.Gen

end
-- ==== Proof.Ideal.Cond.lean ====
module

public import proofs.«01_k».proof.Proof.Ideal.Spec
public import Idealize.ShloMosaic.Lib.WordCmp

@[expose] public section

/-! # The body's branches in closed form

Grid point `t` is block `t / 33`, tile number `t % 33`: which branch of the body runs there, and which rows of the gate
table it reads. -/

set_option maxRecDepth 16384

noncomputable section

namespace Cert.KernelIdeal.Gen

open Idealize.ShloMosaic Idealize.ShloMosaic.TcCoe Idealize.ShloMosaic.Tactic

/-- The tile number of a point. -/
theorem tile_eq (t : Fin cfg0.N) : ((grid0.coords t) 1).val = t.val % 33 := by
  have h : ((grid0.coords t) 1).val = t.val / 1 % 33 := Pipeline.Grid.coords_val t 1 (by decide) rfl
  rw [h, Nat.div_one]

/-- The block of a point. -/
theorem block_eq (t : Fin cfg0.N) : ((grid0.coords t) 0).val = t.val / 33 := by
  have h : ((grid0.coords t) 0).val = t.val / 33 % 32 := Pipeline.Grid.coords_val t 0 (by decide) rfl
  have ht : t.val < 1056 := lt_of_lt_of_eq t.isLt N_0
  rw [h]; omega

theorem cond1_iff (i : grid0.Coords) : k0_cond1 i = 1#1 ↔ (i 1).val = 0 := by
  unfold k0_cond1; dsimp only
  generalize hk : i 1 = k
  clear hk
  change Fin 33 at k
  revert k; decide +kernel

theorem cond2_iff (i : grid0.Coords) : k0_cond2 i = 1#1 ↔ (i 1).val % 2 = 0 ∧ 0 < (i 1).val ∧ (i 1).val < 32 := by
  unfold k0_cond2; dsimp only
  generalize hk : i 1 = k
  clear hk
  change Fin 33 at k
  revert k; decide +kernel

theorem cond3_iff (i : grid0.Coords) : k0_cond3 i = 1#1 ↔ (i 1).val % 2 = 1 := by
  unfold k0_cond3; dsimp only
  generalize hk : i 1 = k
  clear hk
  change Fin 33 at k
  revert k; decide +kernel

theorem cond4_iff (i : grid0.Coords) : k0_cond4 i = 1#1 ↔ (i 1).val = 32 := by
  unfold k0_cond4; dsimp only
  generalize hk : i 1 = k
  clear hk
  change Fin 33 at k
  revert k; decide +kernel

theorem cond5_iff (i : grid0.Coords) : ¬ k0_cond5 i = 1#1 := by
  unfold k0_cond5; dsimp only
  generalize hk : i 1 = k
  clear hk
  change Fin 33 at k
  revert k; decide +kernel

/-- The gate rows of the tile before: four a tile. -/
theorem rowNat_eq (i : grid0.Coords) (r : Fin 4) (h : (i 1).val ≠ 0) : rowNat i (BitVec.ofNat 32 r.val) = 4 * ((i 1).val - 1) + r.val := by
  unfold rowNat
  revert h
  generalize hk : i 1 = k
  clear hk
  change Fin 33 at k
  revert k r; decide +kernel

theorem rowNat_lt (t : Fin cfg0.N) (r : Fin 4) (h : ¬ t.val % 33 = 0) : rowNat (grid0.coords t) (BitVec.ofNat 32 r.val) < 128 := by
  have ht := tile_eq t
  rw [rowNat_eq _ r (by rw [ht]; exact h), ht]
  have := r.isLt
  omega

end Cert.KernelIdeal.Gen

end
-- ==== Proof.Ideal.RunA.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an expert tile number zero: the block's sum is set to zero and the first tile's projection is left in the first scratch. -/
def runA (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (h1 : k0_cond1 i = 1#1) (n2 : ¬ k0_cond2 i = 1#1) (n3 : ¬ k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) :
    Σ' (y8 : Vec F S512x2048 .f32), { y9 : Vec F S512x512 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ owns (c : Thread nD τ) arg9 fullShare y9
              ∗ (∃ d, owns (c : Thread nD τ) arg10 fullShare d)) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, ?_, fun E K => ?run⟩
  case run =>
    simp only [cc0__peer_dense_kernel_eq_skeleton]; unfold cc0__peer_dense_kernel_skel
    simp only [k0_part55_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    sl_exec (disch := first | sl_exact h1 | sl_exact n2 | sl_exact n3 | sl_exact n4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _; isplitr; swap; · iexact H9
      ipureintro; exact View.read_writes_full _ _ _ _ _
    · iexists _, _; isplitr; swap; · iexact H10
      ipureintro; rfl

end Cert.KernelIdeal.Gen

end
-- ==== Proof.Ideal.ValA.lean ====
module

public import proofs.«01_k».proof.Proof.Ideal.RunA
public import proofs.«01_k».proof.Proof.Ideal.Spec

@[expose] public section

set_option maxRecDepth 16384

noncomputable section

namespace Cert.KernelIdeal.Gen

open Idealize.ShloMosaic Idealize.ShloMosaic.TcCoe

variable {F : FTy → Type} [FloatOps F]

set_option maxHeartbeats 4000000 in
/-- The run of case A sets the block's sum to zero. -/
theorem runA_sum (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (h1 : k0_cond1 i = 1#1) (n2 : ¬ k0_cond2 i = 1#1) (n3 : ¬ k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) :
    (runA c i arg2 harg2 arg3 harg3 arg4 harg4 arg5 harg5 arg6 harg6 arg7 harg7 arg8 harg8 arg9 harg9 arg10 harg10 h1 n2 n3 n4 n5 x2 x3 x4 x5 x6 x7).1 = zeroV := by
  unfold runA
  dsimp only
  rfl

set_option maxHeartbeats 4000000 in
/-- The run of case A leaves the tile's projection. -/
theorem runA_act (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (h1 : k0_cond1 i = 1#1) (n2 : ¬ k0_cond2 i = 1#1) (n3 : ¬ k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) :
    (runA c i arg2 harg2 arg3 harg3 arg4 harg4 arg5 harg5 arg6 harg6 arg7 harg7 arg8 harg8 arg9 harg9 arg10 harg10 h1 n2 n3 n4 n5 x2 x3 x4 x5 x6 x7).2.1 = projV x2 x3 := by
  unfold runA
  dsimp only
  simp only [readAt_unread]
  rfl

end Cert.KernelIdeal.Gen

end
-- ==== Proof.Ideal.RunB.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an even tile number from 2 to 30: the tile before, whose projection is in the second scratch, is mixed into the block's sum, and this tile's projection is left in the first scratch. -/
def runB (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (h2 : k0_cond2 i = 1#1) (n3 : ¬ k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x10 : Vec F S512x512 .f32) :
    Σ' (y8 : Vec F S512x2048 .f32), { y9 : Vec F S512x512 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ (∃ d, owns (c : Thread nD τ) arg9 fullShare d)
            ∗ owns (c : Thread nD τ) arg10 fullShare x10
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ owns (c : Thread nD τ) arg9 fullShare y9
              ∗ owns (c : Thread nD τ) arg10 fullShare x10) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, ?_, fun E K => ?run⟩
  case run =>
    simp only [cc0__peer_dense_kernel_eq_skeleton]; unfold cc0__peer_dense_kernel_skel
    simp only [k0_part55_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg10.eq_unread hf10
    sl_exec (disch := first | sl_exact n1 | sl_exact h2 | sl_exact n3 | sl_exact n4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _; isplitr; swap; · iexact H9
      ipureintro; exact View.read_writes_full _ _ _ _ _
    · iexists _; isplitr; · ipureintro; exact harg10.read_unread _
      iexact H10

end Cert.KernelIdeal.Gen

end
-- ==== Proof.Ideal.ValB.lean ====
module

public import proofs.«01_k».proof.Proof.Ideal.RunB
public import proofs.«01_k».proof.Proof.Ideal.Spec

@[expose] public section

set_option maxRecDepth 16384

noncomputable section

namespace Cert.KernelIdeal.Gen

open Idealize.ShloMosaic Idealize.ShloMosaic.TcCoe

variable {F : FTy → Type} [FloatOps F]

set_option maxHeartbeats 4000000 in
/-- The run of case B mixes the tile before into the block's sum. -/
theorem runB_sum (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (h2 : k0_cond2 i = 1#1) (n3 : ¬ k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x10 : Vec F S512x512 .f32)
    (q0 : rowNat i 0#32 < 128) (q1 : rowNat i 1#32 < 128) (q2 : rowNat i 2#32 < 128) (q3 : rowNat i 3#32 < 128) :
    (runB c i arg2 harg2 arg3 harg3 arg4 harg4 arg5 harg5 arg6 harg6 arg7 harg7 arg8 harg8 arg9 harg9 arg10 harg10 n1 h2 n3 n4 n5 x2 x3 x4 x5 x6 x7 x8 x10).1 = mixV x4 x5 x6 x7 x8 x10 (rowNat i 0#32) (rowNat i 1#32) (rowNat i 2#32) (rowNat i 3#32) q0 q1 q2 q3 := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.cst_184, runB.sl.cst_232, readAt_unread]
  rfl

set_option maxHeartbeats 4000000 in
/-- The run of case B leaves the tile's projection. -/
theorem runB_act (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (h2 : k0_cond2 i = 1#1) (n3 : ¬ k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x10 : Vec F S512x512 .f32) :
    (runB c i arg2 harg2 arg3 harg3 arg4 harg4 arg5 harg5 arg6 harg6 arg7 harg7 arg8 harg8 arg9 harg9 arg10 harg10 n1 h2 n3 n4 n5 x2 x3 x4 x5 x6 x7 x8 x10).2.1 = projV x2 x3 := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.cst_184, runB.sl.cst_232, readAt_unread]
  rfl

end Cert.KernelIdeal.Gen

end
-- ==== Proof.Ideal.RunC.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd tile number from 1 to 31: the tile before, whose projection is in the first scratch, is mixed into the block's sum, and this tile's projection is left in the second scratch. -/
def runC (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (n2 : ¬ k0_cond2 i = 1#1) (h3 : k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x9 : Vec F S512x512 .f32) :
    Σ' (y8 : Vec F S512x2048 .f32), { y10 : Vec F S512x512 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ owns (c : Thread nD τ) arg9 fullShare x9
              ∗ owns (c : Thread nD τ) arg10 fullShare y10) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, ?_, fun E K => ?run⟩
  case run =>
    simp only [cc0__peer_dense_kernel_eq_skeleton]; unfold cc0__peer_dense_kernel_skel
    simp only [k0_part55_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    sl_exec (disch := first | sl_exact n1 | sl_exact n2 | sl_exact h3 | sl_exact n4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _; isplitr; · ipureintro; exact harg9.read_unread _
      iexact H9
    · iexists _; isplitr; swap; · iexact H10
      ipureintro; exact View.read_writes_full _ _ _ _ _

end Cert.KernelIdeal.Gen

end
-- ==== Proof.Ideal.ValC.lean ====
module

public import proofs.«01_k».proof.Proof.Ideal.RunC
public import proofs.«01_k».proof.Proof.Ideal.Spec

@[expose] public section

set_option maxRecDepth 16384

noncomputable section

namespace Cert.KernelIdeal.Gen

open Idealize.ShloMosaic Idealize.ShloMosaic.TcCoe

variable {F : FTy → Type} [FloatOps F]

set_option maxHeartbeats 4000000 in
/-- The run of case C mixes the tile before into the block's sum. -/
theorem runC_sum (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (n2 : ¬ k0_cond2 i = 1#1) (h3 : k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x9 : Vec F S512x512 .f32)
    (q0 : rowNat i 0#32 < 128) (q1 : rowNat i 1#32 < 128) (q2 : rowNat i 2#32 < 128) (q3 : rowNat i 3#32 < 128) :
    (runC c i arg2 harg2 arg3 harg3 arg4 harg4 arg5 harg5 arg6 harg6 arg7 harg7 arg8 harg8 arg9 harg9 arg10 harg10 n1 n2 h3 n4 n5 x2 x3 x4 x5 x6 x7 x8 x9).1 = mixV x4 x5 x6 x7 x8 x9 (rowNat i 0#32) (rowNat i 1#32) (rowNat i 2#32) (rowNat i 3#32) q0 q1 q2 q3 := by
  unfold runC
  dsimp only
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.cst_184, runC.sl.cst_232, readAt_unread]
  rfl

set_option maxHeartbeats 4000000 in
/-- The run of case C leaves the tile's projection. -/
theorem runC_act (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (n2 : ¬ k0_cond2 i = 1#1) (h3 : k0_cond3 i = 1#1) (n4 : ¬ k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x9 : Vec F S512x512 .f32) :
    (runC c i arg2 harg2 arg3 harg3 arg4 harg4 arg5 harg5 arg6 harg6 arg7 harg7 arg8 harg8 arg9 harg9 arg10 harg10 n1 n2 h3 n4 n5 x2 x3 x4 x5 x6 x7 x8 x9).2.1 = projV x2 x3 := by
  unfold runC
  dsimp only
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.cst_184, runC.sl.cst_232, readAt_unread]
  rfl

end Cert.KernelIdeal.Gen

end
-- ==== Proof.Ideal.RunD.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at tile number 32: the last tile, whose projection is in the second scratch, is mixed into the block's sum. -/
def runD (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (n2 : ¬ k0_cond2 i = 1#1) (n3 : ¬ k0_cond3 i = 1#1) (h4 : k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x10 : Vec F S512x512 .f32) :
    { y8 : Vec F S512x2048 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ (∃ d, owns (c : Thread nD τ) arg9 fullShare d)
            ∗ owns (c : Thread nD τ) arg10 fullShare x10
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ (∃ d, owns (c : Thread nD τ) arg9 fullShare d)
              ∗ owns (c : Thread nD τ) arg10 fullShare x10) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, fun E K => ?run⟩
  case run =>
    simp only [cc0__peer_dense_kernel_eq_skeleton]; unfold cc0__peer_dense_kernel_skel
    simp only [k0_part55_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg10.eq_unread hf10
    sl_exec (disch := first | sl_exact n1 | sl_exact n2 | sl_exact n3 | sl_exact h4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _, _; isplitr; swap; · iexact H9
      ipureintro; rfl
    · iexists _; isplitr; · ipureintro; exact harg10.read_unread _
      iexact H10

end Cert.KernelIdeal.Gen

end
-- ==== Proof.Ideal.ValD.lean ====
module

public import proofs.«01_k».proof.Proof.Ideal.RunD
public import proofs.«01_k».proof.Proof.Ideal.Spec

@[expose] public section

set_option maxRecDepth 16384

noncomputable section

namespace Cert.KernelIdeal.Gen

open Idealize.ShloMosaic Idealize.ShloMosaic.TcCoe

variable {F : FTy → Type} [FloatOps F]

set_option maxHeartbeats 4000000 in
/-- The run of case D mixes the tile before into the block's sum. -/
theorem runD_sum (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x512 .f32) (harg7 : arg7.IsWhole) (arg8 : Memref sig .tc .vmem S512x2048 .f32) (harg8 : arg8.IsWhole) (arg9 : Memref sig .tc .vmem S512x512 .f32) (harg9 : arg9.IsWhole) (arg10 : Memref sig .tc .vmem S512x512 .f32) (harg10 : arg10.IsWhole)
    (n1 : ¬ k0_cond1 i = 1#1) (n2 : ¬ k0_cond2 i = 1#1) (n3 : ¬ k0_cond3 i = 1#1) (h4 : k0_cond4 i = 1#1) (n5 : ¬ k0_cond5 i = 1#1)
    (x2 : Vec F S512x2048 .bf16) (x3 : Vec F S512x2048 .bf16) (x4 : Vec F S512x2048 .bf16) (x5 : Vec F S8x128x512 .f32) (x6 : Vec F S8x128x512 .f32) (x7 : Vec F S8x512 .f32) (x8 : Vec F S512x2048 .f32) (x10 : Vec F S512x512 .f32)
    (q0 : rowNat i 0#32 < 128) (q1 : rowNat i 1#32 < 128) (q2 : rowNat i 2#32 < 128) (q3 : rowNat i 3#32 < 128) :
    (runD c i arg2 harg2 arg3 harg3 arg4 harg4 arg5 harg5 arg6 harg6 arg7 harg7 arg8 harg8 arg9 harg9 arg10 harg10 n1 n2 n3 h4 n5 x2 x3 x4 x5 x6 x7 x8 x10).1 = mixV x4 x5 x6 x7 x8 x10 (rowNat i 0#32) (rowNat i 1#32) (rowNat i 2#32) (rowNat i 3#32) q0 q1 q2 q3 := by
  unfold runD
  dsimp only
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.cst_96, readAt_unread]
  rfl

end Cert.KernelIdeal.Gen

end
-- ==== Proof.Ideal.Point.lean ====
module

public import proofs.«01_k».proof.Proof.Ideal.Spec
public import Idealize.ShloMosaic.Lib.Pipeline.ValueKit

@[expose] public section

/-! # The expert kernel's operations element by element

What a tile's projection, gates and mixed sum are at one index, over the extended reals. -/

set_option maxRecDepth 16384

noncomputable section

namespace Cert.KernelIdeal.Gen

open Idealize.ShloMosaic Idealize.ShloMosaic.TcCoe Idealize.SL.Sem

/-- One head's weight of one expert for one token: the product of its two gates, or zero under the head's threshold. -/
def weight (a b τ : EReal) : EReal := if τ ≤ b * a then b * a else 0

/-- The activation of one projection. -/
def act (s : EReal) : EReal :=
  Ideal.ofBits .f32 0x3F000000#32 * s * (1 + Ideal.tanh (Ideal.ofBits .f32 0x3F4C422A#32 * (s + Ideal.ofBits .f32 0x3D372713#32 * (s * s * s))))

theorem pure_head (p : Vec Ideal S1x128x512 .f32) (r : Vec Ideal S1x1x512 .f32) (q : Vec Ideal S1x512 .f32) (e : Fin 128) (k : Fin 512) :
    (select (cmpf .oge (mulf (shapeCast S128x512 p shapeCasts_S1x128x512_S128x512)
          (broadcastTo S128x512 (shapeCast S1x512 r shapeCasts_S1x1x512_S1x512) broadcasts_S1x512_S128x512) : FVec Ideal S128x512 .f32)
        (broadcastTo S128x512 q broadcasts_S1x512_S128x512))
      (mulf (shapeCast S128x512 p shapeCasts_S1x128x512_S128x512)
          (broadcastTo S128x512 (shapeCast S1x512 r shapeCasts_S1x1x512_S1x512) broadcasts_S1x512_S128x512))
      (broadcast S128x512 (Scalar.ofBits .f32 0x00000000#32)) : FVec Ideal S128x512 .f32) (ix2 e k)
    = weight (r (ix3 0 0 k)) (p (ix3 0 e k)) (q (ix2 0 k)) := by
  pointwise [weight]

theorem plane_at (x : Vec Ideal S8x128x512 .f32) (h : ℕ) (hh : h < 8) (e : Fin 128) (k : Fin 512) :
    (VecWindow.window x ![h, 0, 0] S1x128x512.size (inb_plane hh) : Vec Ideal S1x128x512 .f32) (ix3 0 e k) = x (ix3 ⟨h, hh⟩ e k) := by
  simp only [VecWindow.window_eq_ld]
  pointwise []

theorem row_at (x : Vec Ideal S8x128x512 .f32) (h : ℕ) (hh : h < 8) (row : ℕ) (hr : row < 128) (k : Fin 512) :
    (VecWindow.window x ![h, row, 0] S1x1x512.size (inb_row hh hr) : Vec Ideal S1x1x512 .f32) (ix3 0 0 k) = x (ix3 ⟨h, hh⟩ ⟨row, hr⟩ k) := by
  simp only [VecWindow.window_eq_ld]
  pointwise []

theorem tau_at (x : Vec Ideal S8x512 .f32) (h : ℕ) (hh : h < 8) (k : Fin 512) :
    (VecWindow.window x ![h, 0] S1x512.size (inb_tau hh) : Vec Ideal S1x512 .f32) (ix2 0 k) = x (ix2 ⟨h, hh⟩ k) := by
  simp only [VecWindow.window_eq_ld]
  pointwise []

theorem headT_at (x5 x6 : Vec Ideal S8x128x512 .f32) (x7 : Vec Ideal S8x512 .f32) (h : ℕ) (hh : h < 8) (row : ℕ) (hr : row < 128)
    (e : Fin 128) (k : Fin 512) :
    headT x5 x6 x7 h hh row hr (ix2 e k) = weight (x5 (ix3 ⟨h, hh⟩ ⟨row, hr⟩ k)) (x6 (ix3 ⟨h, hh⟩ e k)) (x7 (ix2 ⟨h, hh⟩ k)) :=
  (pure_head _ _ _ e k).trans (by rw [plane_at x6 h hh, row_at x5 h hh row hr, tau_at x7 h hh])

/-- A group's gate: the eight heads' weights summed. -/
theorem gateV_at (x5 x6 : Vec Ideal S8x128x512 .f32) (x7 : Vec Ideal S8x512 .f32) (row : ℕ) (hr : row < 128) (e : Fin 128) (k : Fin 512) :
    gateV x5 x6 x7 row hr (ix2 e k) = ∑ h : Fin 8, weight (x5 (ix3 h ⟨row, hr⟩ k)) (x6 (ix3 h e k)) (x7 (ix2 h k)) := by
  pointwise [gateV]
  simp only [headT_at, Fin.sum_univ_eight]
  rfl

theorem geluV_at (a : FVec Ideal S128x512 .f32) (e : Fin 128) (k : Fin 512) : geluV a (ix2 e k) = act (a (ix2 e k)) := by
  pointwise [geluV, act]

theorem act_at (s : Vec Ideal S512x512 .f32) (o : ℕ) (ho : o + 128 ≤ 512) (e : Fin 128) (k : Fin 512) :
    (VecWindow.window s ![o, 0] S128x512.size (inb_act ho) : Vec Ideal S128x512 .f32) (ix2 e k) = s (ix2 ⟨o + e.val, by omega⟩ k) := by
  simp only [VecWindow.window_eq_ld]
  pointwise []

/-- A group's gated activations, token by token. -/
theorem pieceV_at (x5 x6 : Vec Ideal S8x128x512 .f32) (x7 : Vec Ideal S8x512 .f32) (s : Vec Ideal S512x512 .f32) (row : ℕ) (hr : row < 128)
    (o : ℕ) (ho : o + 128 ≤ 512) (k : Fin 512) (e : Fin 128) :
    pieceV x5 x6 x7 s row hr o ho (ix2 k e)
      = (∑ h : Fin 8, weight (x5 (ix3 h ⟨row, hr⟩ k)) (x6 (ix3 h e k)) (x7 (ix2 h k))) * act (s (ix2 ⟨o + e.val, by omega⟩ k)) := by
  rw [← gateV_at]
  unfold pieceV
  generalize gateV x5 x6 x7 row hr = g
  pointwise [geluV_at]
  rw [show (VecWindow.window s ![o, 0] ![128, 512] (inb_act ho) : Vec Ideal S128x512 .f32) (ix2 e k) = s (ix2 ⟨o + e.val, by omega⟩ k) from act_at s o ho e k]

theorem pair_low (x4 : Vec Ideal S512x2048 .bf16) (a b : FVec Ideal S512x128 .bf16) (k : Fin 512) (d : Fin 2048) :
    pairV x4 a b 0 (by decide) (ix2 k d) = (∑ e : Fin 128, a (ix2 k e) * x4 (ix2 ⟨e.val, by omega⟩ d)) + ∑ e : Fin 128, b (ix2 k e) * x4 (ix2 ⟨128 + e.val, by omega⟩ d) := by
  simp only [pairV, VecWindow.window_eq_ld]
  pointwise []

theorem pair_high (x4 : Vec Ideal S512x2048 .bf16) (a b : FVec Ideal S512x128 .bf16) (k : Fin 512) (d : Fin 2048) :
    pairV x4 a b 256 (by decide) (ix2 k d) = (∑ e : Fin 128, a (ix2 k e) * x4 (ix2 ⟨256 + e.val, by omega⟩ d)) + ∑ e : Fin 128, b (ix2 k e) * x4 (ix2 ⟨384 + e.val, by omega⟩ d) := by
  simp only [pairV, VecWindow.window_eq_ld]
  pointwise []
  blk_point []

/-- A tile's projections: each expert's first weights against each token's features. -/
theorem projV_at (x2 x3 : Vec Ideal S512x2048 .bf16) (e k : Fin 512) :
    projV x2 x3 (ix2 e k) = ∑ n : Fin 2048, x2 (ix2 k n) * x3 (ix2 e n) := by
  simp only [projV, chunkV, VecWindow.window_eq_ld]
  pointwise []
  rw [Fin.sum_univ_tiles 4 512 rfl, Fin.sum_univ_four]
  simp only [mul_comm (x3 _)]
  blk_point []

/-- The sum after a tile is mixed in: each of its 512 experts adds its gated activation times its second weights. The tile
    is number `q`, whose groups' gate rows are `4 q` to `4 q + 3`. -/
theorem mixV_at (x4 : Vec Ideal S512x2048 .bf16) (x5 x6 : Vec Ideal S8x128x512 .f32) (x7 : Vec Ideal S8x512 .f32) (x8 : Vec Ideal S512x2048 .f32)
    (s : Vec Ideal S512x512 .f32) (r0 r1 r2 r3 : ℕ) (h0 : r0 < 128) (h1 : r1 < 128) (h2 : r2 < 128) (h3 : r3 < 128) (q : ℕ) (hq : q < 32)
    (e0 : r0 = 4 * q + 0) (e1 : r1 = 4 * q + 1) (e2 : r2 = 4 * q + 2) (e3 : r3 = 4 * q + 3) (k : Fin 512) (d : Fin 2048) :
    mixV x4 x5 x6 x7 x8 s r0 r1 r2 r3 h0 h1 h2 h3 (ix2 k d)
      = x8 (ix2 k d) + ∑ n : Fin 512, (∑ h : Fin 8, weight (x5 (ix3 h ⟨4 * q + n.val / 128, by omega⟩ k)) (x6 (ix3 h ⟨n.val % 128, by omega⟩ k)) (x7 (ix2 h k)))
          * act (s (ix2 n k)) * x4 (ix2 n d) := by
  subst e0 e1 e2 e3
  unfold mixV
  simp only [VecWindow.window_eq_ld]
  pointwise []
  rw [pair_low, pair_high]
  simp only [pieceV_at]
  rw [Fin.sum_univ_tiles 4 128 rfl, Fin.sum_univ_four]
  simp only [add_assoc, Fin.val_zero, Fin.val_one, Fin.val_two, (rfl : ((3 : Fin 4) : ℕ) = 3)]
  blk_point []

end Cert.KernelIdeal.Gen

end
-- ==== Proof.Ideal.Ref.lean ====
module

public import proofs.«01_k».proof.Proof.Gen.ReferenceIdeal.Run
public import proofs.«01_k».proof.Proof.Ideal.Point

@[expose] public section

/-! # The expert mixing of the reference, element by element

`REF` is the reference's own composed term; at a token and a feature it is the sum over the experts of gate times activation
times second weight. -/

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Gen (weight act)

/-- What expert `n` adds at token `t`, feature `d`. -/
def expert (X U V : FVec Ideal S16384x2048 .bf16) (E1 E2 : FVec Ideal S8x128x16384 .f32) (T : FVec Ideal S8x16384 .f32)
    (t : Fin 16384) (d : Fin 2048) (n : Fin 16384) : EReal :=
  (∑ h : Fin 8, weight (E1 (ix3 h ⟨n.val / 128, by omega⟩ t)) (E2 (ix3 h ⟨n.val % 128, by omega⟩ t)) (T (ix2 h t)))
    * act (∑ k : Fin 2048, X (ix2 t k) * U (ix2 n k)) * V (ix2 n d)

/-- The reference's result over its arguments. -/
def REF (X U V : FVec Ideal S16384x2048 .bf16) (E1 E2 : FVec Ideal S8x128x16384 .f32) (T : FVec Ideal S8x16384 .f32) : FVec Ideal S16384x2048 .f32 :=
  Host.dotGeneral dot_S16384x16384_S16384x2048_S16384x2048_1_0_0_1_n_n none (mulf (transpose S16384x16384 [1, 0] (shapeCast _ (Host.reduceAdd (select (cmpf .oge (mulf (broadcastInDim S8x128x128x16384 ![0, 1, 2, 3] bcast_S8x128x1x16384_S8x128x128x16384_0_1_2_3 (broadcastInDim S8x128x1x16384 ![0, 1, 3] bcast_S8x128x16384_S8x128x1x16384_0_1_3 E1)) (broadcastInDim S8x128x128x16384 ![0, 1, 2, 3] bcast_S8x1x128x16384_S8x128x128x16384_0_1_2_3 (broadcastInDim S8x1x128x16384 ![0, 2, 3] bcast_S8x128x16384_S8x1x128x16384_0_2_3 E2))) (broadcastInDim S8x128x128x16384 ![0, 1, 2, 3] bcast_S8x1x1x16384_S8x128x128x16384_0_1_2_3 (broadcastInDim S8x1x1x16384 ![0, 3] bcast_S8x16384_S8x1x1x16384_0_3 T))) (mulf (broadcastInDim S8x128x128x16384 ![0, 1, 2, 3] bcast_S8x128x1x16384_S8x128x128x16384_0_1_2_3 (broadcastInDim S8x128x1x16384 ![0, 1, 3] bcast_S8x128x16384_S8x128x1x16384_0_1_3 E1)) (broadcastInDim S8x128x128x16384 ![0, 1, 2, 3] bcast_S8x1x128x16384_S8x128x128x16384_0_1_2_3 (broadcastInDim S8x1x128x16384 ![0, 2, 3] bcast_S8x128x16384_S8x1x128x16384_0_2_3 E2))) (broadcastInDim S8x128x128x16384 ![] bcast_S_S8x128x128x16384 (id (constant S_ .f32 0x00000000#32)))) (constant S_ .f32 0x00000000#32) reducesTo_S8x128x128x16384_S128x128x16384_d0 h_S_) shapeCasts_S128x128x16384_S16384x16384) transposes_S16384x16384_S16384x16384_1_0) (mulf (Host.dotGeneral dot_S16384x2048_S2048x16384_S16384x16384_1_0_0_1_n_n none (extf .f32 X bitsLt_bf16_f32) (transpose S2048x16384 [1, 0] (extf .f32 U bitsLt_bf16_f32) transposes_S16384x2048_S2048x16384_1_0)) (mulf (broadcastInDim S16384x16384 ![] bcast_S_S16384x16384 (constant S_ .f32 0x3F000000#32)) (addf (broadcastInDim S16384x16384 ![] bcast_S_S16384x16384 (constant S_ .f32 0x3F800000#32)) (Host.tanh (mulf (broadcastInDim S16384x16384 ![] bcast_S_S16384x16384 (constant S_ .f32 0x3F4C422A#32)) (addf (Host.dotGeneral dot_S16384x2048_S2048x16384_S16384x16384_1_0_0_1_n_n none (extf .f32 X bitsLt_bf16_f32) (transpose S2048x16384 [1, 0] (extf .f32 U bitsLt_bf16_f32) transposes_S16384x2048_S2048x16384_1_0)) (mulf (broadcastInDim S16384x16384 ![] bcast_S_S16384x16384 (constant S_ .f32 0x3D372713#32)) (mulf (mulf (Host.dotGeneral dot_S16384x2048_S2048x16384_S16384x16384_1_0_0_1_n_n none (extf .f32 X bitsLt_bf16_f32) (transpose S2048x16384 [1, 0] (extf .f32 U bitsLt_bf16_f32) transposes_S16384x2048_S2048x16384_1_0)) (Host.dotGeneral dot_S16384x2048_S2048x16384_S16384x16384_1_0_0_1_n_n none (extf .f32 X bitsLt_bf16_f32) (transpose S2048x16384 [1, 0] (extf .f32 U bitsLt_bf16_f32) transposes_S16384x2048_S2048x16384_1_0))) (Host.dotGeneral dot_S16384x2048_S2048x16384_S16384x16384_1_0_0_1_n_n none (extf .f32 X bitsLt_bf16_f32) (transpose S2048x16384 [1, 0] (extf .f32 U bitsLt_bf16_f32) transposes_S16384x2048_S2048x16384_1_0))))))))))) (extf .f32 V bitsLt_bf16_f32)

theorem REF_at (X U V : FVec Ideal S16384x2048 .bf16) (E1 E2 : FVec Ideal S8x128x16384 .f32) (T : FVec Ideal S8x16384 .f32)
    (t : Fin 16384) (d : Fin 2048) : REF X U V E1 E2 T (ix2 t d) = ∑ n : Fin 16384, expert X U V E1 E2 T t d n := by
  pointwise [REF, id_eq]
  refine Finset.sum_congr rfl fun n _ => ?_
  unfold expert weight act
  generalize (∑ k : Fin 2048, X (ix2 t k) * U (ix2 n k)) = s
  simp only [mul_comm (E2 _), ← mul_assoc, mul_comm s (Ideal.ofBits .f32 0x3F000000#32)]

end Cert.ReferenceIdeal.Value

end
-- ==== Proof.Ideal.Value.lean ====
module

public import proofs.«01_k».proof.Proof.Ideal.Body
public import proofs.«01_k».proof.Proof.Ideal.Ref

@[expose] public section

/-! # What the expert kernel leaves in its result

A block's sum after `j` tiles is the sum of the first `512 j` experts' contributions, so what is written back, after the
32 tiles, is the reference's sum over the 16384 experts. -/

set_option maxRecDepth 16384

noncomputable section

namespace Cert.KernelIdeal.Gen

open Idealize.ShloMosaic Idealize.ShloMosaic.TcCoe Idealize.SL.Sem
open Idealize.ShloMosaic.Pipeline (Dat)
open Cert.ReferenceIdeal.Value (expert REF REF_at)

variable (m : (ℓ : Loc nD τ sig) → Buf (Elt Ideal) ℓ)

/-- The windows' blocks at every point: block `t / 33` of the tokens, the tile `t % 33` of the first weights (the last
    one again at a block's last point), the tile before of the second weights. -/
theorem idx : ∀ t : Fin cfg0.N, win0_0.index t = ![t.val / 33, 0] ∧ win0_1.index t = ![min (t.val % 33) 31, 0]
    ∧ win0_2.index t = ![t.val % 33 - 1, 0] ∧ win0_3.index t = ![0, 0, t.val / 33] ∧ win0_4.index t = ![0, 0, t.val / 33]
    ∧ win0_5.index t = ![0, t.val / 33] ∧ win0_6.index t = ![t.val / 33, 0] :=
  (by decide +kernel : ∀ t : Fin grid0.N, _)

/-- What expert `n` adds, over the kernel's argument arrays. -/
abbrev adds (c : Dev nD) (t : Fin 16384) (d : Fin 2048) (n : Fin 16384) : EReal :=
  expert (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) t d n

/-- What tile `q`'s experts add. -/
def tileAdds (c : Dev nD) (t : Fin 16384) (d : Fin 2048) (q : ℕ) : EReal :=
  if h : q < 32 then ∑ k : Fin 512, adds m c t d ⟨q * 512 + k.val, by omega⟩ else 0

/-- Point `t`, not the first of its block, adds the tile before's experts. -/
theorem mixAt_at (c : Dev nD) (t : Fin cfg0.N) (h : ¬ t.val % 33 = 0) (x : Vec Ideal S512x2048 .f32) (k : Fin 512) (d : Fin 2048)
    (hk : t.val / 33 * 512 + k.val < 16384) :
    mixAt m c t h x (actAt m c (pred0 t)) (ix2 k d) = x (ix2 k d) + tileAdds m c ⟨t.val / 33 * 512 + k.val, hk⟩ d (t.val % 33 - 1) := by
  have ht := tile_eq t
  have h' : (grid0.coords t 1).val ≠ 0 := by rw [ht]; exact h
  have e (r : Fin 4) := (rowNat_eq (grid0.coords t) r h').trans (by rw [ht])
  have hq : t.val % 33 - 1 < 32 := by omega
  unfold mixAt tileAdds
  rw [dif_pos hq]
  refine (mixV_at _ _ _ _ _ _ _ _ _ _ _ _ _ _ (t.val % 33 - 1) hq (e 0) (e 1) (e 2) (e 3) k d).trans ?_
  refine congrArg (x (ix2 k d) + ·) (Finset.sum_congr rfl fun n _ => ?_)
  unfold actAt
  rw [projV_at]
  simp only [adds, expert]
  have hp : (pred0 t).val = t.val - 1 := rfl
  blk_point [iblk, V, idx t, idx (pred0 t)]

/-- A block's sum after `j` tiles. -/
theorem sumAt_at (c : Dev nD) (b : ℕ) (hb : b < 32) (k : Fin 512) (d : Fin 2048) : ∀ (j : ℕ) (hj : j < 33) (hn : 33 * b + j < cfg0.N),
    sumAt m c (33 * b + j) hn (ix2 k d) = ∑ q ∈ Finset.range j, tileAdds m c ⟨b * 512 + k.val, by omega⟩ d q
  | 0, _, hn => by
    rw [sumAt_first m c ⟨33 * b + 0, hn⟩ (by dsimp only; omega)]
    pointwise [zeroV, Finset.sum_range_zero]
  | j + 1, hj, hn => by
    have ht : ¬ (⟨33 * b + (j + 1), hn⟩ : Fin cfg0.N).val % 33 = 0 := by dsimp only; omega
    have hd : (33 * b + (j + 1)) / 33 = b := by omega
    have hm : (33 * b + (j + 1)) % 33 - 1 = j := by omega
    rw [sumAt_later m c ⟨33 * b + (j + 1), hn⟩ ht, mixAt_at m c _ ht _ k d (by dsimp only; omega), Finset.sum_range_succ]
    refine congrArg₂ (· + ·) (sumAt_at c b hb k d j (by omega) (by omega)) ?_
    dsimp only
    simp only [hd, hm]

/-- The 32 tiles' experts are all the experts. -/
theorem tiles_all (c : Dev nD) (t : Fin 16384) (d : Fin 2048) :
    ∑ q ∈ Finset.range 32, tileAdds m c t d q = ∑ n : Fin 16384, adds m c t d n := by
  rw [Fin.sum_univ_tiles 32 512 rfl, Finset.sum_range]
  exact Finset.sum_congr rfl fun q _ => dif_pos q.isLt

/-- The result array after the run is the reference's term over the kernel's arguments. -/
theorem final (c : Dev nD) : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have h32 : t.val % 33 = 32 := (flush0_6 t).mp hf
  have hN : t.val < 1056 := lt_of_lt_of_eq t.isLt N_0
  blk_simp [idx t]
  rw [after0_6]
  obtain ⟨k, d, rfl⟩ : ∃ (k : Fin 512) (d : Fin 2048), y = (ix2 k d : S512x2048.Idx) := ⟨y 0, y 1, eq_ix2 (n0 := 512) (n1 := 2048) y⟩
  have hb : t.val / 33 * 512 + k.val < 16384 := by omega
  have he : (win0_6.blk t).view.emb (ix2 k d : S512x2048.Idx) = (ix2 ⟨t.val / 33 * 512 + k.val, hb⟩ d : S16384x2048.Idx) := by
    blk_ext [idx t]
  have hs := sumAt_at m c (t.val / 33) (by omega) k d 32 (by omega) (lt_of_lt_of_eq (by omega : _ < 1056) N_0.symm)
  have ht : (33 * (t.val / 33) + 32) = t.val := by omega
  simp only [ht] at hs
  exact hs.trans ((tiles_all m c _ _).trans ((REF_at _ _ _ _ _ _ _ _).symm.trans (congrArg (REF _ _ _ _ _ _) he.symm)))

end Cert.KernelIdeal.Gen

end
-- ==== Proof.SampleBits.Cond.lean ====
module

public import proofs.«01_k».proof.Proof.Gen.Kernel23.Frame
public import Idealize.ShloMosaic.Lib.WordCmp

@[expose] public section

/-! # The body's branches in closed form

Grid point `t` is block `t / 33`, tile number `t % 33`: which branch of the body runs there. -/

set_option maxRecDepth 16384

noncomputable section

namespace Cert.Kernel23.Gen

open Idealize.ShloMosaic Idealize.ShloMosaic.TcCoe Idealize.ShloMosaic.Tactic

/-- The tile number of a point. -/
theorem tile_eq (t : Fin cfg0.N) : ((grid0.coords t) 1).val = t.val % 33 := by
  have h : ((grid0.coords t) 1).val = t.val / 1 % 33 := Pipeline.Grid.coords_val t 1 (by decide) rfl
  rw [h, Nat.div_one]

theorem cond1_iff (i : grid0.Coords) : k0_cond1 i = 1#1 ↔ (i 1).val = 0 := by
  unfold k0_cond1; dsimp only
  generalize hk : i 1 = k
  clear hk
  change Fin 33 at k
  revert k; decide +kernel

theorem cond2_iff (i : grid0.Coords) : k0_cond2 i = 1#1 ↔ (i 1).val % 2 = 0 ∧ 0 < (i 1).val ∧ (i 1).val < 32 := by
  unfold k0_cond2; dsimp only
  generalize hk : i 1 = k
  clear hk
  change Fin 33 at k
  revert k; decide +kernel

theorem cond3_iff (i : grid0.Coords) : k0_cond3 i = 1#1 ↔ (i 1).val % 2 = 1 := by
  unfold k0_cond3; dsimp only
  generalize hk : i 1 = k
  clear hk
  change Fin 33 at k
  revert k; decide +kernel

theorem cond4_iff (i : grid0.Coords) : k0_cond4 i = 1#1 ↔ (i 1).val = 32 := by
  unfold k0_cond4; dsimp only
  generalize hk : i 1 = k
  clear hk
  change Fin 33 at k
  revert k; decide +kernel

theorem cond5_iff (i : grid0.Coords) : ¬ k0_cond5 i = 1#1 := by
  unfold k0_cond5; dsimp only
  generalize hk : i 1 = k
  clear hk
  change Fin 33 at k
  revert k; decide +kernel

end Cert.Kernel23.Gen

end
-- ==== Proof.SampleBits.Body.lean ====
module

public import Idealize.ShloMosaic.Lib.Claim
public import proofs.«01_k».proof.Proof.SampleBits.Cond
public import proofs.«01_k».proof.Proof.SampleBits.RunA
public import proofs.«01_k».proof.Proof.SampleBits.RunB
public import proofs.«01_k».proof.Proof.SampleBits.RunC
public import proofs.«01_k».proof.Proof.SampleBits.RunD

@[expose] public section

/-! # The frame of the expert kernel at the machine's values

The body's obligation with nothing named of what the scratch and the output hold, and the frame from it. -/

set_option maxRecDepth 16384

noncomputable section

namespace Cert.Kernel23.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer, whole. -/
abbrev scA : Memref sig .tc .vmem S512x128 .f32 := Memref.whole cc0_scratch0
abbrev scB : Memref sig .tc .vmem S512x128 .f32 := Memref.whole cc0_scratch1

theorem PhiA_eq (c : Dev nD) : (Pipeline.ΦA (Val := Elt F) spec0 c : sProp 𝕄)
    = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- The output's contents are not followed. -/
def forgets0 : Fin 7 → Bool := fun w => w.val == 6

/-- The proof data of the pipeline: the inputs' buffers keep their blocks; nothing is said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

set_option maxHeartbeats 4000000 in
/-- The body at a block's first point. -/
theorem soundA (c : Dev nD) (t : Fin cfg0.N) (h : t.val % 33 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runA c (grid0.coords t) _ _ _ _ _ _ _ _ _ _ _ _ _ _ _ _ _ _ ((cond1_iff _).mpr (by rw [tile_eq]; omega)) (fun h => absurd ((cond2_iff _).mp h) (by rw [tile_eq]; omega)) (fun h => absurd ((cond3_iff _).mp h) (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HA]; · iexists _; iexact HA
  isplitl [HB]; · iexists _; iexact HB
  iintro ⟨H0, H1, H2, H3, H4, H5, H6, HA, HB⟩
  isplitl [HA HB Hg]
  · isplitl [HA HB]
    · isplitl [HA]
      · iexists _; iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at an even tile number within a block. -/
theorem soundB (c : Dev nD) (t : Fin cfg0.N) (h0 : ¬ t.val % 33 = 0) (h32 : ¬ t.val % 33 = 32) (h : ¬ t.val % 33 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runB c (grid0.coords t) _ _ _ _ _ _ _ _ _ _ _ _ _ _ _ _ _ _ (fun h => absurd ((cond1_iff _).mp h) (by rw [tile_eq]; omega)) ((cond2_iff _).mpr (by rw [tile_eq]; omega)) (fun h => absurd ((cond3_iff _).mp h) (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t) _ dB).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexists _; iexact HA
  isplitl [HB]; · iexact HB
  iintro ⟨H0, H1, H2, H3, H4, H5, H6, HA, HB⟩
  isplitl [HA HB Hg]
  · isplitl [HA HB]
    · isplitl [HA]
      · iexists _; iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at an odd tile number. -/
theorem soundC (c : Dev nD) (t : Fin cfg0.N) (h : t.val % 33 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runC c (grid0.coords t) _ _ _ _ _ _ _ _ _ _ _ _ _ _ _ _ _ _ (fun h => absurd ((cond1_iff _).mp h) (by rw [tile_eq]; omega)) (fun h => absurd ((cond2_iff _).mp h) (by rw [tile_eq]; omega)) ((cond3_iff _).mpr (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t) _ dA).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexists _; iexact HB
  iintro ⟨H0, H1, H2, H3, H4, H5, H6, HA, HB⟩
  isplitl [HA HB Hg]
  · isplitl [HA HB]
    · isplitl [HA]
      · iexists _; iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at a block's last point. -/
theorem soundD (c : Dev nD) (t : Fin cfg0.N) (h : t.val % 33 = 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, PhiA_eq]
  iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runD c (grid0.coords t) _ _ _ _ _ _ _ _ _ _ _ _ _ _ _ _ _ _ (fun h => absurd ((cond1_iff _).mp h) (by rw [tile_eq]; omega)) (fun h => absurd ((cond2_iff _).mp h) (by rw [tile_eq]; omega)) (fun h => absurd ((cond3_iff _).mp h) (by rw [tile_eq]; omega)) ((cond4_iff _).mpr (by rw [tile_eq]; omega)) (cond5_iff _) (iblk m c 0 t) (iblk m c 1 t) (iblk m c 2 t) (iblk m c 3 t) (iblk m c 4 t) (iblk m c 5 t) _ dB).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexists _; iexact HA
  isplitl [HB]; · iexact HB
  iintro ⟨H0, H1, H2, H3, H4, H5, H6, HA, HB⟩
  isplitl [HA HB Hg]
  · isplitl [HA HB]
    · isplitl [HA]
      · iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 33 = 0
  · exact soundA m c t h0
  by_cases h1 : t.val % 33 % 2 = 1
  · exact soundC m c t h1
  by_cases h2 : t.val % 33 = 32
  · exact soundD m c t h2
  · exact soundB m c t h0 h2 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

set_option backward.isDefEq.respectTransparency.types false in
/-- The run: the inputs' arrays end as they were, and every counter at zero. -/
theorem run_main_quiescent : θ_run defs (onTc (τ := τ) (main (F := F))) (s₀ m ρ) (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c))⟩) (run_main m ρ)) ((θ_run defs _ _).mono (fun _ h => h.2) (run_main_quiescent m ρ))

end Cert.Kernel23.Gen

end
-- ==== Proof.SampleIdeal.Spec.lean ====
module

public import proofs.«01_k».proof.Proof.Gen.Kernel23Ideal.Frame
public import proofs.«01_k».proof.Proof.Gen.Kernel23Ideal.Skeleton
public import Idealize.ShloMosaic.Lib.VecWindow

@[expose] public section

/-! # What one grid point of the expert kernel computes, as vector operations

A grid point works on 512 tokens and, of the 16384 experts, on two tiles of 512: it projects the tokens on one tile's
first weights (`projV`) and mixes the tile before it into the block's sum (`mixV`). -/

set_option maxRecDepth 16384

noncomputable section

namespace Cert.Kernel23Ideal.Gen

open Idealize.ShloMosaic Idealize.ShloMosaic.TcCoe

variable {F : FTy → Type} [FloatOps F]

/-- A load through a whole memref that holds `x` reads a window of `x`. -/
theorem readAt_unread {s : Shape} {e : EltTy} {arg : Memref sig .tc .vmem s e} (h : arg.IsWhole) (x : s.Idx → Elt F e)
    {off size : Fin s.rank → ℕ} (inb : ∀ a, off a + size a ≤ s.size a) :
    arg.view.readAt (Elt F) (Rect.unit off size inb).toLoadRect (h.unread x) = VecWindow.window x off size inb := by
  rw [View.readAt_unit _ _ inb rfl inb, h.read_unread]

/-- The row of the gate table that belongs to expert group `r` of the tile before point `i`'s. -/
def rowNat (i : grid0.Coords) (r : BitVec 32) : ℕ :=
  (Scalar.addi (Scalar.muli (Scalar.subi (BitVec.ofNat 32 (i 1).val) 1#32) 4#32) r).toNat

theorem inb_row {h : ℕ} (hh : h < 8) {row : ℕ} (hr : row < 128) : ∀ a, (![h, row, 0] : Fin 3 → ℕ) a + S1x1x128.size a ≤ S8x128x128.size a := fun
  | ⟨0, _⟩ => Nat.succ_le_of_lt hh
  | ⟨1, _⟩ => Nat.succ_le_of_lt hr
  | ⟨2, _⟩ => Nat.le_refl 128

theorem inb_plane {h : ℕ} (hh : h < 8) : ∀ a, (![h, 0, 0] : Fin 3 → ℕ) a + S1x128x128.size a ≤ S8x128x128.size a := fun
  | ⟨0, _⟩ => Nat.succ_le_of_lt hh
  | ⟨1, _⟩ => Nat.le_refl 128
  | ⟨2, _⟩ => Nat.le_refl 128

theorem inb_tau {h : ℕ} (hh : h < 8) : ∀ a, (![h, 0] : Fin 2 → ℕ) a + S1x128.size a ≤ S8x128.size a := fun
  | ⟨0, _⟩ => Nat.succ_le_of_lt hh
  | ⟨1, _⟩ => Nat.le_refl 128

theorem inb_act {o : ℕ} (ho : o + 128 ≤ 512) : ∀ a, (![o, 0] : Fin 2 → ℕ) a + S128x128.size a ≤ S512x128.size a := fun
  | ⟨0, _⟩ => ho
  | ⟨1, _⟩ => Nat.le_refl 128

theorem inb_half {o : ℕ} (ho : o + 256 ≤ 512) : ∀ a, (![o, 0] : Fin 2 → ℕ) a + S256x2048.size a ≤ S512x2048.size a := fun
  | ⟨0, _⟩ => ho
  | ⟨1, _⟩ => Nat.le_refl 2048

theorem inb_chunk {o : ℕ} (ho : o + 512 ≤ 2048) : ∀ a, (![0, o] : Fin 2 → ℕ) a + S512x512.size a ≤ S512x2048.size a := fun
  | ⟨0, _⟩ => Nat.le_refl 512
  | ⟨1, _⟩ => ho

theorem inb_tokens {o : ℕ} (ho : o + 512 ≤ 2048) : ∀ a, (![0, o] : Fin 2 → ℕ) a + S128x512.size a ≤ S128x2048.size a := fun
  | ⟨0, _⟩ => Nat.le_refl 128
  | ⟨1, _⟩ => ho

/-- One head's weights of the 128 experts of a group, for each token: a product of two gates. -/
def headW (x5 x6 : Vec F S8x128x128 .f32) (h : ℕ) (hh : h < 8) (row : ℕ) (hr : row < 128) : FVec F S128x128 .f32 :=
  mulf (shapeCast S128x128 (VecWindow.window x6 ![h, 0, 0] S1x128x128.size (inb_plane hh) : Vec F S1x128x128 .f32) shapeCasts_S1x128x128_S128x128)
    (broadcastTo S128x128 (shapeCast S1x128 (VecWindow.window x5 ![h, row, 0] S1x1x128.size (inb_row hh hr) : Vec F S1x1x128 .f32) shapeCasts_S1x1x128_S1x128)
      broadcasts_S1x128_S128x128)

/-- The same, with zero for a weight under the head's threshold. -/
def headT (x5 x6 : Vec F S8x128x128 .f32) (x7 : Vec F S8x128 .f32) (h : ℕ) (hh : h < 8) (row : ℕ) (hr : row < 128) : FVec F S128x128 .f32 :=
  select (cmpf .oge (headW x5 x6 h hh row hr)
      (broadcastTo S128x128 (VecWindow.window x7 ![h, 0] S1x128.size (inb_tau hh) : Vec F S1x128 .f32) broadcasts_S1x128_S128x128))
    (headW x5 x6 h hh row hr) (broadcast S128x128 (Scalar.ofBits .f32 0x00000000#32))

/-- The gate of a group's experts: the eight heads' weights summed. -/
def gateV (x5 x6 : Vec F S8x128x128 .f32) (x7 : Vec F S8x128 .f32) (row : ℕ) (hr : row < 128) : FVec F S128x128 .f32 :=
  addf (addf (addf (addf (addf (addf (addf (addf (broadcast S128x128 (Scalar.ofBits .f32 0x00000000#32))
    (headT x5 x6 x7 0 (by decide) row hr)) (headT x5 x6 x7 1 (by decide) row hr)) (headT x5 x6 x7 2 (by decide) row hr))
    (headT x5 x6 x7 3 (by decide) row hr)) (headT x5 x6 x7 4 (by decide) row hr)) (headT x5 x6 x7 5 (by decide) row hr))
    (headT x5 x6 x7 6 (by decide) row hr)) (headT x5 x6 x7 7 (by decide) row hr)

/-- The activation (the tanh form of GELU). -/
def geluV (a : FVec F S128x128 .f32) : FVec F S128x128 .f32 :=
  mulf (mulf (broadcast S128x128 (Scalar.ofBits .f32 0x3F000000#32)) a)
    (addf (broadcast S128x128 (Scalar.ofBits .f32 0x3F800000#32))
      (tanh (mulf (broadcast S128x128 (Scalar.ofBits .f32 0x3F4C422A#32))
        (addf a (mulf (broadcast S128x128 (Scalar.ofBits .f32 0x3D372713#32)) (mulf (mulf a a) a))))))

/-- A group's gated activations, a row per token. -/
def pieceV (x5 x6 : Vec F S8x128x128 .f32) (x7 : Vec F S8x128 .f32) (s : Vec F S512x128 .f32) (row : ℕ) (hr : row < 128) (o : ℕ) (ho : o + 128 ≤ 512) :
    FVec F S128x128 .bf16 :=
  truncf .bf16 (transpose S128x128 [1, 0]
    (mulf (gateV x5 x6 x7 row hr) (geluV (VecWindow.window s ![o, 0] S128x128.size (inb_act ho) : Vec F S128x128 .f32)))
    transposes_S128x128_p1_0_S128x128) bitsLt_bf16_f32

/-- Two groups' gated activations times their second weights. -/
def pairV (x4 : Vec F S512x2048 .bf16) (a b : FVec F S128x128 .bf16) (o : ℕ) (ho : o + 256 ≤ 512) : FVec F S128x2048 .f32 :=
  matmul dot_S128x256_S256x2048_S128x2048_1_0_0_1_n_n none
    (concatenate S128x256 1 [⟨S128x128, a⟩, ⟨S128x128, b⟩] concatenates_S128x128_S128x128_S128x256_d1)
    (VecWindow.window x4 ![o, 0] S256x2048.size (inb_half ho) : Vec F S256x2048 .bf16) (constant S128x2048 .f32 0x00000000#32)

/-- A tile of 512 experts mixed into the block's sum `x8`: `s` holds the tile's projections, `row r` its groups' gate rows. -/
def mixV (x4 : Vec F S512x2048 .bf16) (x5 x6 : Vec F S8x128x128 .f32) (x7 : Vec F S8x128 .f32) (x8 : Vec F S128x2048 .f32) (s : Vec F S512x128 .f32)
    (r0 r1 r2 r3 : ℕ) (h0 : r0 < 128) (h1 : r1 < 128) (h2 : r2 < 128) (h3 : r3 < 128) : FVec F S128x2048 .f32 :=
  addf (shapeCast S128x2048 (VecWindow.window x8 ![0, 0] S128x2048.size inb_S128x2048_S128x2048_0_0 : Vec F S128x2048 .f32) shapeCasts_S128x2048_S128x2048)
    (addf (pairV x4 (pieceV x5 x6 x7 s r0 h0 0 (by decide)) (pieceV x5 x6 x7 s r1 h1 128 (by decide)) 0 (by decide))
      (pairV x4 (pieceV x5 x6 x7 s r2 h2 256 (by decide)) (pieceV x5 x6 x7 s r3 h3 384 (by decide)) 256 (by decide)))

/-- One quarter of the projection: 512 of the 2048 features. -/
def chunkV (x2 : Vec F S128x2048 .bf16) (x3 : Vec F S512x2048 .bf16) (o : ℕ) (ho : o + 512 ≤ 2048) : FVec F S512x128 .f32 :=
  matmul dot_S512x512_S128x512_S512x128_1_1_0_0_n_n none
    (VecWindow.window x3 ![0, o] S512x512.size (inb_chunk ho) : Vec F S512x512 .bf16)
    (VecWindow.window x2 ![0, o] S128x512.size (inb_tokens ho) : Vec F S128x512 .bf16) (constant S512x128 .f32 0x00000000#32)

/-- The tokens `x2` projected on a tile's first weights `x3`: a row per expert. -/
def projV (x2 : Vec F S128x2048 .bf16) (x3 : Vec F S512x2048 .bf16) : FVec F S512x128 .f32 :=
  shapeCast S512x128 (addf (addf (addf (chunkV x2 x3 0 (by decide)) (chunkV x2 x3 512 (by decide))) (chunkV x2 x3 1024 (by decide)))
    (chunkV x2 x3 1536 (by decide))) shapeCasts_S512x128_S512x128

/-- The block's sum before the first tile. -/
def zeroV : FVec F S128x2048 .f32 := broadcast S128x2048 (Scalar.ofBits .f32 0x00000000#32)

end Cert.Kernel23Ideal.Gen

end
-- ==== Proof.SampleIdeal.Cond.lean ====
module

public import proofs.«01_k».proof.Proof.SampleIdeal.Spec
public import Idealize.ShloMosaic.Lib.WordCmp

@[expose] public section

/-! # The body's branches in closed form

Grid point `t` is block `t / 33`, tile number `t % 33`: which branch of the body runs there, and which rows of the gate
table it reads. -/

set_option maxRecDepth 16384

noncomputable section

namespace Cert.Kernel23Ideal.Gen

open Idealize.ShloMosaic Idealize.ShloMosaic.TcCoe Idealize.ShloMosaic.Tactic

/-- The tile number of a point. -/
theorem tile_eq (t : Fin cfg0.N) : ((grid0.coords t) 1).val = t.val % 33 := by
  have h : ((grid0.coords t) 1).val = t.val / 1 % 33 := Pipeline.Grid.coords_val t 1 (by decide) rfl
  rw [h, Nat.div_one]

/-- The block of a point. -/
theorem block_eq (t : Fin cfg0.N) : ((grid0.coords t) 0).val = t.val / 33 := by
  have h : ((grid0.coords t) 0).val = t.val / 33 % 1 := Pipeline.Grid.coords_val t 0 (by decide) rfl
  have ht : t.val < 33 := lt_of_lt_of_eq t.isLt N_0
  rw [h]; omega

theorem cond1_iff (i : grid0.Coords) : k0_cond1 i = 1#1 ↔ (i 1).val = 0 := by
  unfold k0_cond1; dsimp only
  generalize hk : i 1 = k
  clear hk
  change Fin 33 at k
  revert k; decide +kernel

theorem cond2_iff (i : grid0.Coords) : k0_cond2 i = 1#1 ↔ (i 1).val % 2 = 0 ∧ 0 < (i 1).val ∧ (i 1).val < 32 := by
  unfold k0_cond2; dsimp only
  generalize hk : i 1 = k
  clear hk
  change Fin 33 at k
  revert k; decide +kernel

theorem cond3_iff (i : grid0.Coords) : k0_cond3 i = 1#1 ↔ (i 1).val % 2 = 1 := by
  unfold k0_cond3; dsimp only
  generalize hk : i 1 = k
  clear hk
  change Fin 33 at k
  revert k; decide +kernel

theorem cond4_iff (i : grid0.Coords) : k0_cond4 i = 1#1 ↔ (i 1).val = 32 := by
  unfold k0_cond4; dsimp only
  generalize hk : i 1 = k
  clear hk
  change Fin 33 at k
  revert k; decide +kernel

theorem cond5_iff (i : grid0.Coords) : ¬ k0_cond5 i = 1#1 := by
  unfold k0_cond5; dsimp only
  generalize hk : i 1 = k
  clear hk
  change Fin 33 at k
  revert k; decide +kernel

/-- The gate rows of the tile before: four a tile. -/
theorem rowNat_eq (i : grid0.Coords) (r : Fin 4) (h : (i 1).val ≠ 0) : rowNat i (BitVec.ofNat 32 r.val) = 4 * ((i 1).val - 1) + r.val := by
  unfold rowNat
  revert h
  generalize hk : i 1 = k
  clear hk
  change Fin 33 at k
  revert k r; decide +kernel

theorem rowNat_lt (t : Fin cfg0.N) (r : Fin 4) (h : ¬ t.val % 33 = 0) : rowNat (grid0.coords t) (BitVec.ofNat 32 r.val) < 128 := by
  have ht := tile_eq t
  rw [rowNat_eq _ r (by rw [ht]; exact h), ht]
  have := r.isLt
  omega

end Cert.Kernel23Ideal.Gen

end
-- ==== Proof.SampleIdeal.RunA.lean ====
module

public import proofs.«01_k».proof.Proof.Gen.Kernel23Ideal.Frame
public import proofs.«01_k».proof.Proof.Gen.Kernel23Ideal.Skeleton
public import Idealize.ShloMosaic.Lib.VecWindow

@[expose] public section

set_option maxRecDepth 16384

noncomputable section

namespace Cert.Kernel23Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an expert tile number zero: the block's sum is set to zero and the first tile's projection is left in the first scratch. -/
def runA (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (h1 : k0_cond1 i = 1#1) (n2 : ¬ k0_cond2 i = 1#1) (n3 : ¬ k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) :
    Σ' (y8 : Vec F S128x2048 .f32), { y9 : Vec F S512x128 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ owns (c : Thread nD τ) arg9 fullShare y9
              ∗ (∃ d, owns (c : Thread nD τ) arg10 fullShare d)) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, ?_, fun E K => ?run⟩
  case run =>
    simp only [cc0__peer_dense_kernel_eq_skeleton]; unfold cc0__peer_dense_kernel_skel
    simp only [k0_part55_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    sl_exec (disch := first | sl_exact h1 | sl_exact n2 | sl_exact n3 | sl_exact n4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _; isplitr; swap; · iexact H9
      ipureintro; exact View.read_writes_full _ _ _ _ _
    · iexists _, _; isplitr; swap; · iexact H10
      ipureintro; rfl

end Cert.Kernel23Ideal.Gen

end
-- ==== Proof.SampleIdeal.ValA.lean ====
module

public import proofs.«01_k».proof.Proof.SampleIdeal.RunA
public import proofs.«01_k».proof.Proof.SampleIdeal.Spec

@[expose] public section

set_option maxRecDepth 16384

noncomputable section

namespace Cert.Kernel23Ideal.Gen

open Idealize.ShloMosaic Idealize.ShloMosaic.TcCoe

variable {F : FTy → Type} [FloatOps F]

set_option maxHeartbeats 4000000 in
/-- The run of case A sets the block's sum to zero. -/
theorem runA_sum (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (h1 : k0_cond1 i = 1#1) (n2 : ¬ k0_cond2 i = 1#1) (n3 : ¬ k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) :
    (runA c i arg2 harg2 arg3 harg3 arg4 harg4 arg5 harg5 arg6 harg6 arg7 harg7 arg8 harg8 arg9 harg9 arg10 harg10 h1 n2 n3 n4 n5 x2 x3 x4 x5 x6 x7).1 = zeroV := by
  unfold runA
  dsimp only
  rfl

set_option maxHeartbeats 4000000 in
/-- The run of case A leaves the tile's projection. -/
theorem runA_act (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (h1 : k0_cond1 i = 1#1) (n2 : ¬ k0_cond2 i = 1#1) (n3 : ¬ k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) :
    (runA c i arg2 harg2 arg3 harg3 arg4 harg4 arg5 harg5 arg6 harg6 arg7 harg7 arg8 harg8 arg9 harg9 arg10 harg10 h1 n2 n3 n4 n5 x2 x3 x4 x5 x6 x7).2.1 = projV x2 x3 := by
  unfold runA
  dsimp only
  simp only [readAt_unread]
  rfl

end Cert.Kernel23Ideal.Gen

end
-- ==== Proof.SampleIdeal.RunB.lean ====
module

public import proofs.«01_k».proof.Proof.Gen.Kernel23Ideal.Frame
public import proofs.«01_k».proof.Proof.Gen.Kernel23Ideal.Skeleton
public import Idealize.ShloMosaic.Lib.VecWindow

@[expose] public section

set_option maxRecDepth 16384

noncomputable section

namespace Cert.Kernel23Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an even tile number from 2 to 30: the tile before, whose projection is in the second scratch, is mixed into the block's sum, and this tile's projection is left in the first scratch. -/
def runB (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (h2 : k0_cond2 i = 1#1) (n3 : ¬ k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x10 : Vec F S512x128 .f32) :
    Σ' (y8 : Vec F S128x2048 .f32), { y9 : Vec F S512x128 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ (∃ d, owns (c : Thread nD τ) arg9 fullShare d)
            ∗ owns (c : Thread nD τ) arg10 fullShare x10
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ owns (c : Thread nD τ) arg9 fullShare y9
              ∗ owns (c : Thread nD τ) arg10 fullShare x10) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, ?_, fun E K => ?run⟩
  case run =>
    simp only [cc0__peer_dense_kernel_eq_skeleton]; unfold cc0__peer_dense_kernel_skel
    simp only [k0_part55_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg10.eq_unread hf10
    sl_exec (disch := first | sl_exact n1 | sl_exact h2 | sl_exact n3 | sl_exact n4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _; isplitr; swap; · iexact H9
      ipureintro; exact View.read_writes_full _ _ _ _ _
    · iexists _; isplitr; · ipureintro; exact harg10.read_unread _
      iexact H10

end Cert.Kernel23Ideal.Gen

end
-- ==== Proof.SampleIdeal.ValB.lean ====
module

public import proofs.«01_k».proof.Proof.SampleIdeal.RunB
public import proofs.«01_k».proof.Proof.SampleIdeal.Spec

@[expose] public section

set_option maxRecDepth 16384

noncomputable section

namespace Cert.Kernel23Ideal.Gen

open Idealize.ShloMosaic Idealize.ShloMosaic.TcCoe

variable {F : FTy → Type} [FloatOps F]

set_option maxHeartbeats 4000000 in
/-- The run of case B mixes the tile before into the block's sum. -/
theorem runB_sum (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (h2 : k0_cond2 i = 1#1) (n3 : ¬ k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x10 : Vec F S512x128 .f32)
    (q0 : rowNat i 0#32 < 128) (q1 : rowNat i 1#32 < 128) (q2 : rowNat i 2#32 < 128) (q3 : rowNat i 3#32 < 128) :
    (runB c i arg2 harg2 arg3 harg3 arg4 harg4 arg5 harg5 arg6 harg6 arg7 harg7 arg8 harg8 arg9 harg9 arg10 harg10 n1 h2 n3 n4 n5 x2 x3 x4 x5 x6 x7 x8 x10).1 = mixV x4 x5 x6 x7 x8 x10 (rowNat i 0#32) (rowNat i 1#32) (rowNat i 2#32) (rowNat i 3#32) q0 q1 q2 q3 := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.cst_184, runB.sl.cst_232, readAt_unread]
  rfl

set_option maxHeartbeats 4000000 in
/-- The run of case B leaves the tile's projection. -/
theorem runB_act (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (h2 : k0_cond2 i = 1#1) (n3 : ¬ k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x10 : Vec F S512x128 .f32) :
    (runB c i arg2 harg2 arg3 harg3 arg4 harg4 arg5 harg5 arg6 harg6 arg7 harg7 arg8 harg8 arg9 harg9 arg10 harg10 n1 h2 n3 n4 n5 x2 x3 x4 x5 x6 x7 x8 x10).2.1 = projV x2 x3 := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.cst_184, runB.sl.cst_232, readAt_unread]
  rfl

end Cert.Kernel23Ideal.Gen

end
-- ==== Proof.SampleIdeal.RunC.lean ====
module

public import proofs.«01_k».proof.Proof.Gen.Kernel23Ideal.Frame
public import proofs.«01_k».proof.Proof.Gen.Kernel23Ideal.Skeleton
public import Idealize.ShloMosaic.Lib.VecWindow

@[expose] public section

set_option maxRecDepth 16384

noncomputable section

namespace Cert.Kernel23Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd tile number from 1 to 31: the tile before, whose projection is in the first scratch, is mixed into the block's sum, and this tile's projection is left in the second scratch. -/
def runC (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (n2 : ¬ k0_cond2 i = 1#1) (h3 : k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x9 : Vec F S512x128 .f32) :
    Σ' (y8 : Vec F S128x2048 .f32), { y10 : Vec F S512x128 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ owns (c : Thread nD τ) arg9 fullShare x9
              ∗ owns (c : Thread nD τ) arg10 fullShare y10) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, ?_, fun E K => ?run⟩
  case run =>
    simp only [cc0__peer_dense_kernel_eq_skeleton]; unfold cc0__peer_dense_kernel_skel
    simp only [k0_part55_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    sl_exec (disch := first | sl_exact n1 | sl_exact n2 | sl_exact h3 | sl_exact n4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _; isplitr; · ipureintro; exact harg9.read_unread _
      iexact H9
    · iexists _; isplitr; swap; · iexact H10
      ipureintro; exact View.read_writes_full _ _ _ _ _

end Cert.Kernel23Ideal.Gen

end
-- ==== Proof.SampleIdeal.ValC.lean ====
module

public import proofs.«01_k».proof.Proof.SampleIdeal.RunC
public import proofs.«01_k».proof.Proof.SampleIdeal.Spec

@[expose] public section

set_option maxRecDepth 16384

noncomputable section

namespace Cert.Kernel23Ideal.Gen

open Idealize.ShloMosaic Idealize.ShloMosaic.TcCoe

variable {F : FTy → Type} [FloatOps F]

set_option maxHeartbeats 4000000 in
/-- The run of case C mixes the tile before into the block's sum. -/
theorem runC_sum (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (n2 : ¬ k0_cond2 i = 1#1) (h3 : k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x9 : Vec F S512x128 .f32)
    (q0 : rowNat i 0#32 < 128) (q1 : rowNat i 1#32 < 128) (q2 : rowNat i 2#32 < 128) (q3 : rowNat i 3#32 < 128) :
    (runC c i arg2 harg2 arg3 harg3 arg4 harg4 arg5 harg5 arg6 harg6 arg7 harg7 arg8 harg8 arg9 harg9 arg10 harg10 n1 n2 h3 n4 n5 x2 x3 x4 x5 x6 x7 x8 x9).1 = mixV x4 x5 x6 x7 x8 x9 (rowNat i 0#32) (rowNat i 1#32) (rowNat i 2#32) (rowNat i 3#32) q0 q1 q2 q3 := by
  unfold runC
  dsimp only
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.cst_184, runC.sl.cst_232, readAt_unread]
  rfl

set_option maxHeartbeats 4000000 in
/-- The run of case C leaves the tile's projection. -/
theorem runC_act (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (n2 : ¬ k0_cond2 i = 1#1) (h3 : k0_cond3 i = 1#1) (n4 : ¬ k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x9 : Vec F S512x128 .f32) :
    (runC c i arg2 harg2 arg3 harg3 arg4 harg4 arg5 harg5 arg6 harg6 arg7 harg7 arg8 harg8 arg9 harg9 arg10 harg10 n1 n2 h3 n4 n5 x2 x3 x4 x5 x6 x7 x8 x9).2.1 = projV x2 x3 := by
  unfold runC
  dsimp only
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.cst_184, runC.sl.cst_232, readAt_unread]
  rfl

end Cert.Kernel23Ideal.Gen

end
-- ==== Proof.SampleIdeal.RunD.lean ====
module

public import proofs.«01_k».proof.Proof.Gen.Kernel23Ideal.Frame
public import proofs.«01_k».proof.Proof.Gen.Kernel23Ideal.Skeleton
public import Idealize.ShloMosaic.Lib.VecWindow

@[expose] public section

set_option maxRecDepth 16384

noncomputable section

namespace Cert.Kernel23Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at tile number 32: the last tile, whose projection is in the second scratch, is mixed into the block's sum. -/
def runD (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (n2 : ¬ k0_cond2 i = 1#1) (n3 : ¬ k0_cond3 i = 1#1) (h4 : k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x10 : Vec F S512x128 .f32) :
    { y8 : Vec F S128x2048 .f32 //
      ∀ (E : Set ℕ) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ (∃ d, owns (c : Thread nD τ) arg9 fullShare d)
            ∗ owns (c : Thread nD τ) arg10 fullShare x10
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare y8
              ∗ (∃ d, owns (c : Thread nD τ) arg9 fullShare d)
              ∗ owns (c : Thread nD τ) arg10 fullShare x10) -∗ K ⟨⟩))
          ⊢ wp frame (wpE (defs₀ (F := F)) Variants.none c none) E
              (cc0__peer_dense_kernel i arg2 harg2 arg3 harg3 arg4 harg4 arg5 harg5 arg6 harg6 arg7 harg7 arg8 harg8 arg9 harg9 arg10 harg10) K } := by
  refine ⟨?_, fun E K => ?run⟩
  case run =>
    simp only [cc0__peer_dense_kernel_eq_skeleton]; unfold cc0__peer_dense_kernel_skel
    simp only [k0_part55_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg10.eq_unread hf10
    sl_exec (disch := first | sl_exact n1 | sl_exact n2 | sl_exact n3 | sl_exact h4 | sl_exact n5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_full _ _ _ _ _
    isplitl [H9]
    · iexists _, _; isplitr; swap; · iexact H9
      ipureintro; rfl
    · iexists _; isplitr; · ipureintro; exact harg10.read_unread _
      iexact H10

end Cert.Kernel23Ideal.Gen

end
-- ==== Proof.SampleIdeal.ValD.lean ====
module

public import proofs.«01_k».proof.Proof.SampleIdeal.RunD
public import proofs.«01_k».proof.Proof.SampleIdeal.Spec

@[expose] public section

set_option maxRecDepth 16384

noncomputable section

namespace Cert.Kernel23Ideal.Gen

open Idealize.ShloMosaic Idealize.ShloMosaic.TcCoe

variable {F : FTy → Type} [FloatOps F]

set_option maxHeartbeats 4000000 in
/-- The run of case D mixes the tile before into the block's sum. -/
theorem runD_sum (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S128x2048 .f32) (harg8 : arg8.IsWhole) (arg9 : Memref sig .tc .vmem S512x128 .f32) (harg9 : arg9.IsWhole) (arg10 : Memref sig .tc .vmem S512x128 .f32) (harg10 : arg10.IsWhole)
    (n1 : ¬ k0_cond1 i = 1#1) (n2 : ¬ k0_cond2 i = 1#1) (n3 : ¬ k0_cond3 i = 1#1) (h4 : k0_cond4 i = 1#1) (n5 : ¬ k0_cond5 i = 1#1)
    (x2 : Vec F S128x2048 .bf16) (x3 : Vec F S512x2048 .bf16) (x4 : Vec F S512x2048 .bf16) (x5 : Vec F S8x128x128 .f32) (x6 : Vec F S8x128x128 .f32) (x7 : Vec F S8x128 .f32) (x8 : Vec F S128x2048 .f32) (x10 : Vec F S512x128 .f32)
    (q0 : rowNat i 0#32 < 128) (q1 : rowNat i 1#32 < 128) (q2 : rowNat i 2#32 < 128) (q3 : rowNat i 3#32 < 128) :
    (runD c i arg2 harg2 arg3 harg3 arg4 harg4 arg5 harg5 arg6 harg6 arg7 harg7 arg8 harg8 arg9 harg9 arg10 harg10 n1 n2 n3 h4 n5 x2 x3 x4 x5 x6 x7 x8 x10).1 = mixV x4 x5 x6 x7 x8 x10 (rowNat i 0#32) (rowNat i 1#32) (rowNat i 2#32) (rowNat i 3#32) q0 q1 q2 q3 := by
  unfold runD
  dsimp only
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.cst_96, readAt_unread]
  rfl

end Cert.Kernel23Ideal.Gen

end
-- ==== Proof.SampleIdeal.Body.lean ====
module

public import Idealize.ShloMosaic.Lib.Claim
public import proofs.«01_k».proof.Proof.SampleIdeal.Cond
public import proofs.«01_k».proof.Proof.SampleIdeal.ValA
public import proofs.«01_k».proof.Proof.SampleIdeal.ValB
public import proofs.«01_k».proof.Proof.SampleIdeal.ValC
public import proofs.«01_k».proof.Proof.SampleIdeal.ValD

@[expose] public section

/-! # The expert kernel's points one after the other

What each point leaves (`actAt`: the projection of a tile; `sumAt`: the block's sum so far), the invariant between the
points, the body's obligation at each of them, and the frame. -/

set_option maxRecDepth 16384

noncomputable section

namespace Cert.Kernel23Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer, whole. -/
abbrev scA : Memref sig .tc .vmem S512x128 .f32 := Memref.whole cc0_scratch0
abbrev scB : Memref sig .tc .vmem S512x128 .f32 := Memref.whole cc0_scratch1

/-- The projection of point `t`'s tile. -/
def actAt (c : Dev nD) (t : Fin cfg0.N) : Vec F S512x128 .f32 := projV (iblk m c 0 t) (iblk m c 1 t)

/-- A tile mixed in at point `t`, not the first of its block: `x` is the block's sum before it, `s` the tile's projections. -/
def mixAt (c : Dev nD) (t : Fin cfg0.N) (h : ¬ t.val % 33 = 0) (x : Vec F S128x2048 .f32) (s : Vec F S512x128 .f32) : Vec F S128x2048 .f32 :=
  mixV (iblk m c 2 t) (iblk m c 3 t) (iblk m c 4 t) (iblk m c 5 t) x s (rowNat (grid0.coords t) 0#32) (rowNat (grid0.coords t) 1#32)
    (rowNat (grid0.coords t) 2#32) (rowNat (grid0.coords t) 3#32) (rowNat_lt t 0 h) (rowNat_lt t 1 h) (rowNat_lt t 2 h) (rowNat_lt t 3 h)

/-- The block's sum after point `n`: zero at a block's first point, afterwards with one more tile mixed in. -/
def sumAt (c : Dev nD) : (n : ℕ) → n < cfg0.N → Vec F S128x2048 .f32
  | 0, _ => zeroV
  | n + 1, hn => if h : (n + 1) % 33 = 0 then zeroV else mixAt m c ⟨n + 1, hn⟩ h (sumAt c n (Nat.lt_of_succ_lt hn)) (actAt m c ⟨n, Nat.lt_of_succ_lt hn⟩)

theorem sumAt_first (c : Dev nD) (t : Fin cfg0.N) (h : t.val % 33 = 0) : sumAt m c t.val t.isLt = zeroV := by
  obtain ⟨n, hn⟩ := t
  cases n with
  | zero => rfl
  | succ n => exact dif_pos h

/-- The point before. -/
abbrev pred0 (t : Fin cfg0.N) : Fin cfg0.N := ⟨t.val - 1, Nat.lt_of_le_of_lt (Nat.sub_le _ _) t.isLt⟩

theorem sumAt_later (c : Dev nD) (t : Fin cfg0.N) (h : ¬ t.val % 33 = 0) :
    sumAt m c t.val t.isLt = mixAt m c t h (sumAt m c (pred0 t).val (pred0 t).isLt) (actAt m c (pred0 t)) := by
  obtain ⟨n, hn⟩ := t
  cases n with
  | zero => exact absurd (Nat.zero_mod 33) h
  | succ n => exact dif_neg h

/-- The invariant before point `n`: between a block's first and last point, the scratch of the tile before holds its
    projection; the other scratch, and both at a block's start, hold anything. -/
def Inv (c : Dev nD) (n : ℕ) (hn : n ≤ cfg0.N) : sProp 𝕄 :=
  if h : n % 33 = 0 then Pipeline.ΦA spec0 c
  else if n % 33 % 2 = 1 then
    iprop(iprop(owns (c : Thread nD τ) scA fullShare (actAt m c ⟨n - 1, by omega⟩) ∗ (∃ d, owns (c : Thread nD τ) scB fullShare d)) ∗ (∃ r, prngReg c r))
  else
    iprop(iprop((∃ d, owns (c : Thread nD τ) scA fullShare d) ∗ owns (c : Thread nD τ) scB fullShare (actAt m c ⟨n - 1, by omega⟩)) ∗ (∃ r, prngReg c r))

theorem PhiA_eq (c : Dev nD) : (Pipeline.ΦA (Val := Elt F) spec0 c : sProp 𝕄)
    = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

theorem Inv_first (c : Dev nD) (n : ℕ) (hn : n ≤ cfg0.N) (h : n % 33 = 0) : Inv m c n hn = Pipeline.ΦA spec0 c := dif_pos h

theorem Inv_odd (c : Dev nD) (n : ℕ) (hn : n ≤ cfg0.N) (h : n % 33 % 2 = 1) : Inv m c n hn
    = iprop(iprop(owns (c : Thread nD τ) scA fullShare (actAt m c ⟨n - 1, by omega⟩) ∗ (∃ d, owns (c : Thread nD τ) scB fullShare d)) ∗ (∃ r, prngReg c r)) := by
  unfold Inv; rw [dif_neg (by omega), if_pos h]

theorem Inv_even (c : Dev nD) (n : ℕ) (hn : n ≤ cfg0.N) (h0 : ¬ n % 33 = 0) (h : ¬ n % 33 % 2 = 1) : Inv m c n hn
    = iprop(iprop((∃ d, owns (c : Thread nD τ) scA fullShare d) ∗ owns (c : Thread nD τ) scB fullShare (actAt m c ⟨n - 1, by omega⟩)) ∗ (∃ r, prngReg c r)) := by
  unfold Inv; rw [dif_neg h0, if_neg h]

/-- The proof data of the pipeline: the inputs' buffers keep their blocks, the output's holds the block's sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sumAt m c t.val t.isLt
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = sumAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Every point writes the output: one of the body's branches is taken. -/
theorem live6 (i : cfg0.grid.Coords) : cfg0.idle 6 i = false := by
  show (!(k0_cond1 i == 1#1) && !(k0_cond2 i == 1#1) && !(k0_cond3 i == 1#1) && !(k0_cond4 i == 1#1) && !(k0_cond5 i == 1#1)) = false
  have hi : (i 1).val < 33 := (i 1).isLt
  by_cases h1 : (i 1).val = 0
  · simp [(cond1_iff i).mpr h1]
  by_cases h3 : (i 1).val % 2 = 1
  · simp [(cond3_iff i).mpr h3]
  by_cases h4 : (i 1).val = 32
  · simp [(cond4_iff i).mpr h4]
  · simp [(cond2_iff i).mpr ⟨by omega, by omega, by omega⟩]

/-- Within a block the output's buffer holds what the point before left. -/
theorem before0_6 (c : Dev nD) (t : Fin cfg0.N) (h : ¬ t.val % 33 = 0) (d) :
    (dats m 0 c).before 6 t d = sumAt m c (pred0 t).val (pred0 t).isLt := by
  rw [Dat.before_out_kept (dats m 0 c) 6 rfl t (by omega) (by
    rw [Bool.eq_false_iff]; intro hf
    have := (flush0_6 (pred0 t)).mp hf
    dsimp only at this; omega) live6 (fun _ _ => rfl) d]
  exact after0_6 m c _

theorem Phi_castSucc (c : Dev nD) (t : Fin cfg0.N) : (dats m 0 c).Φ t.castSucc = Inv m c t.val (Nat.le_of_lt t.isLt) := by
  dsimp only [dats, Fin.val_castSucc]

theorem Phi_succ (c : Dev nD) (t : Fin cfg0.N) : (dats m 0 c).Φ t.succ = Inv m c (t.val + 1) t.isLt := rfl

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at a block's first point. -/
theorem soundA (c : Dev nD) (t : Fin cfg0.N) (h : t.val % 33 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [Phi_castSucc, Phi_succ, Inv_first m c _ _ h, PhiA_eq, Inv_odd m c _ _ (by omega), sumAt_first m c t h]
  iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
  iapply ((runA c (grid0.coords t) _ _ _ _ _ _ _ _ _ _ _ _ _ _ _ _ _ _ ((cond1_iff _).mpr (by rw [tile_eq]; omega)) (fun h => absurd ((cond2_iff _).mp h) (by rw [tile_eq]; omega)) (fun h => absurd ((cond3_iff _).mp h) (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HA]; · iexact HA
  isplitl [HB]; · iexact HB
  iintro ⟨H0, H1, H2, H3, H4, H5, H6, HA, HB⟩
  rw [runA_act, runA_sum _ _ _ _ _ _ _ _ _ _ _ _ _ _ _ _ _ _ _ _ _ _ _ _ _ _ _ _ _ _ _]
  isplitl [HA HB Hg]
  · isplitl [HA HB]
    · isplitl [HA]
      · iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at an even tile number within a block. -/
theorem soundB (c : Dev nD) (t : Fin cfg0.N) (h0 : ¬ t.val % 33 = 0) (h32 : ¬ t.val % 33 = 32) (h : ¬ t.val % 33 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6 m c t h0]
  rw [show (dats m 0 c).owesAt () t.succ = (dats m 0 c).owesAt () t.castSucc from rfl,
    after0_0, after0_1, after0_2, after0_3, after0_4, after0_5, after0_6]
  rw [Phi_castSucc, Phi_succ, Inv_even m c _ _ h0 h, Inv_odd m c _ _ (by omega), sumAt_later m c t h0]
  iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
  iapply ((runB c (grid0.coords t) _ _ _ _ _ _ _ _ _ _ _ _ _ _ _ _ _ _ (fun h => absurd ((cond1_iff _).mp h) (by rw [tile_eq]; omega)) ((cond2_iff _).mpr (by rw [tile_eq]; omega)) (fun h => absurd ((cond3_iff _).mp h) (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t) (sumAt m c (pred0 t).val (pred0 t).isLt) (actAt m c (pred0 t))).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  iintro ⟨H0, H1, H2, H3, H4, H5, H6, HA, HB⟩
  rw [runB_act, runB_sum _ _ _ _ _ _ _ _ _ _ _ _ _ _ _ _ _ _ _ _ _ _ _ _ _ _ _ _ _ _ _ _ _ (rowNat_lt t 0 h0) (rowNat_lt t 1 h0) (rowNat_lt t 2 h0) (rowNat_lt t 3 h0)]
  isplitl [HA HB Hg]
  · isplitl [HA HB]
    · isplitl [HA]
      · iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at an odd tile number. -/
theorem soundC (c : Dev nD) (t : Fin cfg0.N) (h : t.val % 33 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6 m c t (by omega)]
  rw [show (dats m 0 c).owesAt () t.succ = (dats m 0 c).owesAt () t.castSucc from rfl,
    after0_0, after0_1, after0_2, after0_3, after0_4, after0_5, after0_6]
  rw [Phi_castSucc, Phi_succ, Inv_odd m c _ _ h, Inv_even m c _ _ (by omega) (by omega), sumAt_later m c t (by omega)]
  iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
  iapply ((runC c (grid0.coords t) _ _ _ _ _ _ _ _ _ _ _ _ _ _ _ _ _ _ (fun h => absurd ((cond1_iff _).mp h) (by rw [tile_eq]; omega)) (fun h => absurd ((cond2_iff _).mp h) (by rw [tile_eq]; omega)) ((cond3_iff _).mpr (by rw [tile_eq]; omega)) (fun h => absurd ((cond4_iff _).mp h) (by rw [tile_eq]; omega)) (cond5_iff _) (iblk m c 0 t) (iblk m c 1 t) (iblk m c 2 t) (iblk m c 3 t) (iblk m c 4 t) (iblk m c 5 t) (sumAt m c (pred0 t).val (pred0 t).isLt) (actAt m c (pred0 t))).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  iintro ⟨H0, H1, H2, H3, H4, H5, H6, HA, HB⟩
  rw [runC_act, runC_sum _ _ _ _ _ _ _ _ _ _ _ _ _ _ _ _ _ _ _ _ _ _ _ _ _ _ _ _ _ _ _ _ _ (rowNat_lt t 0 (by omega)) (rowNat_lt t 1 (by omega)) (rowNat_lt t 2 (by omega)) (rowNat_lt t 3 (by omega))]
  isplitl [HA HB Hg]
  · isplitl [HA HB]
    · isplitl [HA]
      · iexists _; iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at a block's last point. -/
theorem soundD (c : Dev nD) (t : Fin cfg0.N) (h : t.val % 33 = 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6 m c t (by omega)]
  rw [show (dats m 0 c).owesAt () t.succ = (dats m 0 c).owesAt () t.castSucc from rfl,
    after0_0, after0_1, after0_2, after0_3, after0_4, after0_5, after0_6]
  rw [Phi_castSucc, Phi_succ, Inv_even m c _ _ (by omega) (by omega), Inv_first m c _ _ (by omega), PhiA_eq, sumAt_later m c t (by omega)]
  iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
  iapply ((runD c (grid0.coords t) _ _ _ _ _ _ _ _ _ _ _ _ _ _ _ _ _ _ (fun h => absurd ((cond1_iff _).mp h) (by rw [tile_eq]; omega)) (fun h => absurd ((cond2_iff _).mp h) (by rw [tile_eq]; omega)) (fun h => absurd ((cond3_iff _).mp h) (by rw [tile_eq]; omega)) ((cond4_iff _).mpr (by rw [tile_eq]; omega)) (cond5_iff _) (iblk m c 0 t) (iblk m c 1 t) (iblk m c 2 t) (iblk m c 3 t) (iblk m c 4 t) (iblk m c 5 t) (sumAt m c (pred0 t).val (pred0 t).isLt) (actAt m c (pred0 t))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  iintro ⟨H0, H1, H2, H3, H4, H5, H6, HA, HB⟩
  rw [runD_sum _ _ _ _ _ _ _ _ _ _ _ _ _ _ _ _ _ _ _ _ _ _ _ _ _ _ _ _ _ _ _ _ _ (rowNat_lt t 0 (by omega)) (rowNat_lt t 1 (by omega)) (rowNat_lt t 2 (by omega)) (rowNat_lt t 3 (by omega))]
  isplitl [HA HB Hg]
  · isplitl [HA HB]
    · isplitl [HA]
      · iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 33 = 0
  · exact soundA m c t h0
  by_cases h1 : t.val % 33 % 2 = 1
  · exact soundC m c t h1
  by_cases h2 : t.val % 33 = 32
  · exact soundD m c t h2
  · exact soundB m c t h0 h2 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, live6]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_first m c 0 _ rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl,
    Inv_first m c _ _ (by rw [show cfg0.N = 33 from N_0])]

set_option backward.isDefEq.respectTransparency.types false in
/-- The run: the arrays end as the proof data says, and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel23Ideal.Gen

end
-- ==== Proof.SampleIdeal.Point.lean ====
module

public import proofs.«01_k».proof.Proof.SampleIdeal.Spec
public import Idealize.ShloMosaic.Lib.Pipeline.ValueKit

@[expose] public section

/-! # The expert kernel's operations element by element

What a tile's projection, gates and mixed sum are at one index, over the extended reals. -/

set_option maxRecDepth 16384

noncomputable section

namespace Cert.Kernel23Ideal.Gen

open Idealize.ShloMosaic Idealize.ShloMosaic.TcCoe Idealize.SL.Sem

/-- One head's weight of one expert for one token: the product of its two gates, or zero under the head's threshold. -/
def weight (a b τ : EReal) : EReal := if τ ≤ b * a then b * a else 0

/-- The activation of one projection. -/
def act (s : EReal) : EReal :=
  Ideal.ofBits .f32 0x3F000000#32 * s * (1 + Ideal.tanh (Ideal.ofBits .f32 0x3F4C422A#32 * (s + Ideal.ofBits .f32 0x3D372713#32 * (s * s * s))))

theorem pure_head (p : Vec Ideal S1x128x128 .f32) (r : Vec Ideal S1x1x128 .f32) (q : Vec Ideal S1x128 .f32) (e : Fin 128) (k : Fin 128) :
    (select (cmpf .oge (mulf (shapeCast S128x128 p shapeCasts_S1x128x128_S128x128)
          (broadcastTo S128x128 (shapeCast S1x128 r shapeCasts_S1x1x128_S1x128) broadcasts_S1x128_S128x128) : FVec Ideal S128x128 .f32)
        (broadcastTo S128x128 q broadcasts_S1x128_S128x128))
      (mulf (shapeCast S128x128 p shapeCasts_S1x128x128_S128x128)
          (broadcastTo S128x128 (shapeCast S1x128 r shapeCasts_S1x1x128_S1x128) broadcasts_S1x128_S128x128))
      (broadcast S128x128 (Scalar.ofBits .f32 0x00000000#32)) : FVec Ideal S128x128 .f32) (ix2 e k)
    = weight (r (ix3 0 0 k)) (p (ix3 0 e k)) (q (ix2 0 k)) := by
  pointwise [weight]

theorem plane_at (x : Vec Ideal S8x128x128 .f32) (h : ℕ) (hh : h < 8) (e : Fin 128) (k : Fin 128) :
    (VecWindow.window x ![h, 0, 0] S1x128x128.size (inb_plane hh) : Vec Ideal S1x128x128 .f32) (ix3 0 e k) = x (ix3 ⟨h, hh⟩ e k) := by
  simp only [VecWindow.window_eq_ld]
  pointwise []

theorem row_at (x : Vec Ideal S8x128x128 .f32) (h : ℕ) (hh : h < 8) (row : ℕ) (hr : row < 128) (k : Fin 128) :
    (VecWindow.window x ![h, row, 0] S1x1x128.size (inb_row hh hr) : Vec Ideal S1x1x128 .f32) (ix3 0 0 k) = x (ix3 ⟨h, hh⟩ ⟨row, hr⟩ k) := by
  simp only [VecWindow.window_eq_ld]
  pointwise []

theorem tau_at (x : Vec Ideal S8x128 .f32) (h : ℕ) (hh : h < 8) (k : Fin 128) :
    (VecWindow.window x ![h, 0] S1x128.size (inb_tau hh) : Vec Ideal S1x128 .f32) (ix2 0 k) = x (ix2 ⟨h, hh⟩ k) := by
  simp only [VecWindow.window_eq_ld]
  pointwise []

theorem headT_at (x5 x6 : Vec Ideal S8x128x128 .f32) (x7 : Vec Ideal S8x128 .f32) (h : ℕ) (hh : h < 8) (row : ℕ) (hr : row < 128)
    (e : Fin 128) (k : Fin 128) :
    headT x5 x6 x7 h hh row hr (ix2 e k) = weight (x5 (ix3 ⟨h, hh⟩ ⟨row, hr⟩ k)) (x6 (ix3 ⟨h, hh⟩ e k)) (x7 (ix2 ⟨h, hh⟩ k)) :=
  (pure_head _ _ _ e k).trans (by rw [plane_at x6 h hh, row_at x5 h hh row hr, tau_at x7 h hh])

/-- A group's gate: the eight heads' weights summed. -/
theorem gateV_at (x5 x6 : Vec Ideal S8x128x128 .f32) (x7 : Vec Ideal S8x128 .f32) (row : ℕ) (hr : row < 128) (e : Fin 128) (k : Fin 128) :
    gateV x5 x6 x7 row hr (ix2 e k) = ∑ h : Fin 8, weight (x5 (ix3 h ⟨row, hr⟩ k)) (x6 (ix3 h e k)) (x7 (ix2 h k)) := by
  pointwise [gateV]
  simp only [headT_at, Fin.sum_univ_eight]
  rfl

theorem geluV_at (a : FVec Ideal S128x128 .f32) (e : Fin 128) (k : Fin 128) : geluV a (ix2 e k) = act (a (ix2 e k)) := by
  pointwise [geluV, act]

theorem act_at (s : Vec Ideal S512x128 .f32) (o : ℕ) (ho : o + 128 ≤ 512) (e : Fin 128) (k : Fin 128) :
    (VecWindow.window s ![o, 0] S128x128.size (inb_act ho) : Vec Ideal S128x128 .f32) (ix2 e k) = s (ix2 ⟨o + e.val, by omega⟩ k) := by
  simp only [VecWindow.window_eq_ld]
  pointwise []

/-- A group's gated activations, token by token. -/
theorem pieceV_at (x5 x6 : Vec Ideal S8x128x128 .f32) (x7 : Vec Ideal S8x128 .f32) (s : Vec Ideal S512x128 .f32) (row : ℕ) (hr : row < 128)
    (o : ℕ) (ho : o + 128 ≤ 512) (k : Fin 128) (e : Fin 128) :
    pieceV x5 x6 x7 s row hr o ho (ix2 k e)
      = (∑ h : Fin 8, weight (x5 (ix3 h ⟨row, hr⟩ k)) (x6 (ix3 h e k)) (x7 (ix2 h k))) * act (s (ix2 ⟨o + e.val, by omega⟩ k)) := by
  rw [← gateV_at]
  unfold pieceV
  generalize gateV x5 x6 x7 row hr = g
  pointwise [geluV_at]
  rw [show (VecWindow.window s ![o, 0] ![128, 128] (inb_act ho) : Vec Ideal S128x128 .f32) (ix2 e k) = s (ix2 ⟨o + e.val, by omega⟩ k) from act_at s o ho e k]

theorem pair_low (x4 : Vec Ideal S512x2048 .bf16) (a b : FVec Ideal S128x128 .bf16) (k : Fin 128) (d : Fin 2048) :
    pairV x4 a b 0 (by decide) (ix2 k d) = (∑ e : Fin 128, a (ix2 k e) * x4 (ix2 ⟨e.val, by omega⟩ d)) + ∑ e : Fin 128, b (ix2 k e) * x4 (ix2 ⟨128 + e.val, by omega⟩ d) := by
  simp only [pairV, VecWindow.window_eq_ld]
  pointwise []

theorem pair_high (x4 : Vec Ideal S512x2048 .bf16) (a b : FVec Ideal S128x128 .bf16) (k : Fin 128) (d : Fin 2048) :
    pairV x4 a b 256 (by decide) (ix2 k d) = (∑ e : Fin 128, a (ix2 k e) * x4 (ix2 ⟨256 + e.val, by omega⟩ d)) + ∑ e : Fin 128, b (ix2 k e) * x4 (ix2 ⟨384 + e.val, by omega⟩ d) := by
  simp only [pairV, VecWindow.window_eq_ld]
  pointwise []
  blk_point []

/-- A tile's projections: each expert's first weights against each token's features. -/
theorem projV_at (x2 : Vec Ideal S128x2048 .bf16) (x3 : Vec Ideal S512x2048 .bf16) (e : Fin 512) (k : Fin 128) :
    projV x2 x3 (ix2 e k) = ∑ n : Fin 2048, x2 (ix2 k n) * x3 (ix2 e n) := by
  simp only [projV, chunkV, VecWindow.window_eq_ld]
  pointwise []
  rw [Fin.sum_univ_tiles 4 512 rfl, Fin.sum_univ_four]
  simp only [mul_comm (x3 _)]
  blk_point []

/-- The sum after a tile is mixed in: each of its 512 experts adds its gated activation times its second weights. The tile
    is number `q`, whose groups' gate rows are `4 q` to `4 q + 3`. -/
theorem mixV_at (x4 : Vec Ideal S512x2048 .bf16) (x5 x6 : Vec Ideal S8x128x128 .f32) (x7 : Vec Ideal S8x128 .f32) (x8 : Vec Ideal S128x2048 .f32)
    (s : Vec Ideal S512x128 .f32) (r0 r1 r2 r3 : ℕ) (h0 : r0 < 128) (h1 : r1 < 128) (h2 : r2 < 128) (h3 : r3 < 128) (q : ℕ) (hq : q < 32)
    (e0 : r0 = 4 * q + 0) (e1 : r1 = 4 * q + 1) (e2 : r2 = 4 * q + 2) (e3 : r3 = 4 * q + 3) (k : Fin 128) (d : Fin 2048) :
    mixV x4 x5 x6 x7 x8 s r0 r1 r2 r3 h0 h1 h2 h3 (ix2 k d)
      = x8 (ix2 k d) + ∑ n : Fin 512, (∑ h : Fin 8, weight (x5 (ix3 h ⟨4 * q + n.val / 128, by omega⟩ k)) (x6 (ix3 h ⟨n.val % 128, by omega⟩ k)) (x7 (ix2 h k)))
          * act (s (ix2 n k)) * x4 (ix2 n d) := by
  subst e0 e1 e2 e3
  unfold mixV
  simp only [VecWindow.window_eq_ld]
  pointwise []
  rw [pair_low, pair_high]
  simp only [pieceV_at]
  rw [Fin.sum_univ_tiles 4 128 rfl, Fin.sum_univ_four]
  simp only [add_assoc, Fin.val_zero, Fin.val_one, Fin.val_two, (rfl : ((3 : Fin 4) : ℕ) = 3)]
  blk_point []

end Cert.Kernel23Ideal.Gen

end
-- ==== Proof.SampleIdeal.Ref.lean ====
module

public import proofs.«01_k».proof.Proof.Gen.Reference23Ideal.Run
public import proofs.«01_k».proof.Proof.SampleIdeal.Point

@[expose] public section

/-! # The expert mixing of the reference, element by element

`REF` is the reference's own composed term; at a token and a feature it is the sum over the experts of gate times activation
times second weight. -/

set_option maxRecDepth 16384

noncomputable section

namespace Cert.Reference23Ideal.Value

open Cert.Reference23Ideal Cert.Reference23Ideal.Gen Idealize.ShloMosaic Idealize.ShloMosaic.TcCoe Idealize.SL.Sem
open Cert.Kernel23Ideal.Gen (weight act)

/-- What expert `n` adds at token `t`, feature `d`. -/
def expert (X : FVec Ideal S128x2048 .bf16) (U V : FVec Ideal S16384x2048 .bf16) (E1 E2 : FVec Ideal S8x128x128 .f32) (T : FVec Ideal S8x128 .f32)
    (t : Fin 128) (d : Fin 2048) (n : Fin 16384) : EReal :=
  (∑ h : Fin 8, weight (E1 (ix3 h ⟨n.val / 128, by omega⟩ t)) (E2 (ix3 h ⟨n.val % 128, by omega⟩ t)) (T (ix2 h t)))
    * act (∑ k : Fin 2048, X (ix2 t k) * U (ix2 n k)) * V (ix2 n d)

/-- The reference's result over its arguments. -/
def REF (X : FVec Ideal S128x2048 .bf16) (U V : FVec Ideal S16384x2048 .bf16) (E1 E2 : FVec Ideal S8x128x128 .f32) (T : FVec Ideal S8x128 .f32) : FVec Ideal S128x2048 .f32 :=
  Host.dotGeneral dot_S128x16384_S16384x2048_S128x2048_1_0_0_1_n_n none (mulf (transpose S128x16384 [1, 0] (shapeCast _ (Host.reduceAdd (select (cmpf .oge (mulf (broadcastInDim S8x128x128x128 ![0, 1, 2, 3] bcast_S8x128x1x128_S8x128x128x128_0_1_2_3 (broadcastInDim S8x128x1x128 ![0, 1, 3] bcast_S8x128x128_S8x128x1x128_0_1_3 E1)) (broadcastInDim S8x128x128x128 ![0, 1, 2, 3] bcast_S8x1x128x128_S8x128x128x128_0_1_2_3 (broadcastInDim S8x1x128x128 ![0, 2, 3] bcast_S8x128x128_S8x1x128x128_0_2_3 E2))) (broadcastInDim S8x128x128x128 ![0, 1, 2, 3] bcast_S8x1x1x128_S8x128x128x128_0_1_2_3 (broadcastInDim S8x1x1x128 ![0, 3] bcast_S8x128_S8x1x1x128_0_3 T))) (mulf (broadcastInDim S8x128x128x128 ![0, 1, 2, 3] bcast_S8x128x1x128_S8x128x128x128_0_1_2_3 (broadcastInDim S8x128x1x128 ![0, 1, 3] bcast_S8x128x128_S8x128x1x128_0_1_3 E1)) (broadcastInDim S8x128x128x128 ![0, 1, 2, 3] bcast_S8x1x128x128_S8x128x128x128_0_1_2_3 (broadcastInDim S8x1x128x128 ![0, 2, 3] bcast_S8x128x128_S8x1x128x128_0_2_3 E2))) (broadcastInDim S8x128x128x128 ![] bcast_S_S8x128x128x128 (id (constant S_ .f32 0x00000000#32)))) (constant S_ .f32 0x00000000#32) reducesTo_S8x128x128x128_S128x128x128_d0 h_S_) shapeCasts_S128x128x128_S16384x128) transposes_S16384x128_S128x16384_1_0) (mulf (Host.dotGeneral dot_S128x2048_S2048x16384_S128x16384_1_0_0_1_n_n none (extf .f32 X bitsLt_bf16_f32) (transpose S2048x16384 [1, 0] (extf .f32 U bitsLt_bf16_f32) transposes_S16384x2048_S2048x16384_1_0)) (mulf (broadcastInDim S128x16384 ![] bcast_S_S128x16384 (constant S_ .f32 0x3F000000#32)) (addf (broadcastInDim S128x16384 ![] bcast_S_S128x16384 (constant S_ .f32 0x3F800000#32)) (Host.tanh (mulf (broadcastInDim S128x16384 ![] bcast_S_S128x16384 (constant S_ .f32 0x3F4C422A#32)) (addf (Host.dotGeneral dot_S128x2048_S2048x16384_S128x16384_1_0_0_1_n_n none (extf .f32 X bitsLt_bf16_f32) (transpose S2048x16384 [1, 0] (extf .f32 U bitsLt_bf16_f32) transposes_S16384x2048_S2048x16384_1_0)) (mulf (broadcastInDim S128x16384 ![] bcast_S_S128x16384 (constant S_ .f32 0x3D372713#32)) (mulf (mulf (Host.dotGeneral dot_S128x2048_S2048x16384_S128x16384_1_0_0_1_n_n none (extf .f32 X bitsLt_bf16_f32) (transpose S2048x16384 [1, 0] (extf .f32 U bitsLt_bf16_f32) transposes_S16384x2048_S2048x16384_1_0)) (Host.dotGeneral dot_S128x2048_S2048x16384_S128x16384_1_0_0_1_n_n none (extf .f32 X bitsLt_bf16_f32) (transpose S2048x16384 [1, 0] (extf .f32 U bitsLt_bf16_f32) transposes_S16384x2048_S2048x16384_1_0))) (Host.dotGeneral dot_S128x2048_S2048x16384_S128x16384_1_0_0_1_n_n none (extf .f32 X bitsLt_bf16_f32) (transpose S2048x16384 [1, 0] (extf .f32 U bitsLt_bf16_f32) transposes_S16384x2048_S2048x16384_1_0))))))))))) (extf .f32 V bitsLt_bf16_f32)

theorem REF_at (X : FVec Ideal S128x2048 .bf16) (U V : FVec Ideal S16384x2048 .bf16) (E1 E2 : FVec Ideal S8x128x128 .f32) (T : FVec Ideal S8x128 .f32)
    (t : Fin 128) (d : Fin 2048) : REF X U V E1 E2 T (ix2 t d) = ∑ n : Fin 16384, expert X U V E1 E2 T t d n := by
  pointwise [REF, id_eq]
  refine Finset.sum_congr rfl fun n _ => ?_
  unfold expert weight act
  generalize (∑ k : Fin 2048, X (ix2 t k) * U (ix2 n k)) = s
  simp only [mul_comm (E2 _), ← mul_assoc, mul_comm s (Ideal.ofBits .f32 0x3F000000#32)]

end Cert.Reference23Ideal.Value

end
-- ==== Proof.SampleIdeal.Value.lean ====
module

public import proofs.«01_k».proof.Proof.SampleIdeal.Body
public import proofs.«01_k».proof.Proof.SampleIdeal.Ref

@[expose] public section

/-! # What the expert kernel leaves in its result

A block's sum after `j` tiles is the sum of the first `512 j` experts' contributions, so what is written back, after the
32 tiles, is the reference's sum over the 16384 experts. -/

set_option maxRecDepth 16384

noncomputable section

namespace Cert.Kernel23Ideal.Gen

open Idealize.ShloMosaic Idealize.ShloMosaic.TcCoe Idealize.SL.Sem
open Idealize.ShloMosaic.Pipeline (Dat)
open Cert.Reference23Ideal.Value (expert REF REF_at)

variable (m : (ℓ : Loc nD τ sig) → Buf (Elt Ideal) ℓ)

/-- The windows' blocks at every point: block `t / 33` of the tokens, the tile `t % 33` of the first weights (the last
    one again at a block's last point), the tile before of the second weights. -/
theorem idx : ∀ t : Fin cfg0.N, win0_0.index t = ![t.val / 33, 0] ∧ win0_1.index t = ![min (t.val % 33) 31, 0]
    ∧ win0_2.index t = ![t.val % 33 - 1, 0] ∧ win0_3.index t = ![0, 0, t.val / 33] ∧ win0_4.index t = ![0, 0, t.val / 33]
    ∧ win0_5.index t = ![0, t.val / 33] ∧ win0_6.index t = ![t.val / 33, 0] :=
  (by decide +kernel : ∀ t : Fin grid0.N, _)

/-- What expert `n` adds, over the kernel's argument arrays. -/
abbrev adds (c : Dev nD) (t : Fin 128) (d : Fin 2048) (n : Fin 16384) : EReal :=
  expert (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) t d n

/-- What tile `q`'s experts add. -/
def tileAdds (c : Dev nD) (t : Fin 128) (d : Fin 2048) (q : ℕ) : EReal :=
  if h : q < 32 then ∑ k : Fin 512, adds m c t d ⟨q * 512 + k.val, by omega⟩ else 0

/-- Point `t`, not the first of its block, adds the tile before's experts. -/
theorem mixAt_at (c : Dev nD) (t : Fin cfg0.N) (h : ¬ t.val % 33 = 0) (x : Vec Ideal S128x2048 .f32) (k : Fin 128) (d : Fin 2048)
    (hk : t.val / 33 * 128 + k.val < 128) :
    mixAt m c t h x (actAt m c (pred0 t)) (ix2 k d) = x (ix2 k d) + tileAdds m c ⟨t.val / 33 * 128 + k.val, hk⟩ d (t.val % 33 - 1) := by
  have ht := tile_eq t
  have h' : (grid0.coords t 1).val ≠ 0 := by rw [ht]; exact h
  have e (r : Fin 4) := (rowNat_eq (grid0.coords t) r h').trans (by rw [ht])
  have hq : t.val % 33 - 1 < 32 := by omega
  unfold mixAt tileAdds
  rw [dif_pos hq]
  refine (mixV_at _ _ _ _ _ _ _ _ _ _ _ _ _ _ (t.val % 33 - 1) hq (e 0) (e 1) (e 2) (e 3) k d).trans ?_
  refine congrArg (x (ix2 k d) + ·) (Finset.sum_congr rfl fun n _ => ?_)
  unfold actAt
  rw [projV_at]
  simp only [adds, expert]
  have hp : (pred0 t).val = t.val - 1 := rfl
  blk_point [iblk, V, idx t, idx (pred0 t)]

/-- A block's sum after `j` tiles. -/
theorem sumAt_at (c : Dev nD) (b : ℕ) (hb : b < 1) (k : Fin 128) (d : Fin 2048) : ∀ (j : ℕ) (hj : j < 33) (hn : 33 * b + j < cfg0.N),
    sumAt m c (33 * b + j) hn (ix2 k d) = ∑ q ∈ Finset.range j, tileAdds m c ⟨b * 128 + k.val, by omega⟩ d q
  | 0, _, hn => by
    rw [sumAt_first m c ⟨33 * b + 0, hn⟩ (by dsimp only; omega)]
    pointwise [zeroV, Finset.sum_range_zero]
  | j + 1, hj, hn => by
    have ht : ¬ (⟨33 * b + (j + 1), hn⟩ : Fin cfg0.N).val % 33 = 0 := by dsimp only; omega
    have hd : (33 * b + (j + 1)) / 33 = b := by omega
    have hm : (33 * b + (j + 1)) % 33 - 1 = j := by omega
    rw [sumAt_later m c ⟨33 * b + (j + 1), hn⟩ ht, mixAt_at m c _ ht _ k d (by dsimp only; omega), Finset.sum_range_succ]
    refine congrArg₂ (· + ·) (sumAt_at c b hb k d j (by omega) (by omega)) ?_
    dsimp only
    simp only [hd, hm]

/-- The 32 tiles' experts are all the experts. -/
theorem tiles_all (c : Dev nD) (t : Fin 128) (d : Fin 2048) :
    ∑ q ∈ Finset.range 32, tileAdds m c t d q = ∑ n : Fin 16384, adds m c t d n := by
  rw [Fin.sum_univ_tiles 32 512 rfl, Finset.sum_range]
  exact Finset.sum_congr rfl fun q _ => dif_pos q.isLt

/-- The result array after the run is the reference's term over the kernel's arguments. -/
theorem final (c : Dev nD) : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have h32 : t.val % 33 = 32 := (flush0_6 t).mp hf
  have hN : t.val < 33 := lt_of_lt_of_eq t.isLt N_0
  blk_simp [idx t]
  rw [after0_6]
  obtain ⟨k, d, rfl⟩ : ∃ (k : Fin 128) (d : Fin 2048), y = (ix2 k d : S128x2048.Idx) := ⟨y 0, y 1, eq_ix2 (n0 := 128) (n1 := 2048) y⟩
  have hb : t.val / 33 * 128 + k.val < 128 := by omega
  have he : (win0_6.blk t).view.emb (ix2 k d : S128x2048.Idx) = (ix2 ⟨t.val / 33 * 128 + k.val, hb⟩ d : S128x2048.Idx) := by
    blk_ext [idx t]
  have hs := sumAt_at m c (t.val / 33) (by omega) k d 32 (by omega) (lt_of_lt_of_eq (by omega : _ < 33) N_0.symm)
  have ht : (33 * (t.val / 33) + 32) = t.val := by omega
  simp only [ht] at hs
  exact hs.trans ((tiles_all m c _ _).trans ((REF_at _ _ _ _ _ _ _ _).symm.trans (congrArg (REF _ _ _ _ _ _) he.symm)))

end Cert.Kernel23Ideal.Gen

end
-- ==== Proof.Layer.Heads.lean ====
module

public import proofs.«01_k».proof.Proof.Gen.Kernel2Ideal.Value
public import proofs.«01_k».proof.Proof.Gen.Reference2Ideal
public import Idealize.ShloMosaic.Lib.Pipeline.ValueKit

@[expose] public section

/-! # The projections with a norm in each head

For 512 tokens at a time the call multiplies by a section of 1024 columns and norms each head of 128 columns. The array it leaves
is the whole normed product. -/

set_option maxRecDepth 16384

noncomputable section

namespace Cert.Kernel2Ideal.Value

open Cert.Kernel2Ideal Cert.Kernel2Ideal.Gen Idealize.ShloMosaic Idealize.ShloMosaic.TcCoe Idealize.SL.Sem

/-- The reference's result over its arguments. -/
def REF (X : FVec Ideal Cert.Reference2Ideal.S16384x2048 .bf16) (W : FVec Ideal Cert.Reference2Ideal.S2048x1024 .bf16) (G : FVec Ideal Cert.Reference2Ideal.S128 .f32) : FVec Ideal Cert.Reference2Ideal.S16384x1024 .f32 :=
  shapeCast _ (mulf (mulf (shapeCast _ (Host.dotGeneral Cert.Reference2Ideal.dot_S16384x2048_S2048x1024_S16384x1024_1_0_0_1_n_n none (extf .f32 X Cert.Reference2Ideal.Gen.bitsLt_bf16_f32) (extf .f32 W Cert.Reference2Ideal.Gen.bitsLt_bf16_f32)) Cert.Reference2Ideal.Gen.shapeCasts_S16384x1024_S16384x8x128) (broadcastInDim Cert.Reference2Ideal.S16384x8x128 ![0, 1, 2] Cert.Reference2Ideal.Gen.bcast_S16384x8x1_S16384x8x128_0_1_2 (Host.rsqrt (addf (Host.divf (broadcastInDim Cert.Reference2Ideal.S16384x8x1 ![0, 1] Cert.Reference2Ideal.Gen.bcast_S16384x8_S16384x8x1_0_1 (Host.reduceAdd (mulf (shapeCast _ (Host.dotGeneral Cert.Reference2Ideal.dot_S16384x2048_S2048x1024_S16384x1024_1_0_0_1_n_n none (extf .f32 X Cert.Reference2Ideal.Gen.bitsLt_bf16_f32) (extf .f32 W Cert.Reference2Ideal.Gen.bitsLt_bf16_f32)) Cert.Reference2Ideal.Gen.shapeCasts_S16384x1024_S16384x8x128) (shapeCast _ (Host.dotGeneral Cert.Reference2Ideal.dot_S16384x2048_S2048x1024_S16384x1024_1_0_0_1_n_n none (extf .f32 X Cert.Reference2Ideal.Gen.bitsLt_bf16_f32) (extf .f32 W Cert.Reference2Ideal.Gen.bitsLt_bf16_f32)) Cert.Reference2Ideal.Gen.shapeCasts_S16384x1024_S16384x8x128)) (constant Cert.Reference2Ideal.S_ .f32 0x00000000#32) Cert.Reference2Ideal.Gen.reducesTo_S16384x8x128_S16384x8_d2 Cert.Reference2Ideal.Gen.h_S_)) (broadcastInDim Cert.Reference2Ideal.S16384x8x1 ![] Cert.Reference2Ideal.Gen.bcast_S_S16384x8x1 (constant Cert.Reference2Ideal.S_ .f32 0x43000000#32))) (broadcastInDim Cert.Reference2Ideal.S16384x8x1 ![] Cert.Reference2Ideal.Gen.bcast_S_S16384x8x1 (constant Cert.Reference2Ideal.S_ .f32 0x358637BD#32)))))) (broadcastInDim Cert.Reference2Ideal.S16384x8x128 ![0, 1, 2] Cert.Reference2Ideal.Gen.bcast_S1x1x128_S16384x8x128_0_1_2 (broadcastInDim Cert.Reference2Ideal.S1x1x128 ![2] Cert.Reference2Ideal.Gen.bcast_S128_S1x1x128_2 G))) Cert.Reference2Ideal.Gen.shapeCasts_S16384x8x128_S16384x1024

/-- The product at a token and a column. -/
def prod (X : FVec Ideal Cert.Reference2Ideal.S16384x2048 .bf16) (W : FVec Ideal Cert.Reference2Ideal.S2048x1024 .bf16) (t : Fin 16384) (d : Fin 1024) : EReal := ∑ k : Fin 2048, X (ix2 t k) * W (ix2 k d)

/-- One column normed by the sum of the squares of its head. -/
def headed (h s g : EReal) : EReal :=
  h * Ideal.rsqrt (Ideal.div s (Ideal.ofBits .f32 0x43000000#32) + Ideal.ofBits .f32 0x358637BD#32) * g

theorem REF_at (X : FVec Ideal Cert.Reference2Ideal.S16384x2048 .bf16) (W : FVec Ideal Cert.Reference2Ideal.S2048x1024 .bf16) (G : FVec Ideal Cert.Reference2Ideal.S128 .f32) (t : Fin 16384) (d : Fin 1024) : REF X W G (ix2 t d)
    = headed (prod X W t d) (∑ l : Fin 128, prod X W t ⟨d.val / 128 * 128 + l.val, by omega⟩ * prod X W t ⟨d.val / 128 * 128 + l.val, by omega⟩)
      (G (ix1 ⟨d.val % 128, by omega⟩)) := by
  pointwise [REF, headed, prod]

/-- The product of one block, as the body computes it. -/
theorem block_prod (x : Vec Ideal S512x2048 .bf16) (w : Vec Ideal S2048x1024 .bf16) (k : Fin 512) (d : Fin 1024) :
    k0_pay2 x w (ix2 k d) = ∑ j : Fin 2048, x (ix2 k j) * w (ix2 j d) := by
  pointwise [k0_pay2]

/-- The sum of the squares of one head of one block. -/
theorem block_squares (Z : FVec Ideal S512x1024 .f32) (o : ℕ) (ho : o + 128 ≤ 1024) (hs) (k : Fin 512) :
    multiReduction .add [1] S512 (mulf (extractStridedSlice S512x128 ![0, o] Z hs) (extractStridedSlice S512x128 ![0, o] Z hs))
      0x00000000#32 reduces_S512x128_S512 (.inl rfl) rfl (ix1 k)
    = ∑ l : Fin 128, Z (ix2 k ⟨o + l.val, by omega⟩) * Z (ix2 k ⟨o + l.val, by omega⟩) := by
  pointwise []

theorem family_at (x : Vec Ideal S512x2048 .bf16) (w : Vec Ideal S2048x1024 .bf16) (g : Vec Ideal S1x128 .f32) (k : Fin 512) :
    ∀ j : Fin 8, Fam3_1 x w g j (ix1 k) = ∑ l : Fin 128, k0_pay2 x w (ix2 k ⟨j.val * 128 + l.val, by omega⟩)
      * k0_pay2 x w (ix2 k ⟨j.val * 128 + l.val, by omega⟩)
  | ⟨0, _⟩ => block_squares _ 0 (by omega) _ k
  | ⟨1, _⟩ => block_squares _ 128 (by omega) _ k
  | ⟨2, _⟩ => block_squares _ 256 (by omega) _ k
  | ⟨3, _⟩ => block_squares _ 384 (by omega) _ k
  | ⟨4, _⟩ => block_squares _ 512 (by omega) _ k
  | ⟨5, _⟩ => block_squares _ 640 (by omega) _ k
  | ⟨6, _⟩ => block_squares _ 768 (by omega) _ k
  | ⟨7, _⟩ => block_squares _ 896 (by omega) _ k

/-- The eight pieces that the body leaves in the block are one function of the loaded blocks. -/
theorem out_at (x : Vec Ideal S512x2048 .bf16) (w : Vec Ideal S2048x1024 .bf16) (g : Vec Ideal S1x128 .f32) (y : S512x1024.Idx) :
    out0_3 x w g y = E3 x w g y := by
  unfold_out out0_3
  rw [View.ld_unit_lit (S := S512x2048) _ x (by decide), View.ld_unit_lit (S := S2048x1024) _ w (by decide),
    View.ld_unit_lit (S := S1x128) _ g (by decide)]
  exact canon3_eq _ _ _ _

/-- That function at a token and a column. -/
theorem block_headed (x : Vec Ideal S512x2048 .bf16) (w : Vec Ideal S2048x1024 .bf16) (g : Vec Ideal S1x128 .f32) (k : Fin 512) (d : Fin 1024) :
    E3 x w g (ix2 k d) = headed (k0_pay2 x w (ix2 k d)) (∑ l : Fin 128, k0_pay2 x w (ix2 k ⟨d.val / 128 * 128 + l.val, by omega⟩)
      * k0_pay2 x w (ix2 k ⟨d.val / 128 * 128 + l.val, by omega⟩)) (g (ix2 0 ⟨d.val % 128, by omega⟩)) := by
  have e1 : ix3_0 (ix2 k d) = (ix2 k d : S512x1024.Idx) := by funext a; fin_cases a <;> rfl
  have e2 : ix3_1 (ix2 k d) = (ix1 k : S512.Idx) := by funext a; fin_cases a; rfl
  have e3 : ix3_2 (ix2 k d) = (ix2 0 ⟨d.val % 128, by omega⟩ : S1x128.Idx) := by funext a; fin_cases a <;> rfl
  have e4 := family_at x w g k (sel3 (ix2 k d))
  unfold headed E3
  rw [e1, e2, e3, e4]
  rfl

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The product of the block of point `t`, from the call's arguments. -/
theorem prod_at (c : Dev nD) (t : Fin cfg0.N) (k : Fin 512) (d : Fin 1024) (hk : t.val * 512 + k.val < 16384) :
    k0_pay2 (iblk m c 0 t) (iblk m c 1 t) (ix2 k d)
    = prod (m ((c : Thread nD τ).loc main_arg0)) (m ((c : Thread nD τ).loc main_arg1)) ⟨t.val * 512 + k.val, hk⟩ d := by
  rw [block_prod]
  unfold prod
  blk_point [iblk, V, idx t]

/-- The result after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN : t.val < 32 := lt_of_lt_of_eq t.isLt N_0
  blk_simp
  rw [after0_3]
  obtain ⟨k, d, rfl⟩ : ∃ (k : Fin 512) (d : Fin 1024), y = (ix2 k d : S512x1024.Idx) := ⟨y 0, y 1, eq_ix2 (n0 := 512) (n1 := 1024) y⟩
  have hb : t.val * 512 + k.val < 16384 := by omega
  have he : (win0_3.blk t).view.emb (ix2 k d : S512x1024.Idx) = (ix2 ⟨t.val * 512 + k.val, hb⟩ d : S16384x1024.Idx) := by
    blk_ext [idx t]
  refine Eq.trans ?_ ((REF_at _ _ _ _ _).symm.trans (congrArg (REF _ _ _) he.symm))
  refine (out_at _ _ _ _).trans ((block_headed _ _ _ k d).trans ?_)
  simp only [prod_at m c t k _ hb]
  congr 1
  blk_point [iblk, V, idx t]

end Cert.Kernel2Ideal.Value

end
-- ==== Proof.Layer.Linear.lean ====
module

public import proofs.«01_k».proof.Proof.Gen.Kernel3Ideal.Frame
public import proofs.«01_k».proof.Proof.Gen.Reference3Ideal
public import proofs.«01_k».proof.Proof.Gen.Kernel4Ideal.Frame
public import proofs.«01_k».proof.Proof.Gen.Reference4Ideal
public import proofs.«01_k».proof.Proof.Gen.Kernel5Ideal.Frame
public import proofs.«01_k».proof.Proof.Gen.Reference5Ideal
public import Idealize.ShloMosaic.Lib.Pipeline.ValueKit

@[expose] public section

/-! # The plain projections

Each call multiplies the normed tokens, 512 at a time, by one section of a weight matrix. The array it leaves is the whole
product, for sections of 1024 columns, of 2048 and of 64. -/

set_option maxRecDepth 16384

noncomputable section

open Idealize.ShloMosaic Idealize.ShloMosaic.TcCoe Idealize.SL.Sem

namespace Cert.Kernel3Ideal.Value

open Cert.Kernel3Ideal Cert.Kernel3Ideal.Gen

variable (m : (ℓ : Loc nD τ sig) → Buf (Elt Ideal) ℓ)

/-- The reference's result over its arguments: the tokens times a section of 1024 columns. -/
abbrev REF (X : FVec Ideal Cert.Reference3Ideal.S16384x2048 .bf16) (W : FVec Ideal Cert.Reference3Ideal.S2048x1024 .bf16) :
    FVec Ideal Cert.Reference3Ideal.S16384x1024 .f32 :=
  Host.dotGeneral Cert.Reference3Ideal.dot_S16384x2048_S2048x1024_S16384x1024_1_0_0_1_n_n none
    (extf .f32 X Cert.Reference3Ideal.Gen.bitsLt_bf16_f32) (extf .f32 W Cert.Reference3Ideal.Gen.bitsLt_bf16_f32)

/-- Where the windows' blocks stand at each point of the grid. -/
theorem idx : ∀ t : Fin cfg0.N, win0_0.index t = ![t.val, 0] ∧ win0_1.index t = ![0, 0] ∧ win0_2.index t = ![t.val, 0] :=
  (by decide +kernel : ∀ t : Fin grid0.N, _)

/-- A block of 512 tokens times the weights is the rows of the whole product at these tokens. -/
theorem point (c : Dev nD) (t : Fin cfg0.N) (y : S512x1024.Idx) : k0_pay1 (iblk m c 0 t) (iblk m c 1 t) y
    = REF (m ((c : Thread nD τ).loc main_arg0)) (m ((c : Thread nD τ).loc main_arg1)) ((win0_2.blk t).view.emb y) := by
  pointwise [k0_pay1, REF]
  blk_point [iblk, V, idx t]

/-- The result array after the run is the whole product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Value

namespace Cert.Kernel4Ideal.Value

open Cert.Kernel4Ideal Cert.Kernel4Ideal.Gen

variable (m : (ℓ : Loc nD τ sig) → Buf (Elt Ideal) ℓ)

/-- The reference's result over its arguments: the tokens times a section of 2048 columns. -/
abbrev REF (X : FVec Ideal Cert.Reference4Ideal.S16384x2048 .bf16) (W : FVec Ideal Cert.Reference4Ideal.S2048x2048 .bf16) :
    FVec Ideal Cert.Reference4Ideal.S16384x2048 .f32 :=
  Host.dotGeneral Cert.Reference4Ideal.dot_S16384x2048_S2048x2048_S16384x2048_1_0_0_1_n_n none
    (extf .f32 X Cert.Reference4Ideal.Gen.bitsLt_bf16_f32) (extf .f32 W Cert.Reference4Ideal.Gen.bitsLt_bf16_f32)

/-- Where the windows' blocks stand at each point of the grid. -/
theorem idx : ∀ t : Fin cfg0.N, win0_0.index t = ![t.val, 0] ∧ win0_1.index t = ![0, 0] ∧ win0_2.index t = ![t.val, 0] :=
  (by decide +kernel : ∀ t : Fin grid0.N, _)

/-- A block of 512 tokens times the weights is the rows of the whole product at these tokens. -/
theorem point (c : Dev nD) (t : Fin cfg0.N) (y : S512x2048.Idx) : k0_pay1 (iblk m c 0 t) (iblk m c 1 t) y
    = REF (m ((c : Thread nD τ).loc main_arg0)) (m ((c : Thread nD τ).loc main_arg1)) ((win0_2.blk t).view.emb y) := by
  pointwise [k0_pay1, REF]
  blk_point [iblk, V, idx t]

/-- The result array after the run is the whole product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Value

namespace Cert.Kernel5Ideal.Value

open Cert.Kernel5Ideal Cert.Kernel5Ideal.Gen

variable (m : (ℓ : Loc nD τ sig) → Buf (Elt Ideal) ℓ)

/-- The reference's result over its arguments: the tokens times the section of the index keys. -/
abbrev REF (X : FVec Ideal Cert.Reference5Ideal.S16384x2048 .bf16) (W : FVec Ideal Cert.Reference5Ideal.S2048x64 .bf16) :
    FVec Ideal Cert.Reference5Ideal.S16384x64 .f32 :=
  Host.dotGeneral Cert.Reference5Ideal.dot_S16384x2048_S2048x64_S16384x64_1_0_0_1_n_n none
    (extf .f32 X Cert.Reference5Ideal.Gen.bitsLt_bf16_f32) (extf .f32 W Cert.Reference5Ideal.Gen.bitsLt_bf16_f32)

/-- Where the windows' blocks stand at each point of the grid. -/
theorem idx : ∀ t : Fin cfg0.N, win0_0.index t = ![t.val, 0] ∧ win0_1.index t = ![0, 0] ∧ win0_2.index t = ![t.val, 0] :=
  (by decide +kernel : ∀ t : Fin grid0.N, _)

/-- A block of 512 tokens times the weights is the rows of the whole product at these tokens. -/
theorem point (c : Dev nD) (t : Fin cfg0.N) (y : S512x64.Idx) : k0_pay1 (iblk m c 0 t) (iblk m c 1 t) y
    = REF (m ((c : Thread nD τ).loc main_arg0)) (m ((c : Thread nD τ).loc main_arg1)) ((win0_2.blk t).view.emb y) := by
  pointwise [k0_pay1, REF]
  blk_point [iblk, V, idx t]

/-- The result array after the run is the whole product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.Value

end
-- ==== Proof.Layer.Merge.lean ====
module

public import proofs.«01_k».proof.Proof.Gen.Kernel6Ideal.Frame
public import proofs.«01_k».proof.Proof.Gen.Reference6Ideal
public import Idealize.ShloMosaic.Lib.Pipeline.ValueKit

@[expose] public section

/-! # The gated merge of the two branches

For 512 tokens at a time the call projects the two attention outputs, gates each by a sigmoid and adds them. The array it leaves
is the whole merge. -/

set_option maxRecDepth 16384

noncomputable section

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

/-- The reference's result over its arguments. -/
abbrev REF (OA OB : FVec Ideal Cert.Reference6Ideal.S16384x1024 .f32) (GA GB : FVec Ideal Cert.Reference6Ideal.S16384x2048 .f32)
    (WA WB : FVec Ideal Cert.Reference6Ideal.S1024x2048 .bf16) : FVec Ideal Cert.Reference6Ideal.S16384x2048 .bf16 :=
  truncf .bf16 (addf (mulf (Host.divf (broadcastInDim Cert.Reference6Ideal.S16384x2048 ![] Cert.Reference6Ideal.Gen.bcast_S_S16384x2048 (constant Cert.Reference6Ideal.S_ .f32 0x3F800000#32)) (addf (broadcastInDim Cert.Reference6Ideal.S16384x2048 ![] Cert.Reference6Ideal.Gen.bcast_S_S16384x2048 (constant Cert.Reference6Ideal.S_ .f32 0x3F800000#32)) (Host.exp (Host.negf GA)))) (Host.dotGeneral Cert.Reference6Ideal.dot_S16384x1024_S1024x2048_S16384x2048_1_0_0_1_n_n none OA (extf .f32 WA Cert.Reference6Ideal.Gen.bitsLt_bf16_f32))) (mulf (Host.divf (broadcastInDim Cert.Reference6Ideal.S16384x2048 ![] Cert.Reference6Ideal.Gen.bcast_S_S16384x2048 (constant Cert.Reference6Ideal.S_ .f32 0x3F800000#32)) (addf (broadcastInDim Cert.Reference6Ideal.S16384x2048 ![] Cert.Reference6Ideal.Gen.bcast_S_S16384x2048 (constant Cert.Reference6Ideal.S_ .f32 0x3F800000#32)) (Host.exp (Host.negf GB)))) (Host.dotGeneral Cert.Reference6Ideal.dot_S16384x1024_S1024x2048_S16384x2048_1_0_0_1_n_n none OB (extf .f32 WB Cert.Reference6Ideal.Gen.bitsLt_bf16_f32)))) Cert.Reference6Ideal.Gen.bitsLt_bf16_f32

/-- Where the windows' blocks stand at each point of the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- What a block of 512 tokens computes is the rows of the whole merge at these tokens. -/
theorem point (c : Dev nD) (t : Fin cfg0.N) (y : S512x2048.Idx) :
    k0_pay1 (iblk m c 0 t) (iblk m c 4 t) (iblk m c 1 t) (iblk m c 5 t) (iblk m c 2 t) (iblk m c 3 t) y
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ((win0_6.blk t).view.emb y) := by
  pointwise [k0_pay1, REF, Ideal.logistic]
  blk_point [iblk, V, idx t]

/-- The result array after the run is the whole merge. -/
theorem final (c : Dev nD) : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Kernel6Ideal.Value

end
-- ==== Proof.Layer.Modulation.lean ====
module

public import proofs.«01_k».proof.Proof.Gen.Kernel8Ideal.Frame
public import proofs.«01_k».proof.Proof.Gen.Reference8Ideal
public import Idealize.ShloMosaic.Lib.Pipeline.ValueKit

@[expose] public section

/-! # The modulation

For 512 columns at a time the call multiplies the gated conditions by the weights and adds the bias. The array it leaves holds the
whole modulation. -/

set_option maxRecDepth 16384

noncomputable section

open Idealize.ShloMosaic Idealize.ShloMosaic.TcCoe Idealize.SL.Sem

namespace Cert.Kernel8Ideal.Value

open Cert.Kernel8Ideal Cert.Kernel8Ideal.Gen

/-- The reference's result over its arguments: the modulation of every row. -/
def REF (C : FVec Ideal Cert.Reference8Ideal.S136x2048 .f32) (W : FVec Ideal Cert.Reference8Ideal.S2048x12288 .f32) (B : FVec Ideal Cert.Reference8Ideal.S12288 .f32) :
    FVec Ideal Cert.Reference8Ideal.S136x12288 .f32 :=
  addf (Host.dotGeneral Cert.Reference8Ideal.dot_S136x2048_S2048x12288_S136x12288_1_0_0_1_n_n none (mulf C (Host.divf (broadcastInDim Cert.Reference8Ideal.S136x2048 ![] Cert.Reference8Ideal.Gen.bcast_S_S136x2048 (constant Cert.Reference8Ideal.S_ .f32 0x3F800000#32)) (addf (broadcastInDim Cert.Reference8Ideal.S136x2048 ![] Cert.Reference8Ideal.Gen.bcast_S_S136x2048 (constant Cert.Reference8Ideal.S_ .f32 0x3F800000#32)) (Host.exp (Host.negf C))))) W) (broadcastInDim Cert.Reference8Ideal.S136x12288 ![0, 1] Cert.Reference8Ideal.Gen.bcast_S1x12288_S136x12288_0_1 (broadcastInDim Cert.Reference8Ideal.S1x12288 ![1] Cert.Reference8Ideal.Gen.bcast_S12288_S1x12288_1 B))

variable (m : (ℓ : Loc nD τ sig) → Buf (Elt Ideal) ℓ)

/-- Where the windows' blocks stand at each point of the grid. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- A block of 512 columns of the modulation. -/
theorem point (c : Dev nD) (t : Fin cfg0.N) (y : S136x512.Idx) : k0_pay1 (iblk m c 0 t) (iblk m c 1 t) (iblk m c 2 t) y
    = REF (m ((c : Thread nD τ).loc main_arg0)) (m ((c : Thread nD τ).loc main_arg1)) (m ((c : Thread nD τ).loc main_arg2)) ((win0_3.blk t).view.emb y) := by
  pointwise [k0_pay1, REF, Ideal.logistic]
  blk_point [iblk, V, idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel8Ideal.Value

end
-- ==== Proof.Layer.Norm.lean ====
module

public import proofs.«01_k».proof.Proof.Gen.Kernel9Ideal.Frame
public import proofs.«01_k».proof.Proof.Gen.Reference9Ideal
public import proofs.«01_k».proof.Proof.Gen.Kernel10Ideal.Frame
public import proofs.«01_k».proof.Proof.Gen.Reference10Ideal
public import Idealize.ShloMosaic.Lib.Pipeline.ValueKit

@[expose] public section

/-! # The norm before the projections

A block of tokens at a time the call norms, scales and shifts its rows: for the prompt, whose modulation is one row for each
sequence, and for the sample, whose modulation is one row for each token. -/

set_option maxRecDepth 16384

noncomputable section

open Idealize.ShloMosaic Idealize.ShloMosaic.TcCoe Idealize.SL.Sem

namespace Cert.Kernel9Ideal.Value

open Cert.Kernel9Ideal Cert.Kernel9Ideal.Gen

/-- The reference's result over its arguments: the normed, scaled and shifted tokens. -/
def REF (X : FVec Ideal Cert.Reference9Ideal.S16384x2048 .f32) (N : FVec Ideal Cert.Reference9Ideal.S2048 .f32) (SC : FVec Ideal Cert.Reference9Ideal.S4x1x2048 .f32) (SH : FVec Ideal Cert.Reference9Ideal.S4x1x2048 .f32) :
    FVec Ideal Cert.Reference9Ideal.S16384x2048 .bf16 :=
  truncf .bf16 (shapeCast _ (addf (mulf (mulf (mulf (shapeCast _ X Cert.Reference9Ideal.Gen.shapeCasts_S16384x2048_S4x4096x2048) (broadcastInDim Cert.Reference9Ideal.S4x4096x2048 ![0, 1, 2] Cert.Reference9Ideal.Gen.bcast_S4x4096x1_S4x4096x2048_0_1_2 (Host.rsqrt (addf (Host.divf (broadcastInDim Cert.Reference9Ideal.S4x4096x1 ![0, 1] Cert.Reference9Ideal.Gen.bcast_S4x4096_S4x4096x1_0_1 (Host.reduceAdd (mulf (shapeCast _ X Cert.Reference9Ideal.Gen.shapeCasts_S16384x2048_S4x4096x2048) (shapeCast _ X Cert.Reference9Ideal.Gen.shapeCasts_S16384x2048_S4x4096x2048)) (constant Cert.Reference9Ideal.S_ .f32 0x00000000#32) Cert.Reference9Ideal.Gen.reducesTo_S4x4096x2048_S4x4096_d2 Cert.Reference9Ideal.Gen.h_S_)) (broadcastInDim Cert.Reference9Ideal.S4x4096x1 ![] Cert.Reference9Ideal.Gen.bcast_S_S4x4096x1 (constant Cert.Reference9Ideal.S_ .f32 0x45000000#32))) (broadcastInDim Cert.Reference9Ideal.S4x4096x1 ![] Cert.Reference9Ideal.Gen.bcast_S_S4x4096x1 (constant Cert.Reference9Ideal.S_ .f32 0x358637BD#32)))))) (broadcastInDim Cert.Reference9Ideal.S4x4096x2048 ![0, 1, 2] Cert.Reference9Ideal.Gen.bcast_S1x1x2048_S4x4096x2048_0_1_2 (broadcastInDim Cert.Reference9Ideal.S1x1x2048 ![2] Cert.Reference9Ideal.Gen.bcast_S2048_S1x1x2048_2 N))) (broadcastInDim Cert.Reference9Ideal.S4x4096x2048 ![0, 1, 2] Cert.Reference9Ideal.Gen.bcast_S4x1x2048_S4x4096x2048_0_1_2 (addf (broadcastInDim Cert.Reference9Ideal.S4x1x2048 ![] Cert.Reference9Ideal.Gen.bcast_S_S4x1x2048 (constant Cert.Reference9Ideal.S_ .f32 0x3F800000#32)) SC))) (broadcastInDim Cert.Reference9Ideal.S4x4096x2048 ![0, 1, 2] Cert.Reference9Ideal.Gen.bcast_S4x1x2048_S4x4096x2048_0_1_2 SH)) Cert.Reference9Ideal.Gen.shapeCasts_S4x4096x2048_S16384x2048) Cert.Reference9Ideal.Gen.bitsLt_bf16_f32

/-- One feature normed by the sum of the squares of its row, scaled and shifted. -/
def normed (h : EReal) (s : EReal) (g sc sh : EReal) : EReal :=
  h * Ideal.rsqrt (Ideal.div s (Ideal.ofBits .f32 0x45000000#32) + Ideal.ofBits .f32 0x358637BD#32) * g * (1 + sc) + sh

theorem REF_at (X : FVec Ideal Cert.Reference9Ideal.S16384x2048 .f32) (N : FVec Ideal Cert.Reference9Ideal.S2048 .f32) (SC : FVec Ideal Cert.Reference9Ideal.S4x1x2048 .f32) (SH : FVec Ideal Cert.Reference9Ideal.S4x1x2048 .f32) (t : Fin 16384) (d : Fin 2048) : REF X N SC SH (ix2 t d)
    = normed (X (ix2 t d)) (∑ e : Fin 2048, X (ix2 t e) * X (ix2 t e)) (N (ix1 d)) (SC (ix3 ⟨t.val / 4096, by omega⟩ 0 d)) (SH (ix3 ⟨t.val / 4096, by omega⟩ 0 d)) := by
  pointwise [REF, normed]

/-- The normed tokens of one block, as the body computes them. -/
theorem block_normed (x : Vec Ideal S512x2048 .f32) (n : Vec Ideal S1x2048 .f32) (sc sh : Vec Ideal S1x1x2048 .f32) (k : Fin 512) (d : Fin 2048) :
    k0_pay1 x n sc sh (ix2 k d) = normed (x (ix2 k d)) (∑ e : Fin 2048, x (ix2 k e) * x (ix2 k e)) (n (ix2 0 d))
      (sc (ix3 0 0 d)) (sh (ix3 0 0 d)) := by
  pointwise [k0_pay1, normed]

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![t.val / 8, 0, 0] ∧ win0_3.index t = ![t.val / 8, 0, 0] ∧ win0_4.index t = ![t.val, 0] :=
  (by decide +kernel : ∀ t : Fin grid0.N, _)

/-- A row of the tokens of the block of point `t`, from the call's arguments. -/
theorem row_at (c : Dev nD) (t : Fin cfg0.N) (k : Fin 512) (d : Fin 2048) (hk : t.val * 512 + k.val < 16384) :
    iblk m c 0 t (ix2 k d : S512x2048.Idx) = m ((c : Thread nD τ).loc main_arg0) (ix2 ⟨t.val * 512 + k.val, hk⟩ d : S16384x2048.Idx) := by
  blk_point [iblk, V, idx t]

/-- The result after the run. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have hN : t.val < 32 := lt_of_lt_of_eq t.isLt N_0
  blk_simp
  rw [after0_4]; frame_out
  obtain ⟨k, d, rfl⟩ : ∃ (k : Fin 512) (d : Fin 2048), y = (ix2 k d : S512x2048.Idx) := ⟨y 0, y 1, eq_ix2 (n0 := 512) (n1 := 2048) y⟩
  have hb : t.val * 512 + k.val < 16384 := by omega
  have he : (win0_4.blk t).view.emb (ix2 k d : S512x2048.Idx) = (ix2 ⟨t.val * 512 + k.val, hb⟩ d : S16384x2048.Idx) := by
    blk_ext [idx t]
  refine Eq.trans ?_ ((REF_at _ _ _ _ _ _).symm.trans (congrArg (REF _ _ _ _) he.symm))
  refine (block_normed _ _ _ _ k d).trans ?_
  simp only [row_at m c t k _ hb]
  have hd : (t.val * 512 + k.val) / 4096 = t.val / 8 := by omega
  simp only [hd]
  congr 1
  · blk_point [iblk, V, idx t]
  · blk_point [iblk, V, idx t]
  · blk_point [iblk, V, idx t]

end Cert.Kernel9Ideal.Value

namespace Cert.Kernel10Ideal.Value

open Cert.Kernel10Ideal Cert.Kernel10Ideal.Gen

/-- The reference's result over its arguments: the normed, scaled and shifted tokens. -/
def REF (X : FVec Ideal Cert.Reference10Ideal.S128x2048 .f32) (N : FVec Ideal Cert.Reference10Ideal.S2048 .f32) (SC : FVec Ideal Cert.Reference10Ideal.S1x128x2048 .f32) (SH : FVec Ideal Cert.Reference10Ideal.S1x128x2048 .f32) :
    FVec Ideal Cert.Reference10Ideal.S128x2048 .bf16 :=
  truncf .bf16 (addf (mulf (mulf (mulf X (broadcastInDim Cert.Reference10Ideal.S128x2048 ![0, 1] Cert.Reference10Ideal.Gen.bcast_S128x1_S128x2048_0_1 (Host.rsqrt (addf (Host.divf (broadcastInDim Cert.Reference10Ideal.S128x1 ![0] Cert.Reference10Ideal.Gen.bcast_S128_S128x1_0 (Host.reduceAdd (mulf X X) (constant Cert.Reference10Ideal.S_ .f32 0x00000000#32) Cert.Reference10Ideal.Gen.reducesTo_S128x2048_S128_d1 Cert.Reference10Ideal.Gen.h_S_)) (broadcastInDim Cert.Reference10Ideal.S128x1 ![] Cert.Reference10Ideal.Gen.bcast_S_S128x1 (constant Cert.Reference10Ideal.S_ .f32 0x45000000#32))) (broadcastInDim Cert.Reference10Ideal.S128x1 ![] Cert.Reference10Ideal.Gen.bcast_S_S128x1 (constant Cert.Reference10Ideal.S_ .f32 0x358637BD#32)))))) (broadcastInDim Cert.Reference10Ideal.S128x2048 ![0, 1] Cert.Reference10Ideal.Gen.bcast_S1x2048_S128x2048_0_1 (broadcastInDim Cert.Reference10Ideal.S1x2048 ![1] Cert.Reference10Ideal.Gen.bcast_S2048_S1x2048_1 N))) (addf (broadcastInDim Cert.Reference10Ideal.S128x2048 ![] Cert.Reference10Ideal.Gen.bcast_S_S128x2048 (constant Cert.Reference10Ideal.S_ .f32 0x3F800000#32)) (shapeCast _ SC Cert.Reference10Ideal.Gen.shapeCasts_S1x128x2048_S128x2048))) (shapeCast _ SH Cert.Reference10Ideal.Gen.shapeCasts_S1x128x2048_S128x2048)) Cert.Reference10Ideal.Gen.bitsLt_bf16_f32

/-- One feature normed by the sum of the squares of its row, scaled and shifted. -/
def normed (h : EReal) (s : EReal) (g sc sh : EReal) : EReal :=
  h * Ideal.rsqrt (Ideal.div s (Ideal.ofBits .f32 0x45000000#32) + Ideal.ofBits .f32 0x358637BD#32) * g * (1 + sc) + sh

theorem REF_at (X : FVec Ideal Cert.Reference10Ideal.S128x2048 .f32) (N : FVec Ideal Cert.Reference10Ideal.S2048 .f32) (SC : FVec Ideal Cert.Reference10Ideal.S1x128x2048 .f32) (SH : FVec Ideal Cert.Reference10Ideal.S1x128x2048 .f32) (t : Fin 128) (d : Fin 2048) : REF X N SC SH (ix2 t d)
    = normed (X (ix2 t d)) (∑ e : Fin 2048, X (ix2 t e) * X (ix2 t e)) (N (ix1 d)) (SC (ix3 0 t d)) (SH (ix3 0 t d)) := by
  pointwise [REF, normed]

/-- The normed tokens of one block, as the body computes them. -/
theorem block_normed (x : Vec Ideal S128x2048 .f32) (n : Vec Ideal S1x2048 .f32) (sc sh : Vec Ideal S1x128x2048 .f32) (k : Fin 128) (d : Fin 2048) :
    k0_pay1 x n sc sh (ix2 k d) = normed (x (ix2 k d)) (∑ e : Fin 2048, x (ix2 k e) * x (ix2 k e)) (n (ix2 0 d))
      (sc (ix3 0 k d)) (sh (ix3 0 k d)) := by
  pointwise [k0_pay1, normed]

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![0, t.val, 0] ∧ win0_3.index t = ![0, t.val, 0] ∧ win0_4.index t = ![t.val, 0] :=
  (by decide +kernel : ∀ t : Fin grid0.N, _)

/-- A row of the tokens of the block of point `t`, from the call's arguments. -/
theorem row_at (c : Dev nD) (t : Fin cfg0.N) (k : Fin 128) (d : Fin 2048) (hk : t.val * 128 + k.val < 128) :
    iblk m c 0 t (ix2 k d : S128x2048.Idx) = m ((c : Thread nD τ).loc main_arg0) (ix2 ⟨t.val * 128 + k.val, hk⟩ d : S128x2048.Idx) := by
  blk_point [iblk, V, idx t]

/-- The result after the run. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have hN : t.val < 1 := lt_of_lt_of_eq t.isLt N_0
  blk_simp
  rw [after0_4]; frame_out
  obtain ⟨k, d, rfl⟩ : ∃ (k : Fin 128) (d : Fin 2048), y = (ix2 k d : S128x2048.Idx) := ⟨y 0, y 1, eq_ix2 (n0 := 128) (n1 := 2048) y⟩
  have hb : t.val * 128 + k.val < 128 := by omega
  have he : (win0_4.blk t).view.emb (ix2 k d : S128x2048.Idx) = (ix2 ⟨t.val * 128 + k.val, hb⟩ d : S128x2048.Idx) := by
    blk_ext [idx t]
  refine Eq.trans ?_ ((REF_at _ _ _ _ _ _).symm.trans (congrArg (REF _ _ _ _) he.symm))
  refine (block_normed _ _ _ _ k d).trans ?_
  simp only [row_at m c t k _ hb]
  congr 1
  · blk_point [iblk, V, idx t]
  · blk_point [iblk, V, idx t]
  · blk_point [iblk, V, idx t]

end Cert.Kernel10Ideal.Value

end
-- ==== Proof.Layer.Out.lean ====
module

public import proofs.«01_k».proof.Proof.Gen.Kernel7Ideal.Frame
public import proofs.«01_k».proof.Proof.Gen.Reference7Ideal
public import Idealize.ShloMosaic.Lib.Pipeline.ValueKit

@[expose] public section

/-! # The output projection and the norm before the expert layer

For 512 tokens at a time the call adds the gated projection to the residual stream, and norms, scales and shifts the sum. The two
arrays it leaves are the whole sum and the whole normed sum. -/

set_option maxRecDepth 16384

noncomputable section

namespace Cert.Kernel7Ideal.Value

open Cert.Kernel7Ideal Cert.Kernel7Ideal.Gen Idealize.ShloMosaic Idealize.ShloMosaic.TcCoe Idealize.SL.Sem

/-- The reference's first result over its arguments: the residual stream after the attention. -/
def REFH (M : FVec Ideal Cert.Reference7Ideal.S16384x2048 .bf16) (W : FVec Ideal Cert.Reference7Ideal.S2048x2048 .bf16) (X : FVec Ideal Cert.Reference7Ideal.S16384x2048 .f32)
    (G1 : FVec Ideal Cert.Reference7Ideal.S4x1x2048 .f32) : FVec Ideal Cert.Reference7Ideal.S16384x2048 .f32 :=
  shapeCast _ (addf (shapeCast _ X Cert.Reference7Ideal.Gen.shapeCasts_S16384x2048_S4x4096x2048) (mulf (broadcastInDim Cert.Reference7Ideal.S4x4096x2048 ![0, 1, 2] Cert.Reference7Ideal.Gen.bcast_S4x1x2048_S4x4096x2048_0_1_2 G1) (shapeCast _ (Host.dotGeneral Cert.Reference7Ideal.dot_S16384x2048_S2048x2048_S16384x2048_1_0_0_1_n_n none (extf .f32 M Cert.Reference7Ideal.Gen.bitsLt_bf16_f32) (extf .f32 W Cert.Reference7Ideal.Gen.bitsLt_bf16_f32)) Cert.Reference7Ideal.Gen.shapeCasts_S16384x2048_S4x4096x2048))) Cert.Reference7Ideal.Gen.shapeCasts_S4x4096x2048_S16384x2048

/-- The reference's second result over its arguments: the normed, scaled and shifted stream. -/
def REFM (M : FVec Ideal Cert.Reference7Ideal.S16384x2048 .bf16) (W : FVec Ideal Cert.Reference7Ideal.S2048x2048 .bf16) (X : FVec Ideal Cert.Reference7Ideal.S16384x2048 .f32)
    (G1 : FVec Ideal Cert.Reference7Ideal.S4x1x2048 .f32) (N : FVec Ideal Cert.Reference7Ideal.S2048 .f32) (SC SH : FVec Ideal Cert.Reference7Ideal.S4x1x2048 .f32) : FVec Ideal Cert.Reference7Ideal.S16384x2048 .bf16 :=
  truncf .bf16 (shapeCast _ (addf (mulf (mulf (mulf (addf (shapeCast _ X Cert.Reference7Ideal.Gen.shapeCasts_S16384x2048_S4x4096x2048) (mulf (broadcastInDim Cert.Reference7Ideal.S4x4096x2048 ![0, 1, 2] Cert.Reference7Ideal.Gen.bcast_S4x1x2048_S4x4096x2048_0_1_2 G1) (shapeCast _ (Host.dotGeneral Cert.Reference7Ideal.dot_S16384x2048_S2048x2048_S16384x2048_1_0_0_1_n_n none (extf .f32 M Cert.Reference7Ideal.Gen.bitsLt_bf16_f32) (extf .f32 W Cert.Reference7Ideal.Gen.bitsLt_bf16_f32)) Cert.Reference7Ideal.Gen.shapeCasts_S16384x2048_S4x4096x2048))) (broadcastInDim Cert.Reference7Ideal.S4x4096x2048 ![0, 1, 2] Cert.Reference7Ideal.Gen.bcast_S4x4096x1_S4x4096x2048_0_1_2 (Host.rsqrt (addf (Host.divf (broadcastInDim Cert.Reference7Ideal.S4x4096x1 ![0, 1] Cert.Reference7Ideal.Gen.bcast_S4x4096_S4x4096x1_0_1 (Host.reduceAdd (mulf (addf (shapeCast _ X Cert.Reference7Ideal.Gen.shapeCasts_S16384x2048_S4x4096x2048) (mulf (broadcastInDim Cert.Reference7Ideal.S4x4096x2048 ![0, 1, 2] Cert.Reference7Ideal.Gen.bcast_S4x1x2048_S4x4096x2048_0_1_2 G1) (shapeCast _ (Host.dotGeneral Cert.Reference7Ideal.dot_S16384x2048_S2048x2048_S16384x2048_1_0_0_1_n_n none (extf .f32 M Cert.Reference7Ideal.Gen.bitsLt_bf16_f32) (extf .f32 W Cert.Reference7Ideal.Gen.bitsLt_bf16_f32)) Cert.Reference7Ideal.Gen.shapeCasts_S16384x2048_S4x4096x2048))) (addf (shapeCast _ X Cert.Reference7Ideal.Gen.shapeCasts_S16384x2048_S4x4096x2048) (mulf (broadcastInDim Cert.Reference7Ideal.S4x4096x2048 ![0, 1, 2] Cert.Reference7Ideal.Gen.bcast_S4x1x2048_S4x4096x2048_0_1_2 G1) (shapeCast _ (Host.dotGeneral Cert.Reference7Ideal.dot_S16384x2048_S2048x2048_S16384x2048_1_0_0_1_n_n none (extf .f32 M Cert.Reference7Ideal.Gen.bitsLt_bf16_f32) (extf .f32 W Cert.Reference7Ideal.Gen.bitsLt_bf16_f32)) Cert.Reference7Ideal.Gen.shapeCasts_S16384x2048_S4x4096x2048)))) (constant Cert.Reference7Ideal.S_ .f32 0x00000000#32) Cert.Reference7Ideal.Gen.reducesTo_S4x4096x2048_S4x4096_d2 Cert.Reference7Ideal.Gen.h_S_)) (broadcastInDim Cert.Reference7Ideal.S4x4096x1 ![] Cert.Reference7Ideal.Gen.bcast_S_S4x4096x1 (constant Cert.Reference7Ideal.S_ .f32 0x45000000#32))) (broadcastInDim Cert.Reference7Ideal.S4x4096x1 ![] Cert.Reference7Ideal.Gen.bcast_S_S4x4096x1 (constant Cert.Reference7Ideal.S_ .f32 0x358637BD#32)))))) (broadcastInDim Cert.Reference7Ideal.S4x4096x2048 ![0, 1, 2] Cert.Reference7Ideal.Gen.bcast_S1x1x2048_S4x4096x2048_0_1_2 (broadcastInDim Cert.Reference7Ideal.S1x1x2048 ![2] Cert.Reference7Ideal.Gen.bcast_S2048_S1x1x2048_2 N))) (broadcastInDim Cert.Reference7Ideal.S4x4096x2048 ![0, 1, 2] Cert.Reference7Ideal.Gen.bcast_S4x1x2048_S4x4096x2048_0_1_2 (addf (broadcastInDim Cert.Reference7Ideal.S4x1x2048 ![] Cert.Reference7Ideal.Gen.bcast_S_S4x1x2048 (constant Cert.Reference7Ideal.S_ .f32 0x3F800000#32)) SC))) (broadcastInDim Cert.Reference7Ideal.S4x4096x2048 ![0, 1, 2] Cert.Reference7Ideal.Gen.bcast_S4x1x2048_S4x4096x2048_0_1_2 SH)) Cert.Reference7Ideal.Gen.shapeCasts_S4x4096x2048_S16384x2048) Cert.Reference7Ideal.Gen.bitsLt_bf16_f32

/-- The stream after the attention, at a token and a feature. -/
def hid (M : FVec Ideal Cert.Reference7Ideal.S16384x2048 .bf16) (W : FVec Ideal Cert.Reference7Ideal.S2048x2048 .bf16) (X : FVec Ideal Cert.Reference7Ideal.S16384x2048 .f32)
    (G1 : FVec Ideal Cert.Reference7Ideal.S4x1x2048 .f32) (t : Fin 16384) (d : Fin 2048) : EReal :=
  X (ix2 t d) + G1 (ix3 ⟨t.val / 4096, by omega⟩ 0 d) * ∑ k : Fin 2048, M (ix2 t k) * W (ix2 k d)

/-- One feature normed by the sum of the squares of its row, scaled and shifted. -/
def normed (h : EReal) (s : EReal) (g sc sh : EReal) : EReal :=
  h * Ideal.rsqrt (Ideal.div s (Ideal.ofBits .f32 0x45000000#32) + Ideal.ofBits .f32 0x358637BD#32) * g * (1 + sc) + sh

theorem REFH_at (M : FVec Ideal Cert.Reference7Ideal.S16384x2048 .bf16) (W : FVec Ideal Cert.Reference7Ideal.S2048x2048 .bf16) (X : FVec Ideal Cert.Reference7Ideal.S16384x2048 .f32)
    (G1 : FVec Ideal Cert.Reference7Ideal.S4x1x2048 .f32) (t : Fin 16384) (d : Fin 2048) : REFH M W X G1 (ix2 t d) = hid M W X G1 t d := by
  pointwise [REFH, hid]

theorem REFM_at (M : FVec Ideal Cert.Reference7Ideal.S16384x2048 .bf16) (W : FVec Ideal Cert.Reference7Ideal.S2048x2048 .bf16) (X : FVec Ideal Cert.Reference7Ideal.S16384x2048 .f32)
    (G1 : FVec Ideal Cert.Reference7Ideal.S4x1x2048 .f32) (N : FVec Ideal Cert.Reference7Ideal.S2048 .f32) (SC SH : FVec Ideal Cert.Reference7Ideal.S4x1x2048 .f32) (t : Fin 16384) (d : Fin 2048) : REFM M W X G1 N SC SH (ix2 t d)
    = normed (hid M W X G1 t d) (∑ e : Fin 2048, hid M W X G1 t e * hid M W X G1 t e) (N (ix1 d))
      (SC (ix3 ⟨t.val / 4096, by omega⟩ 0 d)) (SH (ix3 ⟨t.val / 4096, by omega⟩ 0 d)) := by
  pointwise [REFM, hid, normed]

/-- The stream of one block, as the body computes it. -/
theorem block_stream (x : Vec Ideal S512x2048 .f32) (g : Vec Ideal S1x1x2048 .f32) (p : Vec Ideal S512x2048 .bf16) (w : Vec Ideal S2048x2048 .bf16)
    (k : Fin 512) (d : Fin 2048) :
    k0_pay2 x g p w (ix2 k d) = x (ix2 k d) + g (ix3 0 0 d) * ∑ j : Fin 2048, p (ix2 k j) * w (ix2 j d) := by
  pointwise [k0_pay2]

/-- The normed stream of one block, from its stream. -/
theorem block_normed (x : Vec Ideal S512x2048 .f32) (g : Vec Ideal S1x1x2048 .f32) (p : Vec Ideal S512x2048 .bf16) (w : Vec Ideal S2048x2048 .bf16)
    (n : Vec Ideal S1x2048 .f32) (sc sh : Vec Ideal S1x1x2048 .f32) (k : Fin 512) (d : Fin 2048) :
    k0_pay1 (k0_pay3 x g p w n sc sh) (ix2 k d) = normed (k0_pay2 x g p w (ix2 k d))
      (∑ e : Fin 2048, k0_pay2 x g p w (ix2 k e) * k0_pay2 x g p w (ix2 k e)) (n (ix2 0 d)) (sc (ix3 0 0 d)) (sh (ix3 0 0 d)) := by
  pointwise [k0_pay1, k0_pay3, normed]

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![t.val, 0]
    ∧ win0_3.index t = ![t.val / 8, 0, 0] ∧ win0_4.index t = ![0, 0] ∧ win0_5.index t = ![t.val / 8, 0, 0]
    ∧ win0_6.index t = ![t.val / 8, 0, 0] ∧ win0_7.index t = ![t.val, 0] ∧ win0_8.index t = ![t.val, 0] :=
  (by decide +kernel : ∀ t : Fin grid0.N, _)

/-- The stream of the block of point `t`, from the call's arguments. -/
theorem stream_at (c : Dev nD) (t : Fin cfg0.N) (k : Fin 512) (d : Fin 2048) (hk : t.val * 512 + k.val < 16384) :
    k0_pay2 (iblk m c 2 t) (iblk m c 3 t) (iblk m c 0 t) (iblk m c 1 t) (ix2 k d)
    = hid (m ((c : Thread nD τ).loc main_arg0)) (m ((c : Thread nD τ).loc main_arg1)) (m ((c : Thread nD τ).loc main_arg2))
      (m ((c : Thread nD τ).loc main_arg3)) ⟨t.val * 512 + k.val, hk⟩ d := by
  rw [block_stream]
  unfold hid
  have hd : (t.val * 512 + k.val) / 4096 = t.val / 8 := by omega
  simp only [hd]
  blk_point [iblk, V, idx t]

/-- The first result after the run. -/
theorem final_stream (c : Dev nD) : (dats m 0 c).arrAt 7 (cfgs 0).N
    = REFH (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t _ y => ?_
  have hN : t.val < 32 := lt_of_lt_of_eq t.isLt N_0
  blk_simp
  rw [after0_7]; frame_out
  obtain ⟨k, d, rfl⟩ : ∃ (k : Fin 512) (d : Fin 2048), y = (ix2 k d : S512x2048.Idx) := ⟨y 0, y 1, eq_ix2 (n0 := 512) (n1 := 2048) y⟩
  have hb : t.val * 512 + k.val < 16384 := by omega
  have he : (win0_7.blk t).view.emb (ix2 k d : S512x2048.Idx) = (ix2 ⟨t.val * 512 + k.val, hb⟩ d : S16384x2048.Idx) := by
    blk_ext [idx t]
  exact (stream_at m c t k d hb).trans ((REFH_at _ _ _ _ _ _).symm.trans (congrArg (REFH _ _ _ _) he.symm))

/-- The second result after the run. -/
theorem final_normed (c : Dev nD) : (dats m 0 c).arrAt 8 (cfgs 0).N
    = REFM (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 8 _ (by decide +kernel) fun t _ y => ?_
  have hN : t.val < 32 := lt_of_lt_of_eq t.isLt N_0
  blk_simp
  rw [after0_8]; frame_out
  obtain ⟨k, d, rfl⟩ : ∃ (k : Fin 512) (d : Fin 2048), y = (ix2 k d : S512x2048.Idx) := ⟨y 0, y 1, eq_ix2 (n0 := 512) (n1 := 2048) y⟩
  have hb : t.val * 512 + k.val < 16384 := by omega
  have he : (win0_8.blk t).view.emb (ix2 k d : S512x2048.Idx) = (ix2 ⟨t.val * 512 + k.val, hb⟩ d : S16384x2048.Idx) := by
    blk_ext [idx t]
  refine Eq.trans ?_ ((REFM_at _ _ _ _ _ _ _ _ _).symm.trans (congrArg (REFM _ _ _ _ _ _ _) he.symm))
  refine (block_normed _ _ _ _ _ _ _ k d).trans ?_
  simp only [stream_at m c t k _ hb]
  have hd : (t.val * 512 + k.val) / 4096 = t.val / 8 := by omega
  simp only [hd]
  congr 1
  · blk_point [iblk, V, idx t]
  · blk_point [iblk, V, idx t]
  · blk_point [iblk, V, idx t]

end Cert.Kernel7Ideal.Value

end
-- ==== Proof.Layer.Residual.lean ====
module

public import proofs.«01_k».proof.Proof.Gen.Kernel14Ideal.Frame
public import proofs.«01_k».proof.Proof.Gen.Reference14Ideal
public import proofs.«01_k».proof.Proof.Gen.Kernel15Ideal.Frame
public import proofs.«01_k».proof.Proof.Gen.Reference15Ideal
public import Idealize.ShloMosaic.Lib.Pipeline.ValueKit

@[expose] public section

/-! # The last residual sum

A block of tokens at a time the call adds the gated output of the expert layer to the residual stream, for the prompt and for the
sample. -/

set_option maxRecDepth 16384

noncomputable section

open Idealize.ShloMosaic Idealize.ShloMosaic.TcCoe Idealize.SL.Sem

namespace Cert.Kernel14Ideal.Value

open Cert.Kernel14Ideal Cert.Kernel14Ideal.Gen

/-- The reference's result over its arguments: the residual stream after the expert layer. -/
def REF (H : FVec Ideal Cert.Reference14Ideal.S16384x2048 .f32) (P : FVec Ideal Cert.Reference14Ideal.S16384x2048 .f32) (G : FVec Ideal Cert.Reference14Ideal.S4x1x2048 .f32) :
    FVec Ideal Cert.Reference14Ideal.S16384x2048 .f32 :=
  shapeCast _ (addf (shapeCast _ H Cert.Reference14Ideal.Gen.shapeCasts_S16384x2048_S4x4096x2048) (mulf (broadcastInDim Cert.Reference14Ideal.S4x4096x2048 ![0, 1, 2] Cert.Reference14Ideal.Gen.bcast_S4x1x2048_S4x4096x2048_0_1_2 G) (shapeCast _ P Cert.Reference14Ideal.Gen.shapeCasts_S16384x2048_S4x4096x2048))) Cert.Reference14Ideal.Gen.shapeCasts_S4x4096x2048_S16384x2048

theorem REF_at (H P : FVec Ideal Cert.Reference14Ideal.S16384x2048 .f32) (G : FVec Ideal Cert.Reference14Ideal.S4x1x2048 .f32)
    (t : Fin 16384) (d : Fin 2048) : REF H P G (ix2 t d) = H (ix2 t d) + G (ix3 ⟨t.val / 4096, by omega⟩ 0 d) * P (ix2 t d) := by
  pointwise [REF]

/-- The sum of one block, as the body computes it. -/
theorem block_sum (h : Vec Ideal S512x2048 .f32) (g : Vec Ideal S1x1x2048 .f32) (p : Vec Ideal S512x2048 .f32) (k : Fin 512) (d : Fin 2048) :
    k0_pay1 h g p (ix2 k d) = h (ix2 k d) + g (ix3 0 0 d) * p (ix2 k d) := by
  pointwise [k0_pay1]

variable (m : (ℓ : Loc nD τ sig) → Buf (Elt Ideal) ℓ)

/-- Where the windows' blocks stand at each point of the grid. -/
theorem idx : ∀ t : Fin cfg0.N, win0_0.index t = ![t.val, 0] ∧ win0_1.index t = ![t.val, 0] ∧ win0_2.index t = ![t.val / 8, 0, 0] ∧ win0_3.index t = ![t.val, 0] :=
  (by decide +kernel : ∀ t : Fin grid0.N, _)

/-- The result after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN : t.val < 32 := lt_of_lt_of_eq t.isLt N_0
  blk_simp
  rw [after0_3]; frame_out
  obtain ⟨k, d, rfl⟩ : ∃ (k : Fin 512) (d : Fin 2048), y = (ix2 k d : S512x2048.Idx) := ⟨y 0, y 1, eq_ix2 (n0 := 512) (n1 := 2048) y⟩
  have hb : t.val * 512 + k.val < 16384 := by omega
  have he : (win0_3.blk t).view.emb (ix2 k d : S512x2048.Idx) = (ix2 ⟨t.val * 512 + k.val, hb⟩ d : S16384x2048.Idx) := by
    blk_ext [idx t]
  refine Eq.trans ?_ ((REF_at _ _ _ _ _).symm.trans (congrArg (REF _ _ _) he.symm))
  refine (block_sum _ _ _ k d).trans ?_
  have hd : (t.val * 512 + k.val) / 4096 = t.val / 8 := by omega
  simp only [hd]
  blk_point [iblk, V, idx t]

end Cert.Kernel14Ideal.Value

namespace Cert.Kernel15Ideal.Value

open Cert.Kernel15Ideal Cert.Kernel15Ideal.Gen

/-- The reference's result over its arguments: the residual stream after the expert layer. -/
def REF (H : FVec Ideal Cert.Reference15Ideal.S128x2048 .f32) (P : FVec Ideal Cert.Reference15Ideal.S128x2048 .f32) (G : FVec Ideal Cert.Reference15Ideal.S1x128x2048 .f32) :
    FVec Ideal Cert.Reference15Ideal.S128x2048 .f32 :=
  addf H (mulf (shapeCast _ G Cert.Reference15Ideal.Gen.shapeCasts_S1x128x2048_S128x2048) P)

variable (m : (ℓ : Loc nD τ sig) → Buf (Elt Ideal) ℓ)

/-- Where the windows' blocks stand at each point of the grid. -/
theorem idx : ∀ t : Fin cfg0.N, win0_0.index t = ![t.val, 0] ∧ win0_1.index t = ![t.val, 0] ∧ win0_2.index t = ![0, t.val, 0] ∧ win0_3.index t = ![t.val, 0] :=
  (by decide +kernel : ∀ t : Fin grid0.N, _)

/-- The sum of one block is the rows of the whole sum at these tokens. -/
theorem point (c : Dev nD) (t : Fin cfg0.N) (y : S128x2048.Idx) : k0_pay1 (iblk m c 0 t) (iblk m c 2 t) (iblk m c 1 t) y
    = REF (m ((c : Thread nD τ).loc main_arg0)) (m ((c : Thread nD τ).loc main_arg1)) (m ((c : Thread nD τ).loc main_arg2)) ((win0_3.blk t).view.emb y) := by
  pointwise [k0_pay1, REF]
  blk_point [iblk, V, idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel15Ideal.Value

end
-- ==== Proof.Layer.Sample.lean ====
module

public import proofs.«01_k».proof.Proof.Gen.Kernel12Ideal.Frame
public import proofs.«01_k».proof.Proof.Gen.Reference12Ideal
public import proofs.«01_k».proof.Proof.Gen.Kernel13Ideal.Frame
public import proofs.«01_k».proof.Proof.Gen.Reference13Ideal
public import Idealize.ShloMosaic.Lib.Pipeline.ValueKit

@[expose] public section

/-! # The plain projections of the sample

The call multiplies the normed tokens of the sample, all in one block, by one section of a weight matrix. -/

set_option maxRecDepth 16384

noncomputable section

open Idealize.ShloMosaic Idealize.ShloMosaic.TcCoe Idealize.SL.Sem

namespace Cert.Kernel12Ideal.Value

open Cert.Kernel12Ideal Cert.Kernel12Ideal.Gen

/-- The reference's result over its arguments: the tokens times a section of 1024 columns. -/
def REF (X : FVec Ideal Cert.Reference12Ideal.S128x2048 .bf16) (W : FVec Ideal Cert.Reference12Ideal.S2048x1024 .bf16) :
    FVec Ideal Cert.Reference12Ideal.S128x1024 .f32 :=
  Host.dotGeneral Cert.Reference12Ideal.dot_S128x2048_S2048x1024_S128x1024_1_0_0_1_n_n none (extf .f32 X Cert.Reference12Ideal.Gen.bitsLt_bf16_f32) (extf .f32 W Cert.Reference12Ideal.Gen.bitsLt_bf16_f32)

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![t.val, 0] :=
  (by decide +kernel : ∀ t : Fin grid0.N, _)

/-- The block of tokens times the weights is the whole product at these tokens. -/
theorem point (c : Dev nD) (t : Fin cfg0.N) (y : S128x1024.Idx) : k0_pay1 (iblk m c 0 t) (iblk m c 1 t) y
    = REF (m ((c : Thread nD τ).loc main_arg0)) (m ((c : Thread nD τ).loc main_arg1)) ((win0_2.blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.Value

namespace Cert.Kernel13Ideal.Value

open Cert.Kernel13Ideal Cert.Kernel13Ideal.Gen

/-- The reference's result over its arguments: the tokens times a section of 64 columns. -/
def REF (X : FVec Ideal Cert.Reference13Ideal.S128x2048 .bf16) (W : FVec Ideal Cert.Reference13Ideal.S2048x64 .bf16) :
    FVec Ideal Cert.Reference13Ideal.S128x64 .f32 :=
  Host.dotGeneral Cert.Reference13Ideal.dot_S128x2048_S2048x64_S128x64_1_0_0_1_n_n none (extf .f32 X Cert.Reference13Ideal.Gen.bitsLt_bf16_f32) (extf .f32 W Cert.Reference13Ideal.Gen.bitsLt_bf16_f32)

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![t.val, 0] :=
  (by decide +kernel : ∀ t : Fin grid0.N, _)

/-- The block of tokens times the weights is the whole product at these tokens. -/
theorem point (c : Dev nD) (t : Fin cfg0.N) (y : S128x64.Idx) : k0_pay1 (iblk m c 0 t) (iblk m c 1 t) y
    = REF (m ((c : Thread nD τ).loc main_arg0)) (m ((c : Thread nD τ).loc main_arg1)) ((win0_2.blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel13Ideal.Value

end
-- ==== Proof.Layer.SampleHeads.lean ====
module

public import proofs.«01_k».proof.Proof.Gen.Kernel11Ideal.Value
public import proofs.«01_k».proof.Proof.Gen.Reference11Ideal
public import Idealize.ShloMosaic.Lib.Pipeline.ValueKit

@[expose] public section

/-! # The projections of the sample with a norm in each head

For the tokens of the sample, all in one block, the call multiplies by a section of 1024 columns and norms each head of 128 columns. The array it leaves
is the whole normed product. -/

set_option maxRecDepth 16384

noncomputable section

namespace Cert.Kernel11Ideal.Value

open Cert.Kernel11Ideal Cert.Kernel11Ideal.Gen Idealize.ShloMosaic Idealize.ShloMosaic.TcCoe Idealize.SL.Sem

/-- The reference's result over its arguments. -/
def REF (X : FVec Ideal Cert.Reference11Ideal.S128x2048 .bf16) (W : FVec Ideal Cert.Reference11Ideal.S2048x1024 .bf16) (G : FVec Ideal Cert.Reference11Ideal.S128 .f32) : FVec Ideal Cert.Reference11Ideal.S128x1024 .f32 :=
  shapeCast _ (mulf (mulf (shapeCast _ (Host.dotGeneral Cert.Reference11Ideal.dot_S128x2048_S2048x1024_S128x1024_1_0_0_1_n_n none (extf .f32 X Cert.Reference11Ideal.Gen.bitsLt_bf16_f32) (extf .f32 W Cert.Reference11Ideal.Gen.bitsLt_bf16_f32)) Cert.Reference11Ideal.Gen.shapeCasts_S128x1024_S128x8x128) (broadcastInDim Cert.Reference11Ideal.S128x8x128 ![0, 1, 2] Cert.Reference11Ideal.Gen.bcast_S128x8x1_S128x8x128_0_1_2 (Host.rsqrt (addf (Host.divf (broadcastInDim Cert.Reference11Ideal.S128x8x1 ![0, 1] Cert.Reference11Ideal.Gen.bcast_S128x8_S128x8x1_0_1 (Host.reduceAdd (mulf (shapeCast _ (Host.dotGeneral Cert.Reference11Ideal.dot_S128x2048_S2048x1024_S128x1024_1_0_0_1_n_n none (extf .f32 X Cert.Reference11Ideal.Gen.bitsLt_bf16_f32) (extf .f32 W Cert.Reference11Ideal.Gen.bitsLt_bf16_f32)) Cert.Reference11Ideal.Gen.shapeCasts_S128x1024_S128x8x128) (shapeCast _ (Host.dotGeneral Cert.Reference11Ideal.dot_S128x2048_S2048x1024_S128x1024_1_0_0_1_n_n none (extf .f32 X Cert.Reference11Ideal.Gen.bitsLt_bf16_f32) (extf .f32 W Cert.Reference11Ideal.Gen.bitsLt_bf16_f32)) Cert.Reference11Ideal.Gen.shapeCasts_S128x1024_S128x8x128)) (constant Cert.Reference11Ideal.S_ .f32 0x00000000#32) Cert.Reference11Ideal.Gen.reducesTo_S128x8x128_S128x8_d2 Cert.Reference11Ideal.Gen.h_S_)) (broadcastInDim Cert.Reference11Ideal.S128x8x1 ![] Cert.Reference11Ideal.Gen.bcast_S_S128x8x1 (constant Cert.Reference11Ideal.S_ .f32 0x43000000#32))) (broadcastInDim Cert.Reference11Ideal.S128x8x1 ![] Cert.Reference11Ideal.Gen.bcast_S_S128x8x1 (constant Cert.Reference11Ideal.S_ .f32 0x358637BD#32)))))) (broadcastInDim Cert.Reference11Ideal.S128x8x128 ![0, 1, 2] Cert.Reference11Ideal.Gen.bcast_S1x1x128_S128x8x128_0_1_2 (broadcastInDim Cert.Reference11Ideal.S1x1x128 ![2] Cert.Reference11Ideal.Gen.bcast_S128_S1x1x128_2 G))) Cert.Reference11Ideal.Gen.shapeCasts_S128x8x128_S128x1024

/-- The product at a token and a column. -/
def prod (X : FVec Ideal Cert.Reference11Ideal.S128x2048 .bf16) (W : FVec Ideal Cert.Reference11Ideal.S2048x1024 .bf16) (t : Fin 128) (d : Fin 1024) : EReal := ∑ k : Fin 2048, X (ix2 t k) * W (ix2 k d)

/-- One column normed by the sum of the squares of its head. -/
def headed (h s g : EReal) : EReal :=
  h * Ideal.rsqrt (Ideal.div s (Ideal.ofBits .f32 0x43000000#32) + Ideal.ofBits .f32 0x358637BD#32) * g

theorem REF_at (X : FVec Ideal Cert.Reference11Ideal.S128x2048 .bf16) (W : FVec Ideal Cert.Reference11Ideal.S2048x1024 .bf16) (G : FVec Ideal Cert.Reference11Ideal.S128 .f32) (t : Fin 128) (d : Fin 1024) : REF X W G (ix2 t d)
    = headed (prod X W t d) (∑ l : Fin 128, prod X W t ⟨d.val / 128 * 128 + l.val, by omega⟩ * prod X W t ⟨d.val / 128 * 128 + l.val, by omega⟩)
      (G (ix1 ⟨d.val % 128, by omega⟩)) := by
  pointwise [REF, headed, prod]

/-- The product of one block, as the body computes it. -/
theorem block_prod (x : Vec Ideal S128x2048 .bf16) (w : Vec Ideal S2048x1024 .bf16) (k : Fin 128) (d : Fin 1024) :
    k0_pay2 x w (ix2 k d) = ∑ j : Fin 2048, x (ix2 k j) * w (ix2 j d) := by
  pointwise [k0_pay2]

/-- The sum of the squares of one head of one block. -/
theorem block_squares (Z : FVec Ideal S128x1024 .f32) (o : ℕ) (ho : o + 128 ≤ 1024) (hs) (k : Fin 128) :
    multiReduction .add [1] S128 (mulf (extractStridedSlice S128x128 ![0, o] Z hs) (extractStridedSlice S128x128 ![0, o] Z hs))
      0x00000000#32 reduces_S128x128_S128 (.inl rfl) rfl (ix1 k)
    = ∑ l : Fin 128, Z (ix2 k ⟨o + l.val, by omega⟩) * Z (ix2 k ⟨o + l.val, by omega⟩) := by
  pointwise []

theorem family_at (x : Vec Ideal S128x2048 .bf16) (w : Vec Ideal S2048x1024 .bf16) (g : Vec Ideal S1x128 .f32) (k : Fin 128) :
    ∀ j : Fin 8, Fam3_1 x w g j (ix1 k) = ∑ l : Fin 128, k0_pay2 x w (ix2 k ⟨j.val * 128 + l.val, by omega⟩)
      * k0_pay2 x w (ix2 k ⟨j.val * 128 + l.val, by omega⟩)
  | ⟨0, _⟩ => block_squares _ 0 (by omega) _ k
  | ⟨1, _⟩ => block_squares _ 128 (by omega) _ k
  | ⟨2, _⟩ => block_squares _ 256 (by omega) _ k
  | ⟨3, _⟩ => block_squares _ 384 (by omega) _ k
  | ⟨4, _⟩ => block_squares _ 512 (by omega) _ k
  | ⟨5, _⟩ => block_squares _ 640 (by omega) _ k
  | ⟨6, _⟩ => block_squares _ 768 (by omega) _ k
  | ⟨7, _⟩ => block_squares _ 896 (by omega) _ k

/-- The eight pieces that the body leaves in the block are one function of the loaded blocks. -/
theorem out_at (x : Vec Ideal S128x2048 .bf16) (w : Vec Ideal S2048x1024 .bf16) (g : Vec Ideal S1x128 .f32) (y : S128x1024.Idx) :
    out0_3 x w g y = E3 x w g y := by
  unfold_out out0_3
  rw [View.ld_unit_lit (S := S128x2048) _ x (by decide), View.ld_unit_lit (S := S2048x1024) _ w (by decide),
    View.ld_unit_lit (S := S1x128) _ g (by decide)]
  exact canon3_eq _ _ _ _

/-- That function at a token and a column. -/
theorem block_headed (x : Vec Ideal S128x2048 .bf16) (w : Vec Ideal S2048x1024 .bf16) (g : Vec Ideal S1x128 .f32) (k : Fin 128) (d : Fin 1024) :
    E3 x w g (ix2 k d) = headed (k0_pay2 x w (ix2 k d)) (∑ l : Fin 128, k0_pay2 x w (ix2 k ⟨d.val / 128 * 128 + l.val, by omega⟩)
      * k0_pay2 x w (ix2 k ⟨d.val / 128 * 128 + l.val, by omega⟩)) (g (ix2 0 ⟨d.val % 128, by omega⟩)) := by
  have e1 : ix3_0 (ix2 k d) = (ix2 k d : S128x1024.Idx) := by funext a; fin_cases a <;> rfl
  have e2 : ix3_1 (ix2 k d) = (ix1 k : S128.Idx) := by funext a; fin_cases a; rfl
  have e3 : ix3_2 (ix2 k d) = (ix2 0 ⟨d.val % 128, by omega⟩ : S1x128.Idx) := by funext a; fin_cases a <;> rfl
  have e4 := family_at x w g k (sel3 (ix2 k d))
  unfold headed E3
  rw [e1, e2, e3, e4]
  rfl

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The product of the block of point `t`, from the call's arguments. -/
theorem prod_at (c : Dev nD) (t : Fin cfg0.N) (k : Fin 128) (d : Fin 1024) (hk : t.val * 128 + k.val < 128) :
    k0_pay2 (iblk m c 0 t) (iblk m c 1 t) (ix2 k d)
    = prod (m ((c : Thread nD τ).loc main_arg0)) (m ((c : Thread nD τ).loc main_arg1)) ⟨t.val * 128 + k.val, hk⟩ d := by
  rw [block_prod]
  unfold prod
  blk_point [iblk, V, idx t]

/-- The result after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN : t.val < 1 := lt_of_lt_of_eq t.isLt N_0
  blk_simp
  rw [after0_3]
  obtain ⟨k, d, rfl⟩ : ∃ (k : Fin 128) (d : Fin 1024), y = (ix2 k d : S128x1024.Idx) := ⟨y 0, y 1, eq_ix2 (n0 := 128) (n1 := 1024) y⟩
  have hb : t.val * 128 + k.val < 128 := by omega
  have he : (win0_3.blk t).view.emb (ix2 k d : S128x1024.Idx) = (ix2 ⟨t.val * 128 + k.val, hb⟩ d : S128x1024.Idx) := by
    blk_ext [idx t]
  refine Eq.trans ?_ ((REF_at _ _ _ _ _).symm.trans (congrArg (REF _ _ _) he.symm))
  refine (out_at _ _ _ _).trans ((block_headed _ _ _ k d).trans ?_)
  simp only [prod_at m c t k _ hb]
  congr 1
  blk_point [iblk, V, idx t]

end Cert.Kernel11Ideal.Value

end
-- ==== Proof.Layer.SampleMore.lean ====
module

public import proofs.«01_k».proof.Proof.Gen.Kernel19Ideal.Frame
public import proofs.«01_k».proof.Proof.Gen.Reference19Ideal
public import proofs.«01_k».proof.Proof.Gen.Kernel20Ideal.Frame
public import proofs.«01_k».proof.Proof.Gen.Reference20Ideal
public import proofs.«01_k».proof.Proof.Gen.Kernel21Ideal.Frame
public import proofs.«01_k».proof.Proof.Gen.Reference21Ideal
public import Idealize.ShloMosaic.Lib.Pipeline.ValueKit

@[expose] public section

/-! # Further calls of the sample

The plain projection to 2048 columns, the gated merge of the two branches and the output projection with the norm after it, for all
tokens of the sample in one block. -/

set_option maxRecDepth 16384

noncomputable section

open Idealize.ShloMosaic Idealize.ShloMosaic.TcCoe Idealize.SL.Sem

namespace Cert.Kernel19Ideal.Value

open Cert.Kernel19Ideal Cert.Kernel19Ideal.Gen

/-- The reference's result over its arguments: the tokens times a section of 2048 columns. -/
def REF (X : FVec Ideal Cert.Reference19Ideal.S128x2048 .bf16) (W : FVec Ideal Cert.Reference19Ideal.S2048x2048 .bf16) :
    FVec Ideal Cert.Reference19Ideal.S128x2048 .f32 :=
  Host.dotGeneral Cert.Reference19Ideal.dot_S128x2048_S2048x2048_S128x2048_1_0_0_1_n_n none (extf .f32 X Cert.Reference19Ideal.Gen.bitsLt_bf16_f32) (extf .f32 W Cert.Reference19Ideal.Gen.bitsLt_bf16_f32)

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![t.val, 0] :=
  (by decide +kernel : ∀ t : Fin grid0.N, _)

/-- The block of tokens times the weights is the whole product at these tokens. -/
theorem point (c : Dev nD) (t : Fin cfg0.N) (y : S128x2048.Idx) : k0_pay1 (iblk m c 0 t) (iblk m c 1 t) y
    = REF (m ((c : Thread nD τ).loc main_arg0)) (m ((c : Thread nD τ).loc main_arg1)) ((win0_2.blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel19Ideal.Value

namespace Cert.Kernel20Ideal.Value

open Cert.Kernel20Ideal Cert.Kernel20Ideal.Gen

variable (m : (ℓ : Loc nD τ sig) → Buf (Elt Ideal) ℓ)

/-- The reference's result over its arguments. -/
abbrev REF (OA OB : FVec Ideal Cert.Reference20Ideal.S128x1024 .f32) (GA GB : FVec Ideal Cert.Reference20Ideal.S128x2048 .f32)
    (WA WB : FVec Ideal Cert.Reference20Ideal.S1024x2048 .bf16) : FVec Ideal Cert.Reference20Ideal.S128x2048 .bf16 :=
  truncf .bf16 (addf (mulf (Host.divf (broadcastInDim Cert.Reference20Ideal.S128x2048 ![] Cert.Reference20Ideal.Gen.bcast_S_S128x2048 (constant Cert.Reference20Ideal.S_ .f32 0x3F800000#32)) (addf (broadcastInDim Cert.Reference20Ideal.S128x2048 ![] Cert.Reference20Ideal.Gen.bcast_S_S128x2048 (constant Cert.Reference20Ideal.S_ .f32 0x3F800000#32)) (Host.exp (Host.negf GA)))) (Host.dotGeneral Cert.Reference20Ideal.dot_S128x1024_S1024x2048_S128x2048_1_0_0_1_n_n none OA (extf .f32 WA Cert.Reference20Ideal.Gen.bitsLt_bf16_f32))) (mulf (Host.divf (broadcastInDim Cert.Reference20Ideal.S128x2048 ![] Cert.Reference20Ideal.Gen.bcast_S_S128x2048 (constant Cert.Reference20Ideal.S_ .f32 0x3F800000#32)) (addf (broadcastInDim Cert.Reference20Ideal.S128x2048 ![] Cert.Reference20Ideal.Gen.bcast_S_S128x2048 (constant Cert.Reference20Ideal.S_ .f32 0x3F800000#32)) (Host.exp (Host.negf GB)))) (Host.dotGeneral Cert.Reference20Ideal.dot_S128x1024_S1024x2048_S128x2048_1_0_0_1_n_n none OB (extf .f32 WB Cert.Reference20Ideal.Gen.bitsLt_bf16_f32)))) Cert.Reference20Ideal.Gen.bitsLt_bf16_f32

/-- Where the windows' blocks stand at each point of the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- What a block computes is the rows of the whole merge at these tokens. -/
theorem point (c : Dev nD) (t : Fin cfg0.N) (y : S128x2048.Idx) :
    k0_pay1 (iblk m c 0 t) (iblk m c 4 t) (iblk m c 1 t) (iblk m c 5 t) (iblk m c 2 t) (iblk m c 3 t) y
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ((win0_6.blk t).view.emb y) := by
  pointwise [k0_pay1, REF, Ideal.logistic]
  blk_point [iblk, V, idx t]

/-- The result array after the run is the whole merge. -/
theorem final (c : Dev nD) : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Kernel20Ideal.Value

namespace Cert.Kernel21Ideal.Value

open Cert.Kernel21Ideal Cert.Kernel21Ideal.Gen

/-- The reference's first result over its arguments: the residual stream after the attention. -/
def REFH (M : FVec Ideal Cert.Reference21Ideal.S128x2048 .bf16) (W : FVec Ideal Cert.Reference21Ideal.S2048x2048 .bf16) (X : FVec Ideal Cert.Reference21Ideal.S128x2048 .f32)
    (G1 : FVec Ideal Cert.Reference21Ideal.S1x128x2048 .f32) : FVec Ideal Cert.Reference21Ideal.S128x2048 .f32 :=
  addf X (mulf (shapeCast _ G1 Cert.Reference21Ideal.Gen.shapeCasts_S1x128x2048_S128x2048) (Host.dotGeneral Cert.Reference21Ideal.dot_S128x2048_S2048x2048_S128x2048_1_0_0_1_n_n none (extf .f32 M Cert.Reference21Ideal.Gen.bitsLt_bf16_f32) (extf .f32 W Cert.Reference21Ideal.Gen.bitsLt_bf16_f32)))

/-- The reference's second result over its arguments: the normed, scaled and shifted stream. -/
def REFM (M : FVec Ideal Cert.Reference21Ideal.S128x2048 .bf16) (W : FVec Ideal Cert.Reference21Ideal.S2048x2048 .bf16) (X : FVec Ideal Cert.Reference21Ideal.S128x2048 .f32)
    (G1 : FVec Ideal Cert.Reference21Ideal.S1x128x2048 .f32) (N : FVec Ideal Cert.Reference21Ideal.S2048 .f32) (SC SH : FVec Ideal Cert.Reference21Ideal.S1x128x2048 .f32) : FVec Ideal Cert.Reference21Ideal.S128x2048 .bf16 :=
  truncf .bf16 (addf (mulf (mulf (mulf (addf X (mulf (shapeCast _ G1 Cert.Reference21Ideal.Gen.shapeCasts_S1x128x2048_S128x2048) (Host.dotGeneral Cert.Reference21Ideal.dot_S128x2048_S2048x2048_S128x2048_1_0_0_1_n_n none (extf .f32 M Cert.Reference21Ideal.Gen.bitsLt_bf16_f32) (extf .f32 W Cert.Reference21Ideal.Gen.bitsLt_bf16_f32)))) (broadcastInDim Cert.Reference21Ideal.S128x2048 ![0, 1] Cert.Reference21Ideal.Gen.bcast_S128x1_S128x2048_0_1 (Host.rsqrt (addf (Host.divf (broadcastInDim Cert.Reference21Ideal.S128x1 ![0] Cert.Reference21Ideal.Gen.bcast_S128_S128x1_0 (Host.reduceAdd (mulf (addf X (mulf (shapeCast _ G1 Cert.Reference21Ideal.Gen.shapeCasts_S1x128x2048_S128x2048) (Host.dotGeneral Cert.Reference21Ideal.dot_S128x2048_S2048x2048_S128x2048_1_0_0_1_n_n none (extf .f32 M Cert.Reference21Ideal.Gen.bitsLt_bf16_f32) (extf .f32 W Cert.Reference21Ideal.Gen.bitsLt_bf16_f32)))) (addf X (mulf (shapeCast _ G1 Cert.Reference21Ideal.Gen.shapeCasts_S1x128x2048_S128x2048) (Host.dotGeneral Cert.Reference21Ideal.dot_S128x2048_S2048x2048_S128x2048_1_0_0_1_n_n none (extf .f32 M Cert.Reference21Ideal.Gen.bitsLt_bf16_f32) (extf .f32 W Cert.Reference21Ideal.Gen.bitsLt_bf16_f32))))) (constant Cert.Reference21Ideal.S_ .f32 0x00000000#32) Cert.Reference21Ideal.Gen.reducesTo_S128x2048_S128_d1 Cert.Reference21Ideal.Gen.h_S_)) (broadcastInDim Cert.Reference21Ideal.S128x1 ![] Cert.Reference21Ideal.Gen.bcast_S_S128x1 (constant Cert.Reference21Ideal.S_ .f32 0x45000000#32))) (broadcastInDim Cert.Reference21Ideal.S128x1 ![] Cert.Reference21Ideal.Gen.bcast_S_S128x1 (constant Cert.Reference21Ideal.S_ .f32 0x358637BD#32)))))) (broadcastInDim Cert.Reference21Ideal.S128x2048 ![0, 1] Cert.Reference21Ideal.Gen.bcast_S1x2048_S128x2048_0_1 (broadcastInDim Cert.Reference21Ideal.S1x2048 ![1] Cert.Reference21Ideal.Gen.bcast_S2048_S1x2048_1 N))) (addf (broadcastInDim Cert.Reference21Ideal.S128x2048 ![] Cert.Reference21Ideal.Gen.bcast_S_S128x2048 (constant Cert.Reference21Ideal.S_ .f32 0x3F800000#32)) (shapeCast _ SC Cert.Reference21Ideal.Gen.shapeCasts_S1x128x2048_S128x2048))) (shapeCast _ SH Cert.Reference21Ideal.Gen.shapeCasts_S1x128x2048_S128x2048)) Cert.Reference21Ideal.Gen.bitsLt_bf16_f32

/-- The stream after the attention, at a token and a feature. -/
def hid (M : FVec Ideal Cert.Reference21Ideal.S128x2048 .bf16) (W : FVec Ideal Cert.Reference21Ideal.S2048x2048 .bf16) (X : FVec Ideal Cert.Reference21Ideal.S128x2048 .f32)
    (G1 : FVec Ideal Cert.Reference21Ideal.S1x128x2048 .f32) (t : Fin 128) (d : Fin 2048) : EReal :=
  X (ix2 t d) + G1 (ix3 0 t d) * ∑ k : Fin 2048, M (ix2 t k) * W (ix2 k d)

/-- One feature normed by the sum of the squares of its row, scaled and shifted. -/
def normed (h : EReal) (s : EReal) (g sc sh : EReal) : EReal :=
  h * Ideal.rsqrt (Ideal.div s (Ideal.ofBits .f32 0x45000000#32) + Ideal.ofBits .f32 0x358637BD#32) * g * (1 + sc) + sh

theorem REFH_at (M : FVec Ideal Cert.Reference21Ideal.S128x2048 .bf16) (W : FVec Ideal Cert.Reference21Ideal.S2048x2048 .bf16) (X : FVec Ideal Cert.Reference21Ideal.S128x2048 .f32)
    (G1 : FVec Ideal Cert.Reference21Ideal.S1x128x2048 .f32) (t : Fin 128) (d : Fin 2048) : REFH M W X G1 (ix2 t d) = hid M W X G1 t d := by
  pointwise [REFH, hid]

theorem REFM_at (M : FVec Ideal Cert.Reference21Ideal.S128x2048 .bf16) (W : FVec Ideal Cert.Reference21Ideal.S2048x2048 .bf16) (X : FVec Ideal Cert.Reference21Ideal.S128x2048 .f32)
    (G1 : FVec Ideal Cert.Reference21Ideal.S1x128x2048 .f32) (N : FVec Ideal Cert.Reference21Ideal.S2048 .f32) (SC SH : FVec Ideal Cert.Reference21Ideal.S1x128x2048 .f32) (t : Fin 128) (d : Fin 2048) : REFM M W X G1 N SC SH (ix2 t d)
    = normed (hid M W X G1 t d) (∑ e : Fin 2048, hid M W X G1 t e * hid M W X G1 t e) (N (ix1 d)) (SC (ix3 0 t d)) (SH (ix3 0 t d)) := by
  pointwise [REFM, hid, normed]

/-- The stream of one block, as the body computes it. -/
theorem block_stream (x : Vec Ideal S128x2048 .f32) (g : Vec Ideal S1x128x2048 .f32) (p : Vec Ideal S128x2048 .bf16) (w : Vec Ideal S2048x2048 .bf16)
    (k : Fin 128) (d : Fin 2048) :
    k0_pay1 x g p w (ix2 k d) = x (ix2 k d) + g (ix3 0 k d) * ∑ j : Fin 2048, p (ix2 k j) * w (ix2 j d) := by
  pointwise [k0_pay1]

/-- The normed stream of one block, from its stream. -/
theorem block_normed (x : Vec Ideal S128x2048 .f32) (g : Vec Ideal S1x128x2048 .f32) (p : Vec Ideal S128x2048 .bf16) (w : Vec Ideal S2048x2048 .bf16)
    (n : Vec Ideal S1x2048 .f32) (sc sh : Vec Ideal S1x128x2048 .f32) (k : Fin 128) (d : Fin 2048) :
    k0_pay2 x g p w n sc sh (ix2 k d) = normed (k0_pay1 x g p w (ix2 k d))
      (∑ e : Fin 2048, k0_pay1 x g p w (ix2 k e) * k0_pay1 x g p w (ix2 k e)) (n (ix2 0 d)) (sc (ix3 0 k d)) (sh (ix3 0 k d)) := by
  pointwise [k0_pay2, k0_pay1, normed]

variable (m : (ℓ : Loc nD τ sig) → Buf (Elt Ideal) ℓ)

/-- Where the windows' blocks stand at each point of the grid. -/
theorem idx : ∀ t : Fin cfg0.N, win0_0.index t = ![t.val, 0] ∧ win0_1.index t = ![0, 0] ∧ win0_2.index t = ![t.val, 0]
    ∧ win0_3.index t = ![0, t.val, 0] ∧ win0_4.index t = ![0, 0] ∧ win0_5.index t = ![0, t.val, 0]
    ∧ win0_6.index t = ![0, t.val, 0] ∧ win0_7.index t = ![t.val, 0] ∧ win0_8.index t = ![t.val, 0] :=
  (by decide +kernel : ∀ t : Fin grid0.N, _)

/-- The stream of the block of point `t`, from the call's arguments. -/
theorem stream_at (c : Dev nD) (t : Fin cfg0.N) (k : Fin 128) (d : Fin 2048) (hk : t.val * 128 + k.val < 128) :
    k0_pay1 (iblk m c 2 t) (iblk m c 3 t) (iblk m c 0 t) (iblk m c 1 t) (ix2 k d)
    = hid (m ((c : Thread nD τ).loc main_arg0)) (m ((c : Thread nD τ).loc main_arg1)) (m ((c : Thread nD τ).loc main_arg2)) (m ((c : Thread nD τ).loc main_arg3)) ⟨t.val * 128 + k.val, hk⟩ d := by
  rw [block_stream]
  unfold hid
  blk_point [iblk, V, idx t]

/-- The first result after the run. -/
theorem final_stream (c : Dev nD) : (dats m 0 c).arrAt 7 (cfgs 0).N
    = REFH (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  have hN : t.val < 1 := lt_of_lt_of_eq t.isLt N_0
  blk_simp
  rw [after0_7]; frame_out
  obtain ⟨k, d, rfl⟩ : ∃ (k : Fin 128) (d : Fin 2048), y = (ix2 k d : S128x2048.Idx) := ⟨y 0, y 1, eq_ix2 (n0 := 128) (n1 := 2048) y⟩
  have hb : t.val * 128 + k.val < 128 := by omega
  have he : (win0_7.blk t).view.emb (ix2 k d : S128x2048.Idx) = (ix2 ⟨t.val * 128 + k.val, hb⟩ d : S128x2048.Idx) := by
    blk_ext [idx t]
  exact (stream_at m c t k d hb).trans ((REFH_at _ _ _ _ _ _).symm.trans (congrArg (REFH _ _ _ _) he.symm))

/-- The second result after the run. -/
theorem final_normed (c : Dev nD) : (dats m 0 c).arrAt 8 (cfgs 0).N
    = REFM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  have hN : t.val < 1 := lt_of_lt_of_eq t.isLt N_0
  blk_simp
  rw [after0_8]; frame_out
  obtain ⟨k, d, rfl⟩ : ∃ (k : Fin 128) (d : Fin 2048), y = (ix2 k d : S128x2048.Idx) := ⟨y 0, y 1, eq_ix2 (n0 := 128) (n1 := 2048) y⟩
  have hb : t.val * 128 + k.val < 128 := by omega
  have he : (win0_8.blk t).view.emb (ix2 k d : S128x2048.Idx) = (ix2 ⟨t.val * 128 + k.val, hb⟩ d : S128x2048.Idx) := by
    blk_ext [idx t]
  refine Eq.trans ?_ ((REFM_at _ _ _ _ _ _ _ _ _).symm.trans (congrArg (REFM _ _ _ _ _ _ _) he.symm))
  refine (block_normed _ _ _ _ _ _ _ k d).trans ?_
  simp only [stream_at m c t k _ hb]
  congr 1
  · blk_point [iblk, V, idx t]
  · blk_point [iblk, V, idx t]
  · blk_point [iblk, V, idx t]

end Cert.Kernel21Ideal.Value

end
-- ==== Proof.Layer.IndexWeights.lean ====
module

public import proofs.«01_k».proof.Proof.Gen.Kernel17Ideal.Frame
public import proofs.«01_k».proof.Proof.Gen.Reference17Ideal
public import proofs.«01_k».proof.Proof.Gen.Kernel18Ideal.Frame
public import proofs.«01_k».proof.Proof.Gen.Reference18Ideal
public import Idealize.ShloMosaic.Lib.Pipeline.ValueKit

@[expose] public section

/-! # The weights of the index heads

The call multiplies the normed tokens by 16 columns of weights and leaves the product with its rows and columns swapped: once for the
prompt, 512 tokens at a time, and once for the sample, all in one block. -/

set_option maxRecDepth 16384

noncomputable section

open Idealize.ShloMosaic Idealize.ShloMosaic.TcCoe Idealize.SL.Sem

namespace Cert.Kernel17Ideal.Value

open Cert.Kernel17Ideal Cert.Kernel17Ideal.Gen

/-- The reference's result over its arguments: the tokens times the 16 columns of weights, with rows and columns swapped. -/
def REF (X : FVec Ideal Cert.Reference17Ideal.S16384x2048 .bf16) (W : FVec Ideal Cert.Reference17Ideal.S2048x16 .bf16) : FVec Ideal Cert.Reference17Ideal.S16x16384 .f32 :=
  transpose Cert.Reference17Ideal.S16x16384 [1, 0] (Host.dotGeneral Cert.Reference17Ideal.dot_S16384x2048_S2048x16_S16384x16_1_0_0_1_n_n none (extf .f32 X Cert.Reference17Ideal.Gen.bitsLt_bf16_f32) (extf .f32 W Cert.Reference17Ideal.Gen.bitsLt_bf16_f32)) Cert.Reference17Ideal.Gen.transposes_S16384x16_S16x16384_1_0

theorem REF_at (X : FVec Ideal Cert.Reference17Ideal.S16384x2048 .bf16) (W : FVec Ideal Cert.Reference17Ideal.S2048x16 .bf16) (d : Fin 16) (t : Fin 16384) :
    REF X W (ix2 d t) = ∑ k : Fin 2048, W (ix2 k d) * X (ix2 t k) := by
  pointwise [REF]
  exact Finset.sum_congr rfl fun k _ => mul_comm _ _

/-- One block, as the body computes it. -/
theorem block_at (w : Vec Ideal S16x2048 .bf16) (x : Vec Ideal S512x2048 .bf16) (d : Fin 16) (t : Fin 512) :
    k0_pay1 w x (ix2 d t) = ∑ k : Fin 2048, w (ix2 d k) * x (ix2 t k) := by
  pointwise [k0_pay1]

variable (m : (ℓ : Loc nD τ sig) → Buf (Elt Ideal) ℓ)

/-- Where the windows' blocks stand at each point of the grid. -/
theorem idx : ∀ t : Fin cfg0.N, win0_0.index t = ![0, 0] ∧ win0_1.index t = ![t.val, 0] ∧ win0_2.index t = ![0, t.val] :=
  (by decide +kernel : ∀ t : Fin grid0.N, _)

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  have hN : t.val < 32 := lt_of_lt_of_eq t.isLt N_0
  blk_simp
  rw [after0_2]; frame_out
  obtain ⟨d, k, rfl⟩ : ∃ (d : Fin 16) (k : Fin 512), y = (ix2 d k : S16x512.Idx) := ⟨y 0, y 1, eq_ix2 (n0 := 16) (n1 := 512) y⟩
  have hb : t.val * 512 + k.val < 16384 := by omega
  have he : (win0_2.blk t).view.emb (ix2 d k : S16x512.Idx) = (ix2 d ⟨t.val * 512 + k.val, hb⟩ : S16x16384.Idx) := by
    blk_ext [idx t]
  refine Eq.trans ?_ ((REF_at _ _ _ _).symm.trans (congrArg (REF _ _) he.symm))
  refine (block_at _ _ d k).trans ?_
  refine Finset.sum_congr rfl fun j _ => ?_
  congr 1
  · blk_point [iblk, V, idx t]
  · blk_point [iblk, V, idx t]

end Cert.Kernel17Ideal.Value

namespace Cert.Kernel18Ideal.Value

open Cert.Kernel18Ideal Cert.Kernel18Ideal.Gen

/-- The reference's result over its arguments: the tokens times the 16 columns of weights, with rows and columns swapped. -/
def REF (X : FVec Ideal Cert.Reference18Ideal.S128x2048 .bf16) (W : FVec Ideal Cert.Reference18Ideal.S2048x16 .bf16) : FVec Ideal Cert.Reference18Ideal.S16x128 .f32 :=
  transpose Cert.Reference18Ideal.S16x128 [1, 0] (Host.dotGeneral Cert.Reference18Ideal.dot_S128x2048_S2048x16_S128x16_1_0_0_1_n_n none (extf .f32 X Cert.Reference18Ideal.Gen.bitsLt_bf16_f32) (extf .f32 W Cert.Reference18Ideal.Gen.bitsLt_bf16_f32)) Cert.Reference18Ideal.Gen.transposes_S128x16_S16x128_1_0

theorem REF_at (X : FVec Ideal Cert.Reference18Ideal.S128x2048 .bf16) (W : FVec Ideal Cert.Reference18Ideal.S2048x16 .bf16) (d : Fin 16) (t : Fin 128) :
    REF X W (ix2 d t) = ∑ k : Fin 2048, W (ix2 k d) * X (ix2 t k) := by
  pointwise [REF]
  exact Finset.sum_congr rfl fun k _ => mul_comm _ _

/-- One block, as the body computes it. -/
theorem block_at (w : Vec Ideal S16x2048 .bf16) (x : Vec Ideal S128x2048 .bf16) (d : Fin 16) (t : Fin 128) :
    k0_pay1 w x (ix2 d t) = ∑ k : Fin 2048, w (ix2 d k) * x (ix2 t k) := by
  pointwise [k0_pay1]

variable (m : (ℓ : Loc nD τ sig) → Buf (Elt Ideal) ℓ)

/-- Where the windows' blocks stand at each point of the grid. -/
theorem idx : ∀ t : Fin cfg0.N, win0_0.index t = ![0, 0] ∧ win0_1.index t = ![t.val, 0] ∧ win0_2.index t = ![0, t.val] :=
  (by decide +kernel : ∀ t : Fin grid0.N, _)

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  have hN : t.val < 1 := lt_of_lt_of_eq t.isLt N_0
  blk_simp
  rw [after0_2]; frame_out
  obtain ⟨d, k, rfl⟩ : ∃ (d : Fin 16) (k : Fin 128), y = (ix2 d k : S16x128.Idx) := ⟨y 0, y 1, eq_ix2 (n0 := 16) (n1 := 128) y⟩
  have hb : t.val * 128 + k.val < 128 := by omega
  have he : (win0_2.blk t).view.emb (ix2 d k : S16x128.Idx) = (ix2 d ⟨t.val * 128 + k.val, hb⟩ : S16x128.Idx) := by
    blk_ext [idx t]
  refine Eq.trans ?_ ((REF_at _ _ _ _).symm.trans (congrArg (REF _ _) he.symm))
  refine (block_at _ _ d k).trans ?_
  refine Finset.sum_congr rfl fun j _ => ?_
  congr 1
  · blk_point [iblk, V, idx t]
  · blk_point [iblk, V, idx t]

end Cert.Kernel18Ideal.Value

end
-- ==== Proof.State.Regions.lean ====
module

public import proofs.«01_k».proof.Proof.Gen.Kernel16Ideal.Frame
public import Idealize.ShloMosaic.Lib.Pipeline.ValueKit

@[expose] public section

/-! # The calls of the joined program that write whole blocks

What each call leaves in its result array, for any contents of the arrays that it reads: the modulation, the normed tokens and the
plain products. -/

set_option maxRecDepth 16384

noncomputable section

open Idealize.ShloMosaic Idealize.ShloMosaic.TcCoe Idealize.SL.Sem

namespace Cert.Kernel16Ideal.Value

open Cert.Kernel16Ideal Cert.Kernel16Ideal.Gen

variable (V : (c : Dev nD) → (b : Ref sig .tc) → Buf (Elt Ideal) ((c : Thread nD τ).loc b))

/-! ## The modulation -/

/-- The gated condition. -/
def gate (v : EReal) : EReal := v * Ideal.div 1 (1 + Ideal.exp (-v))

/-- The modulation of a row at a column. -/
def MODA (C : FVec Ideal S136x2048 .f32) (W : FVec Ideal S2048x12288 .f32) (B : FVec Ideal S1x12288 .f32) : FVec Ideal S136x12288 .f32 :=
  fun i => (∑ k : Fin 2048, gate (C (ix2 (i 0) k : S136x2048.Idx)) * W (ix2 k (i 1) : S2048x12288.Idx)) + B (ix2 0 (i 1) : S1x12288.Idx)

theorem MODA_at (C : FVec Ideal S136x2048 .f32) (W : FVec Ideal S2048x12288 .f32) (B : FVec Ideal S1x12288 .f32) (r : Fin 136) (d : Fin 12288) :
    MODA C W B (ix2 r d) = (∑ k : Fin 2048, gate (C (ix2 r k)) * W (ix2 k d)) + B (ix2 0 d) := rfl

theorem block_mod (a : Vec Ideal S136x2048 .f32) (w : Vec Ideal S2048x512 .f32) (b : Vec Ideal S1x512 .f32) (r : Fin 136) (d : Fin 512) :
    k0_pay1 a w b (ix2 r d) = (∑ k : Fin 2048, gate (a (ix2 r k)) * w (ix2 k d)) + b (ix2 0 d) := by
  pointwise [k0_pay1, gate, Ideal.logistic]

theorem idx0 : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem cond_at (c : Dev nD) (t : Fin cfg0.N) (r : Fin 136) (k : Fin 2048) :
    iblk0 V c 0 t (ix2 r k : S136x2048.Idx) = V c main_v1 (ix2 r k : S136x2048.Idx) := by
  blk_point [iblk0, idx0 t]

theorem final0 (c : Dev nD) : (dat0 V c).arrAt 3 cfg0.N = MODA (V c main_v1) (V c main_arg2) (V c main_v2) := by
  refine (dat0 V c).arrAt_eq_of_covers 3 _ (by decide +kernel) fun t _ y => ?_
  have hN : t.val < 24 := lt_of_lt_of_eq t.isLt N_0
  blk_simp
  rw [after0_3]; frame_out
  obtain ⟨k, d, rfl⟩ : ∃ (k : Fin 136) (d : Fin 512), y = (ix2 k d : S136x512.Idx) := ⟨y 0, y 1, eq_ix2 (n0 := 136) (n1 := 512) y⟩
  have hb : t.val * 512 + d.val < 12288 := by omega
  have he : (win0_3.blk t).view.emb (ix2 k d : S136x512.Idx) = (ix2 k ⟨t.val * 512 + d.val, hb⟩ : S136x12288.Idx) := by
    blk_ext [idx0 t]
  refine Eq.trans ?_ ((MODA_at _ _ _ _ _).symm.trans (congrArg (MODA _ _ _) he.symm))
  refine (block_mod _ _ _ k d).trans ?_
  simp only [cond_at V c t k]
  blk_point [iblk0, idx0 t]

/-! ## The norm before the projections -/

/-- One feature normed by the sum of the squares of its row, scaled and shifted. -/
def normed (h : EReal) (s : EReal) (g sc sh : EReal) : EReal :=
  h * Ideal.rsqrt (Ideal.div s (Ideal.ofBits .f32 0x45000000#32) + Ideal.ofBits .f32 0x358637BD#32) * g * (1 + sc) + sh

/-- The normed, scaled and shifted tokens. -/
def NORM (X : FVec Ideal S16384x2048 .f32) (N : FVec Ideal S1x2048 .f32) (SC SH : FVec Ideal S4x1x2048 .f32) : FVec Ideal S16384x2048 .bf16 :=
  fun i => normed (X (ix2 (i 0) (i 1) : S16384x2048.Idx)) (∑ e : Fin 2048, X (ix2 (i 0) e : S16384x2048.Idx) * X (ix2 (i 0) e : S16384x2048.Idx)) (N (ix2 0 (i 1) : S1x2048.Idx))
    (SC (ix3 ⟨(i 0).val / 4096, by have : (i 0).val < 16384 := (i 0).isLt; omega⟩ 0 (i 1) : S4x1x2048.Idx))
    (SH (ix3 ⟨(i 0).val / 4096, by have : (i 0).val < 16384 := (i 0).isLt; omega⟩ 0 (i 1) : S4x1x2048.Idx))

theorem NORM_at (X : FVec Ideal S16384x2048 .f32) (N : FVec Ideal S1x2048 .f32) (SC SH : FVec Ideal S4x1x2048 .f32) (t : Fin 16384) (d : Fin 2048) : NORM X N SC SH (ix2 t d)
    = normed (X (ix2 t d)) (∑ e : Fin 2048, X (ix2 t e) * X (ix2 t e)) (N (ix2 0 d)) (SC (ix3 ⟨t.val / 4096, by omega⟩ 0 d)) (SH (ix3 ⟨t.val / 4096, by omega⟩ 0 d)) := rfl

theorem block_normed (x : Vec Ideal S512x2048 .f32) (n : Vec Ideal S1x2048 .f32) (sc sh : Vec Ideal S1x1x2048 .f32) (k : Fin 512) (d : Fin 2048) :
    k1_pay1 x n sc sh (ix2 k d) = normed (x (ix2 k d)) (∑ e : Fin 2048, x (ix2 k e) * x (ix2 k e)) (n (ix2 0 d))
      (sc (ix3 0 0 d)) (sh (ix3 0 0 d)) := by
  pointwise [k1_pay1, normed]

theorem idx1 : ∀ t : Fin cfg1.N, win1_0.index t = ![t.val, 0] ∧ win1_1.index t = ![0, 0] ∧ win1_2.index t = ![t.val / 8, 0, 0] ∧ win1_3.index t = ![t.val / 8, 0, 0] ∧ win1_4.index t = ![t.val, 0] :=
  (by decide +kernel : ∀ t : Fin grid1.N, _)

theorem row_at (c : Dev nD) (t : Fin cfg1.N) (k : Fin 512) (d : Fin 2048) (hk : t.val * 512 + k.val < 16384) :
    iblk1 V c 0 t (ix2 k d : S512x2048.Idx) = V c main_v30 (ix2 ⟨t.val * 512 + k.val, hk⟩ d : S16384x2048.Idx) := by
  blk_point [iblk1, idx1 t]

theorem final1 (c : Dev nD) : (dat1 V c).arrAt 4 cfg1.N = NORM (V c main_v30) (V c main_v31) (V c main_v7) (V c main_v5) := by
  refine (dat1 V c).arrAt_eq_of_covers 4 _ (by decide +kernel) fun t _ y => ?_
  have hN : t.val < 32 := lt_of_lt_of_eq t.isLt N_1
  blk_simp
  rw [after1_4]; frame_out
  obtain ⟨k, d, rfl⟩ : ∃ (k : Fin 512) (d : Fin 2048), y = (ix2 k d : S512x2048.Idx) := ⟨y 0, y 1, eq_ix2 (n0 := 512) (n1 := 2048) y⟩
  have hb : t.val * 512 + k.val < 16384 := by omega
  have he : (win1_4.blk t).view.emb (ix2 k d : S512x2048.Idx) = (ix2 ⟨t.val * 512 + k.val, hb⟩ d : S16384x2048.Idx) := by
    blk_ext [idx1 t]
  refine Eq.trans ?_ ((NORM_at _ _ _ _ _ _).symm.trans (congrArg (NORM _ _ _ _) he.symm))
  refine (block_normed _ _ _ _ k d).trans ?_
  simp only [row_at V c t k _ hb]
  have hd : (t.val * 512 + k.val) / 4096 = t.val / 8 := by omega
  simp only [hd]
  congr 1
  · blk_point [iblk1, idx1 t]
  · blk_point [iblk1, idx1 t]
  · blk_point [iblk1, idx1 t]

/-! ## The plain products -/

/-- The product of the tokens and a section of 1024 columns. -/
def PROD (X : FVec Ideal S16384x2048 .bf16) (W : FVec Ideal S2048x1024 .bf16) : FVec Ideal S16384x1024 .f32 :=
  fun i => ∑ k : Fin 2048, X (ix2 (i 0) k : S16384x2048.Idx) * W (ix2 k (i 1) : S2048x1024.Idx)

/-- The product of the tokens and the section of 64 columns. -/
def PROD64 (X : FVec Ideal S16384x2048 .bf16) (W : FVec Ideal S2048x64 .bf16) : FVec Ideal S16384x64 .f32 :=
  fun i => ∑ k : Fin 2048, X (ix2 (i 0) k : S16384x2048.Idx) * W (ix2 k (i 1) : S2048x64.Idx)

theorem PROD_at (X : FVec Ideal S16384x2048 .bf16) (W : FVec Ideal S2048x1024 .bf16) (t : Fin 16384) (d : Fin 1024) :
    PROD X W (ix2 t d) = ∑ k : Fin 2048, X (ix2 t k) * W (ix2 k d) := rfl

theorem PROD64_at (X : FVec Ideal S16384x2048 .bf16) (W : FVec Ideal S2048x64 .bf16) (t : Fin 16384) (d : Fin 64) :
    PROD64 X W (ix2 t d) = ∑ k : Fin 2048, X (ix2 t k) * W (ix2 k d) := rfl

theorem block_prod3 (x : Vec Ideal S512x2048 .bf16) (w : Vec Ideal S2048x1024 .bf16) (k : Fin 512) (d : Fin 1024) :
    k3_pay1 x w (ix2 k d) = ∑ j : Fin 2048, x (ix2 k j) * w (ix2 j d) := by
  pointwise [k3_pay1]

theorem idx3 : ∀ t : Fin cfg3.N, win3_0.index t = ![t.val, 0] ∧ win3_1.index t = ![0, 0] ∧ win3_2.index t = ![t.val, 0] :=
  (by decide +kernel : ∀ t : Fin grid3.N, _)

theorem final3 (c : Dev nD) : (dat3 V c).arrAt 2 cfg3.N = PROD (V c main_v32) (V c main_v13) := by
  refine (dat3 V c).arrAt_eq_of_covers 2 _ (by decide +kernel) fun t _ y => ?_
  have hN : t.val < 32 := lt_of_lt_of_eq t.isLt N_3
  blk_simp
  rw [after3_2]; frame_out
  obtain ⟨k, d, rfl⟩ : ∃ (k : Fin 512) (d : Fin 1024), y = (ix2 k d : S512x1024.Idx) := ⟨y 0, y 1, eq_ix2 (n0 := 512) (n1 := 1024) y⟩
  have hb : t.val * 512 + k.val < 16384 := by omega
  have he : (win3_2.blk t).view.emb (ix2 k d : S512x1024.Idx) = (ix2 ⟨t.val * 512 + k.val, hb⟩ d : S16384x1024.Idx) := by
    blk_ext [idx3 t]
  refine Eq.trans ?_ ((PROD_at _ _ _ _).symm.trans (congrArg (PROD _ _) he.symm))
  refine (block_prod3 _ _ k d).trans ?_
  blk_point [iblk3, idx3 t]

theorem block_prod5 (x : Vec Ideal S512x2048 .bf16) (w : Vec Ideal S2048x1024 .bf16) (k : Fin 512) (d : Fin 1024) :
    k5_pay1 x w (ix2 k d) = ∑ j : Fin 2048, x (ix2 k j) * w (ix2 j d) := by
  pointwise [k5_pay1]

theorem idx5 : ∀ t : Fin cfg5.N, win5_0.index t = ![t.val, 0] ∧ win5_1.index t = ![0, 0] ∧ win5_2.index t = ![t.val, 0] :=
  (by decide +kernel : ∀ t : Fin grid5.N, _)

theorem final5 (c : Dev nD) : (dat5 V c).arrAt 2 cfg5.N = PROD (V c main_v32) (V c main_v19) := by
  refine (dat5 V c).arrAt_eq_of_covers 2 _ (by decide +kernel) fun t _ y => ?_
  have hN : t.val < 32 := lt_of_lt_of_eq t.isLt N_5
  blk_simp
  rw [after5_2]; frame_out
  obtain ⟨k, d, rfl⟩ : ∃ (k : Fin 512) (d : Fin 1024), y = (ix2 k d : S512x1024.Idx) := ⟨y 0, y 1, eq_ix2 (n0 := 512) (n1 := 1024) y⟩
  have hb : t.val * 512 + k.val < 16384 := by omega
  have he : (win5_2.blk t).view.emb (ix2 k d : S512x1024.Idx) = (ix2 ⟨t.val * 512 + k.val, hb⟩ d : S16384x1024.Idx) := by
    blk_ext [idx5 t]
  refine Eq.trans ?_ ((PROD_at _ _ _ _).symm.trans (congrArg (PROD _ _) he.symm))
  refine (block_prod5 _ _ k d).trans ?_
  blk_point [iblk5, idx5 t]

theorem block_prod6 (x : Vec Ideal S512x2048 .bf16) (w : Vec Ideal S2048x64 .bf16) (k : Fin 512) (d : Fin 64) :
    k6_pay1 x w (ix2 k d) = ∑ j : Fin 2048, x (ix2 k j) * w (ix2 j d) := by
  pointwise [k6_pay1]

theorem idx6 : ∀ t : Fin cfg6.N, win6_0.index t = ![t.val, 0] ∧ win6_1.index t = ![0, 0] ∧ win6_2.index t = ![t.val, 0] :=
  (by decide +kernel : ∀ t : Fin grid6.N, _)

theorem final6 (c : Dev nD) : (dat6 V c).arrAt 2 cfg6.N = PROD64 (V c main_v32) (V c main_v23) := by
  refine (dat6 V c).arrAt_eq_of_covers 2 _ (by decide +kernel) fun t _ y => ?_
  have hN : t.val < 32 := lt_of_lt_of_eq t.isLt N_6
  blk_simp
  rw [after6_2]; frame_out
  obtain ⟨k, d, rfl⟩ : ∃ (k : Fin 512) (d : Fin 64), y = (ix2 k d : S512x64.Idx) := ⟨y 0, y 1, eq_ix2 (n0 := 512) (n1 := 64) y⟩
  have hb : t.val * 512 + k.val < 16384 := by omega
  have he : (win6_2.blk t).view.emb (ix2 k d : S512x64.Idx) = (ix2 ⟨t.val * 512 + k.val, hb⟩ d : S16384x64.Idx) := by
    blk_ext [idx6 t]
  refine Eq.trans ?_ ((PROD64_at _ _ _ _).symm.trans (congrArg (PROD64 _ _) he.symm))
  refine (block_prod6 _ _ k d).trans ?_
  blk_point [iblk6, idx6 t]

end Cert.Kernel16Ideal.Value

end
-- ==== Proof.State.Heads.lean ====
module

public import proofs.«01_k».proof.Proof.State.Regions
public import Idealize.ShloMosaic.Lib.Pipeline.ValueKit

@[expose] public section

/-! # The calls of the joined program that norm each head

For 512 tokens at a time the call multiplies by a section of 1024 columns and norms each head of 128 columns. The array it leaves
is the whole normed product, for any contents of the arrays that it reads. -/

set_option maxRecDepth 16384

noncomputable section

open Idealize.ShloMosaic Idealize.ShloMosaic.TcCoe Idealize.SL.Sem

namespace Cert.Kernel16Ideal.Value

open Cert.Kernel16Ideal Cert.Kernel16Ideal.Gen

variable (V : (c : Dev nD) → (b : Ref sig .tc) → Buf (Elt Ideal) ((c : Thread nD τ).loc b))

/-- One column normed by the sum of the squares of its head. -/
def headed (h s g : EReal) : EReal :=
  h * Ideal.rsqrt (Ideal.div s (Ideal.ofBits .f32 0x43000000#32) + Ideal.ofBits .f32 0x358637BD#32) * g

/-- The columns of one row, each normed in its head, at a column. -/
def headAt (z : Fin 1024 → EReal) (g : Fin 128 → EReal) (d : Fin 1024) : EReal :=
  headed (z d) (∑ l : Fin 128, z ⟨d.val / 128 * 128 + l.val, by omega⟩ * z ⟨d.val / 128 * 128 + l.val, by omega⟩) (g ⟨d.val % 128, by omega⟩)

/-- A column of the head that starts at `o`. -/
theorem headAt_of (z : Fin 1024 → EReal) (g : Fin 128 → EReal) (o : ℕ) (ho : o + 128 ≤ 1024) (h8 : o % 128 = 0) (l : Fin 128) :
    headAt z g ⟨o + l.val, by omega⟩ = headed (z ⟨o + l.val, by omega⟩) (∑ j : Fin 128, z ⟨o + j.val, by omega⟩ * z ⟨o + j.val, by omega⟩) (g l) := by
  have e1 : (o + l.val) / 128 * 128 = o := by omega
  have e2 : (o + l.val) % 128 = l.val := by omega
  unfold headAt
  simp only [e1, e2]

/-- The normed product of the tokens and a section. -/
def HEAD (X : FVec Ideal S16384x2048 .bf16) (W : FVec Ideal S2048x1024 .bf16) (G : FVec Ideal S1x128 .f32) : FVec Ideal S16384x1024 .f32 :=
  fun i => headAt (fun d => PROD X W (ix2 (i 0) d : S16384x1024.Idx)) (fun l => G (ix2 0 l : S1x128.Idx)) (i 1)

theorem HEAD_at (X : FVec Ideal S16384x2048 .bf16) (W : FVec Ideal S2048x1024 .bf16) (G : FVec Ideal S1x128 .f32) (t : Fin 16384) (d : Fin 1024) :
    HEAD X W G (ix2 t d) = headAt (fun d => PROD X W (ix2 t d)) (fun l => G (ix2 0 l)) d := rfl

/-- The normed block, from the block's product and the gain. -/
def HB (Z : FVec Ideal S512x1024 .f32) (g : Vec Ideal S1x128 .f32) : Vec Ideal S512x1024 .f32 :=
  fun y => headAt (fun d => Z (ix2 (y 0) d : S512x1024.Idx)) (fun l => g (ix2 0 l : S1x128.Idx)) (y 1)

theorem HB_at (Z : FVec Ideal S512x1024 .f32) (g : Vec Ideal S1x128 .f32) (k : Fin 512) (d : Fin 1024) :
    HB Z g (ix2 k d) = headAt (fun d => Z (ix2 k d)) (fun l => g (ix2 0 l)) d := rfl

/-- A piece of 128 columns that holds the normed values of its head is the block's at its place. -/
theorem piece_at (Z : FVec Ideal S512x1024 .f32) (g : Vec Ideal S1x128 .f32) (p : FVec Ideal S512x128 .f32) (o : ℕ) (ho : o + 128 ≤ 1024) (h8 : o % 128 = 0)
    (e : S512x128.Idx → S512x1024.Idx) (he : ∀ (k : Fin 512) (l : Fin 128), e (ix2 k l) = (ix2 k ⟨o + l.val, by omega⟩ : S512x1024.Idx))
    (hp : ∀ (k : Fin 512) (l : Fin 128), p (ix2 k l) = headed (Z (ix2 k ⟨o + l.val, by omega⟩))
      (∑ j : Fin 128, Z (ix2 k ⟨o + j.val, by omega⟩) * Z (ix2 k ⟨o + j.val, by omega⟩)) (g (ix2 0 l))) (x : S512x128.Idx) :
    p x = HB Z g (e x) := by
  obtain ⟨k, l, rfl⟩ : ∃ (k : Fin 512) (l : Fin 128), x = (ix2 k l : S512x128.Idx) := ⟨x 0, x 1, eq_ix2 (n0 := 512) (n1 := 128) x⟩
  rw [hp, he, HB_at, headAt_of _ _ o ho h8]

/-! ## Call 2 -/

theorem block_prod2 (x : Vec Ideal S512x2048 .bf16) (w : Vec Ideal S2048x1024 .bf16) (k : Fin 512) (d : Fin 1024) :
    k2_pay2 x w (ix2 k d) = ∑ j : Fin 2048, x (ix2 k j) * w (ix2 j d) := by
  pointwise [k2_pay2]

theorem head2_0 (x : Vec Ideal S512x2048 .bf16) (w : Vec Ideal S2048x1024 .bf16) (g : Vec Ideal S1x128 .f32) (k : Fin 512) (l : Fin 128) :
    (k2_pay3 x w g : FVec Ideal S512x128 .f32) (ix2 k l) = headed (k2_pay2 x w (ix2 k ⟨0 + l.val, by omega⟩))
      (∑ j : Fin 128, k2_pay2 x w (ix2 k ⟨0 + j.val, by omega⟩) * k2_pay2 x w (ix2 k ⟨0 + j.val, by omega⟩)) (g (ix2 0 l)) := by
  pointwise [k2_pay3, headed]

theorem head2_128 (x : Vec Ideal S512x2048 .bf16) (w : Vec Ideal S2048x1024 .bf16) (g : Vec Ideal S1x128 .f32) (k : Fin 512) (l : Fin 128) :
    (k2_pay4 x w g : FVec Ideal S512x128 .f32) (ix2 k l) = headed (k2_pay2 x w (ix2 k ⟨128 + l.val, by omega⟩))
      (∑ j : Fin 128, k2_pay2 x w (ix2 k ⟨128 + j.val, by omega⟩) * k2_pay2 x w (ix2 k ⟨128 + j.val, by omega⟩)) (g (ix2 0 l)) := by
  pointwise [k2_pay4, headed]

theorem head2_256 (x : Vec Ideal S512x2048 .bf16) (w : Vec Ideal S2048x1024 .bf16) (g : Vec Ideal S1x128 .f32) (k : Fin 512) (l : Fin 128) :
    (k2_pay6 (k2_pay5 x w) g : FVec Ideal S512x128 .f32) (ix2 k l) = headed (k2_pay2 x w (ix2 k ⟨256 + l.val, by omega⟩))
      (∑ j : Fin 128, k2_pay2 x w (ix2 k ⟨256 + j.val, by omega⟩) * k2_pay2 x w (ix2 k ⟨256 + j.val, by omega⟩)) (g (ix2 0 l)) := by
  pointwise [k2_pay6, k2_pay5, headed]

theorem head2_384 (x : Vec Ideal S512x2048 .bf16) (w : Vec Ideal S2048x1024 .bf16) (g : Vec Ideal S1x128 .f32) (k : Fin 512) (l : Fin 128) :
    (k2_pay7 (k2_pay2 x w) g : FVec Ideal S512x128 .f32) (ix2 k l) = headed (k2_pay2 x w (ix2 k ⟨384 + l.val, by omega⟩))
      (∑ j : Fin 128, k2_pay2 x w (ix2 k ⟨384 + j.val, by omega⟩) * k2_pay2 x w (ix2 k ⟨384 + j.val, by omega⟩)) (g (ix2 0 l)) := by
  pointwise [k2_pay7, headed]

theorem head2_512 (x : Vec Ideal S512x2048 .bf16) (w : Vec Ideal S2048x1024 .bf16) (g : Vec Ideal S1x128 .f32) (k : Fin 512) (l : Fin 128) :
    (k2_pay10 (k2_pay8 (k2_pay2 x w)) (k2_pay9 (k2_pay2 x w)) g : FVec Ideal S512x128 .f32) (ix2 k l) = headed (k2_pay2 x w (ix2 k ⟨512 + l.val, by omega⟩))
      (∑ j : Fin 128, k2_pay2 x w (ix2 k ⟨512 + j.val, by omega⟩) * k2_pay2 x w (ix2 k ⟨512 + j.val, by omega⟩)) (g (ix2 0 l)) := by
  pointwise [k2_pay10, k2_pay9, k2_pay8, headed]

theorem head2_640 (x : Vec Ideal S512x2048 .bf16) (w : Vec Ideal S2048x1024 .bf16) (g : Vec Ideal S1x128 .f32) (k : Fin 512) (l : Fin 128) :
    (k2_pay11 (k2_pay2 x w) g : FVec Ideal S512x128 .f32) (ix2 k l) = headed (k2_pay2 x w (ix2 k ⟨640 + l.val, by omega⟩))
      (∑ j : Fin 128, k2_pay2 x w (ix2 k ⟨640 + j.val, by omega⟩) * k2_pay2 x w (ix2 k ⟨640 + j.val, by omega⟩)) (g (ix2 0 l)) := by
  pointwise [k2_pay11, headed]

theorem head2_768 (x : Vec Ideal S512x2048 .bf16) (w : Vec Ideal S2048x1024 .bf16) (g : Vec Ideal S1x128 .f32) (k : Fin 512) (l : Fin 128) :
    (k2_pay12 (k2_pay2 x w) g : FVec Ideal S512x128 .f32) (ix2 k l) = headed (k2_pay2 x w (ix2 k ⟨768 + l.val, by omega⟩))
      (∑ j : Fin 128, k2_pay2 x w (ix2 k ⟨768 + j.val, by omega⟩) * k2_pay2 x w (ix2 k ⟨768 + j.val, by omega⟩)) (g (ix2 0 l)) := by
  pointwise [k2_pay12, headed]

theorem head2_896 (x : Vec Ideal S512x2048 .bf16) (w : Vec Ideal S2048x1024 .bf16) (g : Vec Ideal S1x128 .f32) (k : Fin 512) (l : Fin 128) :
    (k2_pay1 (k2_pay13 (k2_pay2 x w)) g : FVec Ideal S512x128 .f32) (ix2 k l) = headed (k2_pay2 x w (ix2 k ⟨896 + l.val, by omega⟩))
      (∑ j : Fin 128, k2_pay2 x w (ix2 k ⟨896 + j.val, by omega⟩) * k2_pay2 x w (ix2 k ⟨896 + j.val, by omega⟩)) (g (ix2 0 l)) := by
  pointwise [k2_pay1, k2_pay13, headed]

/-- The block that the body leaves. -/
theorem out_at2 (x : Vec Ideal S512x2048 .bf16) (w : Vec Ideal S2048x1024 .bf16) (g : Vec Ideal S1x128 .f32) (y : S512x1024.Idx) :
    out2_3 x w g y = HB (k2_pay2 x w) g y := by
  unfold_out out2_3
  rw [View.ld_unit_lit (S := S512x2048) _ x (by decide), View.ld_unit_lit (S := S2048x1024) _ w (by decide),
    View.ld_unit_lit (S := S1x128) _ g (by decide)]
  refine View.canon_apply_of_pieces (HB (k2_pay2 x w) g) _ ?_ y (cover2_3 _ _ _ _ _ _ _ _ y)
  intro pc hpc
  rcases List.mem_cons.mp hpc with rfl | hpc
  · exact piece_at _ _ _ 896 (by omega) (by omega) _ (fun k l => by
      funext a; apply Fin.ext; fin_cases a
      · show 0 + 1 * k.val = k.val; omega
      · show 896 + 1 * l.val = 896 + l.val; omega) (head2_896 x w g)
  rcases List.mem_cons.mp hpc with rfl | hpc
  · exact piece_at _ _ _ 768 (by omega) (by omega) _ (fun k l => by
      funext a; apply Fin.ext; fin_cases a
      · show 0 + 1 * k.val = k.val; omega
      · show 768 + 1 * l.val = 768 + l.val; omega) (head2_768 x w g)
  rcases List.mem_cons.mp hpc with rfl | hpc
  · exact piece_at _ _ _ 640 (by omega) (by omega) _ (fun k l => by
      funext a; apply Fin.ext; fin_cases a
      · show 0 + 1 * k.val = k.val; omega
      · show 640 + 1 * l.val = 640 + l.val; omega) (head2_640 x w g)
  rcases List.mem_cons.mp hpc with rfl | hpc
  · exact piece_at _ _ _ 512 (by omega) (by omega) _ (fun k l => by
      funext a; apply Fin.ext; fin_cases a
      · show 0 + 1 * k.val = k.val; omega
      · show 512 + 1 * l.val = 512 + l.val; omega) (head2_512 x w g)
  rcases List.mem_cons.mp hpc with rfl | hpc
  · exact piece_at _ _ _ 384 (by omega) (by omega) _ (fun k l => by
      funext a; apply Fin.ext; fin_cases a
      · show 0 + 1 * k.val = k.val; omega
      · show 384 + 1 * l.val = 384 + l.val; omega) (head2_384 x w g)
  rcases List.mem_cons.mp hpc with rfl | hpc
  · exact piece_at _ _ _ 256 (by omega) (by omega) _ (fun k l => by
      funext a; apply Fin.ext; fin_cases a
      · show 0 + 1 * k.val = k.val; omega
      · show 256 + 1 * l.val = 256 + l.val; omega) (head2_256 x w g)
  rcases List.mem_cons.mp hpc with rfl | hpc
  · exact piece_at _ _ _ 128 (by omega) (by omega) _ (fun k l => by
      funext a; apply Fin.ext; fin_cases a
      · show 0 + 1 * k.val = k.val; omega
      · show 128 + 1 * l.val = 128 + l.val; omega) (head2_128 x w g)
  rcases List.mem_cons.mp hpc with rfl | hpc
  · exact piece_at _ _ _ 0 (by omega) (by omega) _ (fun k l => by
      funext a; apply Fin.ext; fin_cases a
      · show 0 + 1 * k.val = k.val; omega
      · show 0 + 1 * l.val = 0 + l.val; omega) (head2_0 x w g)
  nomatch hpc

theorem idx2 : ∀ t : Fin cfg2.N, win2_0.index t = ![t.val, 0] ∧ win2_1.index t = ![0, 0] ∧ win2_2.index t = ![0, 0] ∧ win2_3.index t = ![t.val, 0] :=
  (by decide +kernel : ∀ t : Fin grid2.N, _)

theorem prod_at2 (c : Dev nD) (t : Fin cfg2.N) (k : Fin 512) (d : Fin 1024) (hk : t.val * 512 + k.val < 16384) :
    k2_pay2 (iblk2 V c 0 t) (iblk2 V c 1 t) (ix2 k d) = PROD (V c main_v32) (V c main_v11) (ix2 ⟨t.val * 512 + k.val, hk⟩ d) := by
  rw [block_prod2, PROD_at]
  blk_point [iblk2, idx2 t]

theorem gain_at2 (c : Dev nD) (t : Fin cfg2.N) (l : Fin 128) :
    iblk2 V c 2 t (ix2 0 l : S1x128.Idx) = V c main_v33 (ix2 0 l : S1x128.Idx) := by
  blk_point [iblk2, idx2 t]

theorem final2 (c : Dev nD) : (dat2 V c).arrAt 3 cfg2.N = HEAD (V c main_v32) (V c main_v11) (V c main_v33) := by
  refine (dat2 V c).arrAt_eq_of_covers 3 _ (by decide +kernel) fun t _ y => ?_
  have hN : t.val < 32 := lt_of_lt_of_eq t.isLt N_2
  blk_simp
  rw [after2_3]
  obtain ⟨k, d, rfl⟩ : ∃ (k : Fin 512) (d : Fin 1024), y = (ix2 k d : S512x1024.Idx) := ⟨y 0, y 1, eq_ix2 (n0 := 512) (n1 := 1024) y⟩
  have hb : t.val * 512 + k.val < 16384 := by omega
  have he : (win2_3.blk t).view.emb (ix2 k d : S512x1024.Idx) = (ix2 ⟨t.val * 512 + k.val, hb⟩ d : S16384x1024.Idx) := by
    blk_ext [idx2 t]
  refine Eq.trans ?_ ((HEAD_at _ _ _ _ _).symm.trans (congrArg (HEAD _ _ _) he.symm))
  refine (out_at2 _ _ _ _).trans ((HB_at _ _ _ _).trans ?_)
  simp only [prod_at2 V c t k _ hb, gain_at2 V c t]

/-! ## Call 4 -/

theorem block_prod4 (x : Vec Ideal S512x2048 .bf16) (w : Vec Ideal S2048x1024 .bf16) (k : Fin 512) (d : Fin 1024) :
    k4_pay2 x w (ix2 k d) = ∑ j : Fin 2048, x (ix2 k j) * w (ix2 j d) := by
  pointwise [k4_pay2]

theorem head4_0 (x : Vec Ideal S512x2048 .bf16) (w : Vec Ideal S2048x1024 .bf16) (g : Vec Ideal S1x128 .f32) (k : Fin 512) (l : Fin 128) :
    (k4_pay3 x w g : FVec Ideal S512x128 .f32) (ix2 k l) = headed (k4_pay2 x w (ix2 k ⟨0 + l.val, by omega⟩))
      (∑ j : Fin 128, k4_pay2 x w (ix2 k ⟨0 + j.val, by omega⟩) * k4_pay2 x w (ix2 k ⟨0 + j.val, by omega⟩)) (g (ix2 0 l)) := by
  pointwise [k4_pay3, headed]

theorem head4_128 (x : Vec Ideal S512x2048 .bf16) (w : Vec Ideal S2048x1024 .bf16) (g : Vec Ideal S1x128 .f32) (k : Fin 512) (l : Fin 128) :
    (k4_pay4 x w g : FVec Ideal S512x128 .f32) (ix2 k l) = headed (k4_pay2 x w (ix2 k ⟨128 + l.val, by omega⟩))
      (∑ j : Fin 128, k4_pay2 x w (ix2 k ⟨128 + j.val, by omega⟩) * k4_pay2 x w (ix2 k ⟨128 + j.val, by omega⟩)) (g (ix2 0 l)) := by
  pointwise [k4_pay4, headed]

theorem head4_256 (x : Vec Ideal S512x2048 .bf16) (w : Vec Ideal S2048x1024 .bf16) (g : Vec Ideal S1x128 .f32) (k : Fin 512) (l : Fin 128) :
    (k4_pay6 (k4_pay5 x w) g : FVec Ideal S512x128 .f32) (ix2 k l) = headed (k4_pay2 x w (ix2 k ⟨256 + l.val, by omega⟩))
      (∑ j : Fin 128, k4_pay2 x w (ix2 k ⟨256 + j.val, by omega⟩) * k4_pay2 x w (ix2 k ⟨256 + j.val, by omega⟩)) (g (ix2 0 l)) := by
  pointwise [k4_pay6, k4_pay5, headed]

theorem head4_384 (x : Vec Ideal S512x2048 .bf16) (w : Vec Ideal S2048x1024 .bf16) (g : Vec Ideal S1x128 .f32) (k : Fin 512) (l : Fin 128) :
    (k4_pay7 (k4_pay2 x w) g : FVec Ideal S512x128 .f32) (ix2 k l) = headed (k4_pay2 x w (ix2 k ⟨384 + l.val, by omega⟩))
      (∑ j : Fin 128, k4_pay2 x w (ix2 k ⟨384 + j.val, by omega⟩) * k4_pay2 x w (ix2 k ⟨384 + j.val, by omega⟩)) (g (ix2 0 l)) := by
  pointwise [k4_pay7, headed]

theorem head4_512 (x : Vec Ideal S512x2048 .bf16) (w : Vec Ideal S2048x1024 .bf16) (g : Vec Ideal S1x128 .f32) (k : Fin 512) (l : Fin 128) :
    (k4_pay10 (k4_pay8 (k4_pay2 x w)) (k4_pay9 (k4_pay2 x w)) g : FVec Ideal S512x128 .f32) (ix2 k l) = headed (k4_pay2 x w (ix2 k ⟨512 + l.val, by omega⟩))
      (∑ j : Fin 128, k4_pay2 x w (ix2 k ⟨512 + j.val, by omega⟩) * k4_pay2 x w (ix2 k ⟨512 + j.val, by omega⟩)) (g (ix2 0 l)) := by
  pointwise [k4_pay10, k4_pay9, k4_pay8, headed]

theorem head4_640 (x : Vec Ideal S512x2048 .bf16) (w : Vec Ideal S2048x1024 .bf16) (g : Vec Ideal S1x128 .f32) (k : Fin 512) (l : Fin 128) :
    (k4_pay11 (k4_pay2 x w) g : FVec Ideal S512x128 .f32) (ix2 k l) = headed (k4_pay2 x w (ix2 k ⟨640 + l.val, by omega⟩))
      (∑ j : Fin 128, k4_pay2 x w (ix2 k ⟨640 + j.val, by omega⟩) * k4_pay2 x w (ix2 k ⟨640 + j.val, by omega⟩)) (g (ix2 0 l)) := by
  pointwise [k4_pay11, headed]

theorem head4_768 (x : Vec Ideal S512x2048 .bf16) (w : Vec Ideal S2048x1024 .bf16) (g : Vec Ideal S1x128 .f32) (k : Fin 512) (l : Fin 128) :
    (k4_pay12 (k4_pay2 x w) g : FVec Ideal S512x128 .f32) (ix2 k l) = headed (k4_pay2 x w (ix2 k ⟨768 + l.val, by omega⟩))
      (∑ j : Fin 128, k4_pay2 x w (ix2 k ⟨768 + j.val, by omega⟩) * k4_pay2 x w (ix2 k ⟨768 + j.val, by omega⟩)) (g (ix2 0 l)) := by
  pointwise [k4_pay12, headed]

theorem head4_896 (x : Vec Ideal S512x2048 .bf16) (w : Vec Ideal S2048x1024 .bf16) (g : Vec Ideal S1x128 .f32) (k : Fin 512) (l : Fin 128) :
    (k4_pay1 (k4_pay13 (k4_pay2 x w)) g : FVec Ideal S512x128 .f32) (ix2 k l) = headed (k4_pay2 x w (ix2 k ⟨896 + l.val, by omega⟩))
      (∑ j : Fin 128, k4_pay2 x w (ix2 k ⟨896 + j.val, by omega⟩) * k4_pay2 x w (ix2 k ⟨896 + j.val, by omega⟩)) (g (ix2 0 l)) := by
  pointwise [k4_pay1, k4_pay13, headed]

/-- The block that the body leaves. -/
theorem out_at4 (x : Vec Ideal S512x2048 .bf16) (w : Vec Ideal S2048x1024 .bf16) (g : Vec Ideal S1x128 .f32) (y : S512x1024.Idx) :
    out4_3 x w g y = HB (k4_pay2 x w) g y := by
  unfold_out out4_3
  rw [View.ld_unit_lit (S := S512x2048) _ x (by decide), View.ld_unit_lit (S := S2048x1024) _ w (by decide),
    View.ld_unit_lit (S := S1x128) _ g (by decide)]
  refine View.canon_apply_of_pieces (HB (k4_pay2 x w) g) _ ?_ y (cover4_3 _ _ _ _ _ _ _ _ y)
  intro pc hpc
  rcases List.mem_cons.mp hpc with rfl | hpc
  · exact piece_at _ _ _ 896 (by omega) (by omega) _ (fun k l => by
      funext a; apply Fin.ext; fin_cases a
      · show 0 + 1 * k.val = k.val; omega
      · show 896 + 1 * l.val = 896 + l.val; omega) (head4_896 x w g)
  rcases List.mem_cons.mp hpc with rfl | hpc
  · exact piece_at _ _ _ 768 (by omega) (by omega) _ (fun k l => by
      funext a; apply Fin.ext; fin_cases a
      · show 0 + 1 * k.val = k.val; omega
      · show 768 + 1 * l.val = 768 + l.val; omega) (head4_768 x w g)
  rcases List.mem_cons.mp hpc with rfl | hpc
  · exact piece_at _ _ _ 640 (by omega) (by omega) _ (fun k l => by
      funext a; apply Fin.ext; fin_cases a
      · show 0 + 1 * k.val = k.val; omega
      · show 640 + 1 * l.val = 640 + l.val; omega) (head4_640 x w g)
  rcases List.mem_cons.mp hpc with rfl | hpc
  · exact piece_at _ _ _ 512 (by omega) (by omega) _ (fun k l => by
      funext a; apply Fin.ext; fin_cases a
      · show 0 + 1 * k.val = k.val; omega
      · show 512 + 1 * l.val = 512 + l.val; omega) (head4_512 x w g)
  rcases List.mem_cons.mp hpc with rfl | hpc
  · exact piece_at _ _ _ 384 (by omega) (by omega) _ (fun k l => by
      funext a; apply Fin.ext; fin_cases a
      · show 0 + 1 * k.val = k.val; omega
      · show 384 + 1 * l.val = 384 + l.val; omega) (head4_384 x w g)
  rcases List.mem_cons.mp hpc with rfl | hpc
  · exact piece_at _ _ _ 256 (by omega) (by omega) _ (fun k l => by
      funext a; apply Fin.ext; fin_cases a
      · show 0 + 1 * k.val = k.val; omega
      · show 256 + 1 * l.val = 256 + l.val; omega) (head4_256 x w g)
  rcases List.mem_cons.mp hpc with rfl | hpc
  · exact piece_at _ _ _ 128 (by omega) (by omega) _ (fun k l => by
      funext a; apply Fin.ext; fin_cases a
      · show 0 + 1 * k.val = k.val; omega
      · show 128 + 1 * l.val = 128 + l.val; omega) (head4_128 x w g)
  rcases List.mem_cons.mp hpc with rfl | hpc
  · exact piece_at _ _ _ 0 (by omega) (by omega) _ (fun k l => by
      funext a; apply Fin.ext; fin_cases a
      · show 0 + 1 * k.val = k.val; omega
      · show 0 + 1 * l.val = 0 + l.val; omega) (head4_0 x w g)
  nomatch hpc

theorem idx4 : ∀ t : Fin cfg4.N, win4_0.index t = ![t.val, 0] ∧ win4_1.index t = ![0, 0] ∧ win4_2.index t = ![0, 0] ∧ win4_3.index t = ![t.val, 0] :=
  (by decide +kernel : ∀ t : Fin grid4.N, _)

theorem prod_at4 (c : Dev nD) (t : Fin cfg4.N) (k : Fin 512) (d : Fin 1024) (hk : t.val * 512 + k.val < 16384) :
    k4_pay2 (iblk4 V c 0 t) (iblk4 V c 1 t) (ix2 k d) = PROD (V c main_v32) (V c main_v17) (ix2 ⟨t.val * 512 + k.val, hk⟩ d) := by
  rw [block_prod4, PROD_at]
  blk_point [iblk4, idx4 t]

theorem gain_at4 (c : Dev nD) (t : Fin cfg4.N) (l : Fin 128) :
    iblk4 V c 2 t (ix2 0 l : S1x128.Idx) = V c main_v36 (ix2 0 l : S1x128.Idx) := by
  blk_point [iblk4, idx4 t]

theorem final4 (c : Dev nD) : (dat4 V c).arrAt 3 cfg4.N = HEAD (V c main_v32) (V c main_v17) (V c main_v36) := by
  refine (dat4 V c).arrAt_eq_of_covers 3 _ (by decide +kernel) fun t _ y => ?_
  have hN : t.val < 32 := lt_of_lt_of_eq t.isLt N_4
  blk_simp
  rw [after4_3]
  obtain ⟨k, d, rfl⟩ : ∃ (k : Fin 512) (d : Fin 1024), y = (ix2 k d : S512x1024.Idx) := ⟨y 0, y 1, eq_ix2 (n0 := 512) (n1 := 1024) y⟩
  have hb : t.val * 512 + k.val < 16384 := by omega
  have he : (win4_3.blk t).view.emb (ix2 k d : S512x1024.Idx) = (ix2 ⟨t.val * 512 + k.val, hb⟩ d : S16384x1024.Idx) := by
    blk_ext [idx4 t]
  refine Eq.trans ?_ ((HEAD_at _ _ _ _ _).symm.trans (congrArg (HEAD _ _ _) he.symm))
  refine (out_at4 _ _ _ _).trans ((HB_at _ _ _ _).trans ?_)
  simp only [prod_at4 V c t k _ hb, gain_at4 V c t]

end Cert.Kernel16Ideal.Value

end
-- ==== Proof.State.Chain.lean ====
module

public import proofs.«01_k».proof.Proof.State.Heads
public import Idealize.ShloMosaic.Lib.Pipeline.ValueKit

@[expose] public section

/-! # The arrays between the calls of the joined program

Each array that a call reads or leaves, as a function of the arguments. -/

set_option maxRecDepth 16384

noncomputable section

open Idealize.ShloMosaic Idealize.ShloMosaic.TcCoe Idealize.SL.Sem

namespace Cert.Kernel16Ideal.Value

open Cert.Kernel16Ideal Cert.Kernel16Ideal.Gen

/-- The conditions with rows of zeros behind them. -/
def CALL (C : FVec Ideal S4x2048 .f32) : FVec Ideal S136x2048 .f32 :=
  concatenate S136x2048 0 [⟨S4x2048, C⟩, ⟨S132x2048, broadcastInDim S132x2048 ![] bcast_S_S132x2048 (constant S_ .f32 0x00000000#32)⟩] concatenates_S4x2048_S132x2048_S136x2048_d0

/-- The modulation. -/
def KM (C : FVec Ideal S4x2048 .f32) (WA : FVec Ideal S2048x12288 .f32) (BA : FVec Ideal S12288 .f32) : FVec Ideal S136x12288 .f32 :=
  MODA (CALL C) WA (shapeCast S1x12288 BA shapeCasts_S12288_S1x12288)

/-- The shift of each sequence. -/
def KSH (M : FVec Ideal S136x12288 .f32) : FVec Ideal S4x1x2048 .f32 :=
  shapeCast S4x1x2048 (extractStridedSlice S4x2048 ![0, 0] M slices_S136x12288_S4x2048_0_0) shapeCasts_S4x2048_S4x1x2048

/-- The scale of each sequence. -/
def KSC (M : FVec Ideal S136x12288 .f32) : FVec Ideal S4x1x2048 .f32 :=
  shapeCast S4x1x2048 (extractStridedSlice S4x2048 ![0, 2048] M slices_S136x12288_S4x2048_0_2048) shapeCasts_S4x2048_S4x1x2048

/-- The normed, scaled and shifted tokens. -/
def KX (X : FVec Ideal S4x4096x2048 .f32) (N : FVec Ideal S2048 .f32) (M : FVec Ideal S136x12288 .f32) : FVec Ideal S16384x2048 .bf16 :=
  NORM (shapeCast S16384x2048 X shapeCasts_S4x4096x2048_S16384x2048) (shapeCast S1x2048 N shapeCasts_S2048_S1x2048) (KSC M) (KSH M)

/-- The section of 1024 columns of the weights from column 1024. -/
def KW1024 (W : FVec Ideal S2048x11344 .f32) : FVec Ideal S2048x1024 .bf16 :=
  truncf .bf16 (extractStridedSlice S2048x1024 ![0, 1024] W slices_S2048x11344_S2048x1024_0_1024) bitsLt_bf16_f32

/-- The section of 1024 columns of the weights from column 2048. -/
def KW2048 (W : FVec Ideal S2048x11344 .f32) : FVec Ideal S2048x1024 .bf16 :=
  truncf .bf16 (extractStridedSlice S2048x1024 ![0, 2048] W slices_S2048x11344_S2048x1024_0_2048) bitsLt_bf16_f32

/-- The section of 1024 columns of the weights from column 4096. -/
def KW4096 (W : FVec Ideal S2048x11344 .f32) : FVec Ideal S2048x1024 .bf16 :=
  truncf .bf16 (extractStridedSlice S2048x1024 ![0, 4096] W slices_S2048x11344_S2048x1024_0_4096) bitsLt_bf16_f32

/-- The section of 1024 columns of the weights from column 5120. -/
def KW5120 (W : FVec Ideal S2048x11344 .f32) : FVec Ideal S2048x1024 .bf16 :=
  truncf .bf16 (extractStridedSlice S2048x1024 ![0, 5120] W slices_S2048x11344_S2048x1024_0_5120) bitsLt_bf16_f32

/-- The section of 64 columns of the weights from column 7168. -/
def KW7168 (W : FVec Ideal S2048x11344 .f32) : FVec Ideal S2048x64 .bf16 :=
  truncf .bf16 (extractStridedSlice S2048x64 ![0, 7168] W slices_S2048x11344_S2048x64_0_7168) bitsLt_bf16_f32

/-- A gain as one row. -/
def KG (G : FVec Ideal S128 .f32) : FVec Ideal S1x128 .f32 := shapeCast S1x128 G shapeCasts_S128_S1x128

variable (m : (ℓ : Loc nD τ sig) → Buf (Elt Ideal) ℓ) (ρ : Dev nD → PrngReg)

/-- The modulation from the arguments. -/
def MV (c : Dev nD) : FVec Ideal S136x12288 .f32 := KM (m ((c : Thread nD τ).loc main_arg1)) (m ((c : Thread nD τ).loc main_arg2)) (m ((c : Thread nD τ).loc main_arg3))

/-- The tokens that the projections read, from the arguments. -/
def XV (c : Dev nD) : FVec Ideal S16384x2048 .bf16 := KX (m ((c : Thread nD τ).loc main_arg0)) (m ((c : Thread nD τ).loc main_arg4)) (MV m c)

/-! ## Before the first call -/

theorem W1_v1 (c : Dev nD) : W1 m ρ c (Proc.devRef .tc main_v1) = CALL (m ((c : Thread nD τ).loc main_arg1)) := by
  unfold_abbrev_sides
  after_results
  rfl

theorem W1_v2 (c : Dev nD) : W1 m ρ c (Proc.devRef .tc main_v2) = shapeCast S1x12288 (m ((c : Thread nD τ).loc main_arg3)) shapeCasts_S12288_S1x12288 := by
  unfold_abbrev_sides
  after_results
  rfl

theorem W2_v3 (c : Dev nD) : W2 m ρ c (Proc.devRef .tc main_v3) = MV m c := by
  refine (W2_arr m ρ c 3).trans ((final0 (V1 m ρ) c).trans ?_)
  show MODA (W1 m ρ c (Proc.devRef .tc main_v1)) (W1 m ρ c (Proc.devRef .tc main_arg2)) (W1 m ρ c (Proc.devRef .tc main_v2)) = _
  rw [W1_v1, W1_v2, W1_args m ρ c main_arg2 (by decide)]
  rfl

/-! ## Between the first two calls -/

theorem W3_v5 (c : Dev nD) : W3 m ρ c (Proc.devRef .tc main_v5) = KSH (MV m c) := by
  unfold_abbrev_sides
  after_results
  rw [W2_v3]
  rfl

theorem W3_v7 (c : Dev nD) : W3 m ρ c (Proc.devRef .tc main_v7) = KSC (MV m c) := by
  unfold_abbrev_sides
  after_results
  rw [W2_v3]
  rfl

theorem W3_v11 (c : Dev nD) : W3 m ρ c (Proc.devRef .tc main_v11) = KW1024 (m ((c : Thread nD τ).loc main_arg5)) := by
  unfold_abbrev_sides
  after_results
  rw [W2_args m ρ c main_arg5 (by decide)]
  rfl

theorem W3_v13 (c : Dev nD) : W3 m ρ c (Proc.devRef .tc main_v13) = KW2048 (m ((c : Thread nD τ).loc main_arg5)) := by
  unfold_abbrev_sides
  after_results
  rw [W2_args m ρ c main_arg5 (by decide)]
  rfl

theorem W3_v17 (c : Dev nD) : W3 m ρ c (Proc.devRef .tc main_v17) = KW4096 (m ((c : Thread nD τ).loc main_arg5)) := by
  unfold_abbrev_sides
  after_results
  rw [W2_args m ρ c main_arg5 (by decide)]
  rfl

theorem W3_v19 (c : Dev nD) : W3 m ρ c (Proc.devRef .tc main_v19) = KW5120 (m ((c : Thread nD τ).loc main_arg5)) := by
  unfold_abbrev_sides
  after_results
  rw [W2_args m ρ c main_arg5 (by decide)]
  rfl

theorem W3_v23 (c : Dev nD) : W3 m ρ c (Proc.devRef .tc main_v23) = KW7168 (m ((c : Thread nD τ).loc main_arg5)) := by
  unfold_abbrev_sides
  after_results
  rw [W2_args m ρ c main_arg5 (by decide)]
  rfl

theorem W3_v30 (c : Dev nD) : W3 m ρ c (Proc.devRef .tc main_v30) = shapeCast S16384x2048 (m ((c : Thread nD τ).loc main_arg0)) shapeCasts_S4x4096x2048_S16384x2048 := by
  unfold_abbrev_sides
  after_results
  rw [W2_args m ρ c main_arg0 (by decide)]
  rfl

theorem W3_v31 (c : Dev nD) : W3 m ρ c (Proc.devRef .tc main_v31) = shapeCast S1x2048 (m ((c : Thread nD τ).loc main_arg4)) shapeCasts_S2048_S1x2048 := by
  unfold_abbrev_sides
  after_results
  rw [W2_args m ρ c main_arg4 (by decide)]
  rfl

theorem W4_v32 (c : Dev nD) : W4 m ρ c (Proc.devRef .tc main_v32) = XV m c := by
  refine (W4_arr m ρ c 4).trans ((final1 (V3 m ρ) c).trans ?_)
  show NORM (W3 m ρ c (Proc.devRef .tc main_v30)) (W3 m ρ c (Proc.devRef .tc main_v31)) (W3 m ρ c (Proc.devRef .tc main_v7)) (W3 m ρ c (Proc.devRef .tc main_v5)) = _
  rw [W3_v30, W3_v31, W3_v7, W3_v5]
  rfl

/-! ## The projections -/

theorem W4_v11 (c : Dev nD) : W4 m ρ c (Proc.devRef .tc main_v11) = KW1024 (m ((c : Thread nD τ).loc main_arg5)) :=
  (W4_of m ρ c main_v11 (by decide +kernel)).trans (W3_v11 m ρ c)

theorem W4_v13 (c : Dev nD) : W4 m ρ c (Proc.devRef .tc main_v13) = KW2048 (m ((c : Thread nD τ).loc main_arg5)) :=
  (W4_of m ρ c main_v13 (by decide +kernel)).trans (W3_v13 m ρ c)

theorem W4_v17 (c : Dev nD) : W4 m ρ c (Proc.devRef .tc main_v17) = KW4096 (m ((c : Thread nD τ).loc main_arg5)) :=
  (W4_of m ρ c main_v17 (by decide +kernel)).trans (W3_v17 m ρ c)

theorem W4_v19 (c : Dev nD) : W4 m ρ c (Proc.devRef .tc main_v19) = KW5120 (m ((c : Thread nD τ).loc main_arg5)) :=
  (W4_of m ρ c main_v19 (by decide +kernel)).trans (W3_v19 m ρ c)

theorem W4_v23 (c : Dev nD) : W4 m ρ c (Proc.devRef .tc main_v23) = KW7168 (m ((c : Thread nD τ).loc main_arg5)) :=
  (W4_of m ρ c main_v23 (by decide +kernel)).trans (W3_v23 m ρ c)

theorem W5_v33 (c : Dev nD) : W5 m ρ c (Proc.devRef .tc main_v33) = KG (m ((c : Thread nD τ).loc main_arg6)) := by
  unfold_abbrev_sides
  after_results
  rw [W4_args m ρ c main_arg6 (by decide)]
  rfl

theorem W5_v32 (c : Dev nD) : W5 m ρ c (Proc.devRef .tc main_v32) = XV m c :=
  (W5_of m ρ c main_v32 (by decide +kernel)).trans (W4_v32 m ρ c)

theorem W5_v11 (c : Dev nD) : W5 m ρ c (Proc.devRef .tc main_v11) = KW1024 (m ((c : Thread nD τ).loc main_arg5)) :=
  (W5_of m ρ c main_v11 (by decide +kernel)).trans (W4_v11 m ρ c)

theorem W5_v13 (c : Dev nD) : W5 m ρ c (Proc.devRef .tc main_v13) = KW2048 (m ((c : Thread nD τ).loc main_arg5)) :=
  (W5_of m ρ c main_v13 (by decide +kernel)).trans (W4_v13 m ρ c)

theorem W5_v17 (c : Dev nD) : W5 m ρ c (Proc.devRef .tc main_v17) = KW4096 (m ((c : Thread nD τ).loc main_arg5)) :=
  (W5_of m ρ c main_v17 (by decide +kernel)).trans (W4_v17 m ρ c)

theorem W5_v19 (c : Dev nD) : W5 m ρ c (Proc.devRef .tc main_v19) = KW5120 (m ((c : Thread nD τ).loc main_arg5)) :=
  (W5_of m ρ c main_v19 (by decide +kernel)).trans (W4_v19 m ρ c)

theorem W5_v23 (c : Dev nD) : W5 m ρ c (Proc.devRef .tc main_v23) = KW7168 (m ((c : Thread nD τ).loc main_arg5)) :=
  (W5_of m ρ c main_v23 (by decide +kernel)).trans (W4_v23 m ρ c)

theorem W6_v34 (c : Dev nD) : W6 m ρ c (Proc.devRef .tc main_v34) = HEAD (XV m c) (KW1024 (m ((c : Thread nD τ).loc main_arg5))) (KG (m ((c : Thread nD τ).loc main_arg6))) := by
  refine (W6_arr m ρ c 3).trans ((final2 (V5 m ρ) c).trans ?_)
  show HEAD (W5 m ρ c (Proc.devRef .tc main_v32)) (W5 m ρ c (Proc.devRef .tc main_v11)) (W5 m ρ c (Proc.devRef .tc main_v33)) = _
  rw [W5_v32, W5_v11, W5_v33]

theorem W6_v32 (c : Dev nD) : W6 m ρ c (Proc.devRef .tc main_v32) = XV m c :=
  (W6_of m ρ c main_v32 (by decide +kernel)).trans (W5_v32 m ρ c)

theorem W6_v13 (c : Dev nD) : W6 m ρ c (Proc.devRef .tc main_v13) = KW2048 (m ((c : Thread nD τ).loc main_arg5)) :=
  (W6_of m ρ c main_v13 (by decide +kernel)).trans (W5_v13 m ρ c)

theorem W6_v17 (c : Dev nD) : W6 m ρ c (Proc.devRef .tc main_v17) = KW4096 (m ((c : Thread nD τ).loc main_arg5)) :=
  (W6_of m ρ c main_v17 (by decide +kernel)).trans (W5_v17 m ρ c)

theorem W6_v19 (c : Dev nD) : W6 m ρ c (Proc.devRef .tc main_v19) = KW5120 (m ((c : Thread nD τ).loc main_arg5)) :=
  (W6_of m ρ c main_v19 (by decide +kernel)).trans (W5_v19 m ρ c)

theorem W6_v23 (c : Dev nD) : W6 m ρ c (Proc.devRef .tc main_v23) = KW7168 (m ((c : Thread nD τ).loc main_arg5)) :=
  (W6_of m ρ c main_v23 (by decide +kernel)).trans (W5_v23 m ρ c)

theorem W7_v35 (c : Dev nD) : W7 m ρ c (Proc.devRef .tc main_v35) = PROD (XV m c) (KW2048 (m ((c : Thread nD τ).loc main_arg5))) := by
  refine (W7_arr m ρ c 2).trans ((final3 (V6 m ρ) c).trans ?_)
  show PROD (W6 m ρ c (Proc.devRef .tc main_v32)) (W6 m ρ c (Proc.devRef .tc main_v13)) = _
  rw [W6_v32, W6_v13]

theorem W7_v32 (c : Dev nD) : W7 m ρ c (Proc.devRef .tc main_v32) = XV m c :=
  (W7_of m ρ c main_v32 (by decide +kernel)).trans (W6_v32 m ρ c)

theorem W7_v17 (c : Dev nD) : W7 m ρ c (Proc.devRef .tc main_v17) = KW4096 (m ((c : Thread nD τ).loc main_arg5)) :=
  (W7_of m ρ c main_v17 (by decide +kernel)).trans (W6_v17 m ρ c)

theorem W7_v19 (c : Dev nD) : W7 m ρ c (Proc.devRef .tc main_v19) = KW5120 (m ((c : Thread nD τ).loc main_arg5)) :=
  (W7_of m ρ c main_v19 (by decide +kernel)).trans (W6_v19 m ρ c)

theorem W7_v23 (c : Dev nD) : W7 m ρ c (Proc.devRef .tc main_v23) = KW7168 (m ((c : Thread nD τ).loc main_arg5)) :=
  (W7_of m ρ c main_v23 (by decide +kernel)).trans (W6_v23 m ρ c)

theorem W7_v34 (c : Dev nD) : W7 m ρ c (Proc.devRef .tc main_v34) = HEAD (XV m c) (KW1024 (m ((c : Thread nD τ).loc main_arg5))) (KG (m ((c : Thread nD τ).loc main_arg6))) :=
  (W7_of m ρ c main_v34 (by decide +kernel)).trans (W6_v34 m ρ c)

theorem W8_v36 (c : Dev nD) : W8 m ρ c (Proc.devRef .tc main_v36) = KG (m ((c : Thread nD τ).loc main_arg7)) := by
  unfold_abbrev_sides
  after_results
  rw [W7_args m ρ c main_arg7 (by decide)]
  rfl

theorem W8_v32 (c : Dev nD) : W8 m ρ c (Proc.devRef .tc main_v32) = XV m c :=
  (W8_of m ρ c main_v32 (by decide +kernel)).trans (W7_v32 m ρ c)

theorem W8_v17 (c : Dev nD) : W8 m ρ c (Proc.devRef .tc main_v17) = KW4096 (m ((c : Thread nD τ).loc main_arg5)) :=
  (W8_of m ρ c main_v17 (by decide +kernel)).trans (W7_v17 m ρ c)

theorem W8_v19 (c : Dev nD) : W8 m ρ c (Proc.devRef .tc main_v19) = KW5120 (m ((c : Thread nD τ).loc main_arg5)) :=
  (W8_of m ρ c main_v19 (by decide +kernel)).trans (W7_v19 m ρ c)

theorem W8_v23 (c : Dev nD) : W8 m ρ c (Proc.devRef .tc main_v23) = KW7168 (m ((c : Thread nD τ).loc main_arg5)) :=
  (W8_of m ρ c main_v23 (by decide +kernel)).trans (W7_v23 m ρ c)

theorem W8_v34 (c : Dev nD) : W8 m ρ c (Proc.devRef .tc main_v34) = HEAD (XV m c) (KW1024 (m ((c : Thread nD τ).loc main_arg5))) (KG (m ((c : Thread nD τ).loc main_arg6))) :=
  (W8_of m ρ c main_v34 (by decide +kernel)).trans (W7_v34 m ρ c)

theorem W8_v35 (c : Dev nD) : W8 m ρ c (Proc.devRef .tc main_v35) = PROD (XV m c) (KW2048 (m ((c : Thread nD τ).loc main_arg5))) :=
  (W8_of m ρ c main_v35 (by decide +kernel)).trans (W7_v35 m ρ c)

theorem W9_v37 (c : Dev nD) : W9 m ρ c (Proc.devRef .tc main_v37) = HEAD (XV m c) (KW4096 (m ((c : Thread nD τ).loc main_arg5))) (KG (m ((c : Thread nD τ).loc main_arg7))) := by
  refine (W9_arr m ρ c 3).trans ((final4 (V8 m ρ) c).trans ?_)
  show HEAD (W8 m ρ c (Proc.devRef .tc main_v32)) (W8 m ρ c (Proc.devRef .tc main_v17)) (W8 m ρ c (Proc.devRef .tc main_v36)) = _
  rw [W8_v32, W8_v17, W8_v36]

theorem W9_v32 (c : Dev nD) : W9 m ρ c (Proc.devRef .tc main_v32) = XV m c :=
  (W9_of m ρ c main_v32 (by decide +kernel)).trans (W8_v32 m ρ c)

theorem W9_v19 (c : Dev nD) : W9 m ρ c (Proc.devRef .tc main_v19) = KW5120 (m ((c : Thread nD τ).loc main_arg5)) :=
  (W9_of m ρ c main_v19 (by decide +kernel)).trans (W8_v19 m ρ c)

theorem W9_v23 (c : Dev nD) : W9 m ρ c (Proc.devRef .tc main_v23) = KW7168 (m ((c : Thread nD τ).loc main_arg5)) :=
  (W9_of m ρ c main_v23 (by decide +kernel)).trans (W8_v23 m ρ c)

theorem W9_v34 (c : Dev nD) : W9 m ρ c (Proc.devRef .tc main_v34) = HEAD (XV m c) (KW1024 (m ((c : Thread nD τ).loc main_arg5))) (KG (m ((c : Thread nD τ).loc main_arg6))) :=
  (W9_of m ρ c main_v34 (by decide +kernel)).trans (W8_v34 m ρ c)

theorem W9_v35 (c : Dev nD) : W9 m ρ c (Proc.devRef .tc main_v35) = PROD (XV m c) (KW2048 (m ((c : Thread nD τ).loc main_arg5))) :=
  (W9_of m ρ c main_v35 (by decide +kernel)).trans (W8_v35 m ρ c)

theorem W10_v38 (c : Dev nD) : W10 m ρ c (Proc.devRef .tc main_v38) = PROD (XV m c) (KW5120 (m ((c : Thread nD τ).loc main_arg5))) := by
  refine (W10_arr m ρ c 2).trans ((final5 (V9 m ρ) c).trans ?_)
  show PROD (W9 m ρ c (Proc.devRef .tc main_v32)) (W9 m ρ c (Proc.devRef .tc main_v19)) = _
  rw [W9_v32, W9_v19]

theorem W10_v32 (c : Dev nD) : W10 m ρ c (Proc.devRef .tc main_v32) = XV m c :=
  (W10_of m ρ c main_v32 (by decide +kernel)).trans (W9_v32 m ρ c)

theorem W10_v23 (c : Dev nD) : W10 m ρ c (Proc.devRef .tc main_v23) = KW7168 (m ((c : Thread nD τ).loc main_arg5)) :=
  (W10_of m ρ c main_v23 (by decide +kernel)).trans (W9_v23 m ρ c)

theorem W10_v34 (c : Dev nD) : W10 m ρ c (Proc.devRef .tc main_v34) = HEAD (XV m c) (KW1024 (m ((c : Thread nD τ).loc main_arg5))) (KG (m ((c : Thread nD τ).loc main_arg6))) :=
  (W10_of m ρ c main_v34 (by decide +kernel)).trans (W9_v34 m ρ c)

theorem W10_v35 (c : Dev nD) : W10 m ρ c (Proc.devRef .tc main_v35) = PROD (XV m c) (KW2048 (m ((c : Thread nD τ).loc main_arg5))) :=
  (W10_of m ρ c main_v35 (by decide +kernel)).trans (W9_v35 m ρ c)

theorem W10_v37 (c : Dev nD) : W10 m ρ c (Proc.devRef .tc main_v37) = HEAD (XV m c) (KW4096 (m ((c : Thread nD τ).loc main_arg5))) (KG (m ((c : Thread nD τ).loc main_arg7))) :=
  (W10_of m ρ c main_v37 (by decide +kernel)).trans (W9_v37 m ρ c)

theorem W11_v39 (c : Dev nD) : W11 m ρ c (Proc.devRef .tc main_v39) = PROD64 (XV m c) (KW7168 (m ((c : Thread nD τ).loc main_arg5))) := by
  refine (W11_arr m ρ c 2).trans ((final6 (V10 m ρ) c).trans ?_)
  show PROD64 (W10 m ρ c (Proc.devRef .tc main_v32)) (W10 m ρ c (Proc.devRef .tc main_v23)) = _
  rw [W10_v32, W10_v23]

theorem W11_v34 (c : Dev nD) : W11 m ρ c (Proc.devRef .tc main_v34) = HEAD (XV m c) (KW1024 (m ((c : Thread nD τ).loc main_arg5))) (KG (m ((c : Thread nD τ).loc main_arg6))) :=
  (W11_of m ρ c main_v34 (by decide +kernel)).trans (W10_v34 m ρ c)

theorem W11_v35 (c : Dev nD) : W11 m ρ c (Proc.devRef .tc main_v35) = PROD (XV m c) (KW2048 (m ((c : Thread nD τ).loc main_arg5))) :=
  (W11_of m ρ c main_v35 (by decide +kernel)).trans (W10_v35 m ρ c)

theorem W11_v37 (c : Dev nD) : W11 m ρ c (Proc.devRef .tc main_v37) = HEAD (XV m c) (KW4096 (m ((c : Thread nD τ).loc main_arg5))) (KG (m ((c : Thread nD τ).loc main_arg7))) :=
  (W11_of m ρ c main_v37 (by decide +kernel)).trans (W10_v37 m ρ c)

theorem W11_v38 (c : Dev nD) : W11 m ρ c (Proc.devRef .tc main_v38) = PROD (XV m c) (KW5120 (m ((c : Thread nD τ).loc main_arg5))) :=
  (W11_of m ρ c main_v38 (by decide +kernel)).trans (W10_v38 m ρ c)

end Cert.Kernel16Ideal.Value

end
-- ==== Proof.State.Ref.lean ====
module

public import proofs.«01_k».proof.Proof.State.Heads
public import proofs.«01_k».proof.Proof.Gen.Reference16Ideal

@[expose] public section

/-! # The reference of the joined program, stage by stage

The modulation, the normed tokens, the whole product and its sections, each at an entry. -/

set_option maxRecDepth 16384

noncomputable section

open Idealize.ShloMosaic Idealize.ShloMosaic.TcCoe Idealize.SL.Sem

namespace Cert.Reference16Ideal.Stage

open Cert.Reference16Ideal Cert.Kernel16Ideal.Value

/-- The modulation. -/
def ADAR (C : FVec Ideal S4x2048 .f32) (WA : FVec Ideal S2048x12288 .f32) (BA : FVec Ideal S12288 .f32) : FVec Ideal S4x12288 .f32 :=
  (addf (Host.dotGeneral dot_S4x2048_S2048x12288_S4x12288_1_0_0_1_n_n none (mulf C (Host.divf (broadcastInDim S4x2048 ![] Gen.bcast_S_S4x2048 (constant S_ .f32 0x3F800000#32)) (addf (broadcastInDim S4x2048 ![] Gen.bcast_S_S4x2048 (constant S_ .f32 0x3F800000#32)) (Host.exp (Host.negf C))))) WA) (broadcastInDim S4x12288 ![0, 1] Gen.bcast_S1x12288_S4x12288_0_1 (broadcastInDim S1x12288 ![1] Gen.bcast_S12288_S1x12288_1 BA)))

theorem ADAR_at (C : FVec Ideal S4x2048 .f32) (WA : FVec Ideal S2048x12288 .f32) (BA : FVec Ideal S12288 .f32) (r : Fin 4) (d : Fin 12288) :
    ADAR C WA BA (ix2 r d) = (∑ k : Fin 2048, gate (C (ix2 r k)) * WA (ix2 k d)) + BA (ix1 d) := by
  pointwise [ADAR, gate]

/-- The normed, scaled and shifted tokens. -/
def XMR (X : FVec Ideal S4x4096x2048 .f32) (N : FVec Ideal S2048 .f32) (M : FVec Ideal S4x12288 .f32) : FVec Ideal S4x4096x2048 .f32 :=
  (addf (mulf (mulf (mulf X (broadcastInDim S4x4096x2048 ![0, 1, 2] Gen.bcast_S4x4096x1_S4x4096x2048_0_1_2 (Host.rsqrt (addf (Host.divf (broadcastInDim S4x4096x1 ![0, 1] Gen.bcast_S4x4096_S4x4096x1_0_1 (Host.reduceAdd (mulf X X) (constant S_ .f32 0x00000000#32) Gen.reducesTo_S4x4096x2048_S4x4096_d2 Gen.h_S_)) (broadcastInDim S4x4096x1 ![] Gen.bcast_S_S4x4096x1 (constant S_ .f32 0x45000000#32))) (broadcastInDim S4x4096x1 ![] Gen.bcast_S_S4x4096x1 (constant S_ .f32 0x358637BD#32)))))) (broadcastInDim S4x4096x2048 ![0, 1, 2] Gen.bcast_S1x1x2048_S4x4096x2048_0_1_2 (broadcastInDim S1x1x2048 ![2] Gen.bcast_S2048_S1x1x2048_2 N))) (broadcastInDim S4x4096x2048 ![0, 1, 2] Gen.bcast_S4x1x2048_S4x4096x2048_0_1_2 (addf (broadcastInDim S4x1x2048 ![] Gen.bcast_S_S4x1x2048 (constant S_ .f32 0x3F800000#32)) (broadcastInDim S4x1x2048 ![0, 2] Gen.bcast_S4x2048_S4x1x2048_0_2 (extractStridedSlice S4x2048 ![0, 2048] M Gen.slices_S4x12288_S4x2048_0_2048))))) (broadcastInDim S4x4096x2048 ![0, 1, 2] Gen.bcast_S4x1x2048_S4x4096x2048_0_1_2 (broadcastInDim S4x1x2048 ![0, 2] Gen.bcast_S4x2048_S4x1x2048_0_2 (extractStridedSlice S4x2048 ![0, 0] M Gen.slices_S4x12288_S4x2048_0_0))))

theorem XMR_at (X : FVec Ideal S4x4096x2048 .f32) (N : FVec Ideal S2048 .f32) (M : FVec Ideal S4x12288 .f32) (b : Fin 4) (s : Fin 4096) (d : Fin 2048) :
    XMR X N M (ix3 b s d) = normed (X (ix3 b s d)) (∑ e : Fin 2048, X (ix3 b s e) * X (ix3 b s e)) (N (ix1 d))
      (M (ix2 b ⟨2048 + d.val, by omega⟩)) (M (ix2 b ⟨d.val, by omega⟩)) := by
  pointwise [XMR, normed]

/-- The tokens times all the weights. -/
def ZR (XM : FVec Ideal S4x4096x2048 .f32) (WI : FVec Ideal S2048x11344 .f32) : FVec Ideal S4x4096x11344 .f32 :=
  (Host.dotGeneral dot_S4x4096x2048_S2048x11344_S4x4096x11344_2_0_01_1_n_n none XM WI)

theorem ZR_at (XM : FVec Ideal S4x4096x2048 .f32) (WI : FVec Ideal S2048x11344 .f32) (b : Fin 4) (s : Fin 4096) (d : Fin 11344) :
    ZR XM WI (ix3 b s d) = ∑ k : Fin 2048, XM (ix3 b s k) * WI (ix2 k d) := by
  pointwise [ZR]

/-- A section whose heads are normed, as rows of tokens. -/
def HEADR (Y : FVec Ideal S4x4096x1024 .f32) (K : FVec Ideal S128 .f32) : FVec Ideal S16384x1024 .f32 :=
  shapeCast _ (mulf (mulf (shapeCast _ Y Gen.shapeCasts_S4x4096x1024_S4x4096x8x128) (broadcastInDim S4x4096x8x128 ![0, 1, 2, 3] Gen.bcast_S4x4096x8x1_S4x4096x8x128_0_1_2_3 (Host.rsqrt (addf (Host.divf (broadcastInDim S4x4096x8x1 ![0, 1, 2] Gen.bcast_S4x4096x8_S4x4096x8x1_0_1_2 (Host.reduceAdd (mulf (shapeCast _ Y Gen.shapeCasts_S4x4096x1024_S4x4096x8x128) (shapeCast _ Y Gen.shapeCasts_S4x4096x1024_S4x4096x8x128)) (constant S_ .f32 0x00000000#32) Gen.reducesTo_S4x4096x8x128_S4x4096x8_d3 Gen.h_S_)) (broadcastInDim S4x4096x8x1 ![] Gen.bcast_S_S4x4096x8x1 (constant S_ .f32 0x43000000#32))) (broadcastInDim S4x4096x8x1 ![] Gen.bcast_S_S4x4096x8x1 (constant S_ .f32 0x358637BD#32)))))) (broadcastInDim S4x4096x8x128 ![0, 1, 2, 3] Gen.bcast_S1x1x1x128_S4x4096x8x128_0_1_2_3 (broadcastInDim S1x1x1x128 ![3] Gen.bcast_S128_S1x1x1x128_3 K))) Gen.shapeCasts_S4x4096x8x128_S16384x1024

theorem HEADR_at (Y : FVec Ideal S4x4096x1024 .f32) (K : FVec Ideal S128 .f32) (t : Fin 16384) (d : Fin 1024) :
    HEADR Y K (ix2 t d) = headAt (fun j => Y (ix3 ⟨t.val / 4096, by omega⟩ ⟨t.val % 4096, by omega⟩ j)) (fun l => K (ix1 l)) d := by
  pointwise [HEADR, headAt, headed]

/-- The section of 1024 columns from column 1024. -/
def SEC1024 (Z : FVec Ideal S4x4096x11344 .f32) : FVec Ideal S4x4096x1024 .f32 :=
  extractStridedSlice S4x4096x1024 ![0, 0, 1024] Z Gen.slices_S4x4096x11344_S4x4096x1024_0_0_1024

theorem SEC1024_at (Z : FVec Ideal S4x4096x11344 .f32) (b : Fin 4) (s : Fin 4096) (d : Fin 1024) :
    SEC1024 Z (ix3 b s d) = Z (ix3 b s ⟨1024 + d.val, by omega⟩) := by
  pointwise [SEC1024]

/-- The section of 1024 columns from column 2048. -/
def SEC2048 (Z : FVec Ideal S4x4096x11344 .f32) : FVec Ideal S4x4096x1024 .f32 :=
  extractStridedSlice S4x4096x1024 ![0, 0, 2048] Z Gen.slices_S4x4096x11344_S4x4096x1024_0_0_2048

theorem SEC2048_at (Z : FVec Ideal S4x4096x11344 .f32) (b : Fin 4) (s : Fin 4096) (d : Fin 1024) :
    SEC2048 Z (ix3 b s d) = Z (ix3 b s ⟨2048 + d.val, by omega⟩) := by
  pointwise [SEC2048]

/-- The section of 1024 columns from column 4096. -/
def SEC4096 (Z : FVec Ideal S4x4096x11344 .f32) : FVec Ideal S4x4096x1024 .f32 :=
  extractStridedSlice S4x4096x1024 ![0, 0, 4096] Z Gen.slices_S4x4096x11344_S4x4096x1024_0_0_4096

theorem SEC4096_at (Z : FVec Ideal S4x4096x11344 .f32) (b : Fin 4) (s : Fin 4096) (d : Fin 1024) :
    SEC4096 Z (ix3 b s d) = Z (ix3 b s ⟨4096 + d.val, by omega⟩) := by
  pointwise [SEC4096]

/-- The section of 1024 columns from column 5120. -/
def SEC5120 (Z : FVec Ideal S4x4096x11344 .f32) : FVec Ideal S4x4096x1024 .f32 :=
  extractStridedSlice S4x4096x1024 ![0, 0, 5120] Z Gen.slices_S4x4096x11344_S4x4096x1024_0_0_5120

theorem SEC5120_at (Z : FVec Ideal S4x4096x11344 .f32) (b : Fin 4) (s : Fin 4096) (d : Fin 1024) :
    SEC5120 Z (ix3 b s d) = Z (ix3 b s ⟨5120 + d.val, by omega⟩) := by
  pointwise [SEC5120]

/-- The section of 64 columns from column 7168. -/
def SEC7168 (Z : FVec Ideal S4x4096x11344 .f32) : FVec Ideal S4x4096x64 .f32 :=
  extractStridedSlice S4x4096x64 ![0, 0, 7168] Z Gen.slices_S4x4096x11344_S4x4096x64_0_0_7168

theorem SEC7168_at (Z : FVec Ideal S4x4096x11344 .f32) (b : Fin 4) (s : Fin 4096) (d : Fin 64) :
    SEC7168 Z (ix3 b s d) = Z (ix3 b s ⟨7168 + d.val, by omega⟩) := by
  pointwise [SEC7168]

/-- A section of 1024 columns as rows of tokens. -/
def ROWS1024 (Y : FVec Ideal S4x4096x1024 .f32) : FVec Ideal S16384x1024 .f32 :=
  shapeCast _ Y Gen.shapeCasts_S4x4096x1024_S16384x1024

theorem ROWS1024_at (Y : FVec Ideal S4x4096x1024 .f32) (t : Fin 16384) (d : Fin 1024) :
    ROWS1024 Y (ix2 t d) = Y (ix3 ⟨t.val / 4096, by omega⟩ ⟨t.val % 4096, by omega⟩ d) := by
  pointwise [ROWS1024]

/-- A section of 64 columns as rows of tokens. -/
def ROWS64 (Y : FVec Ideal S4x4096x64 .f32) : FVec Ideal S16384x64 .f32 :=
  shapeCast _ Y Gen.shapeCasts_S4x4096x64_S16384x64

theorem ROWS64_at (Y : FVec Ideal S4x4096x64 .f32) (t : Fin 16384) (d : Fin 64) :
    ROWS64 Y (ix2 t d) = Y (ix3 ⟨t.val / 4096, by omega⟩ ⟨t.val % 4096, by omega⟩ d) := by
  pointwise [ROWS64]

end Cert.Reference16Ideal.Stage

end
-- ==== Proof.State.Run.lean ====
module

public import proofs.«01_k».proof.Proof.State.Chain
public import proofs.«01_k».proof.Proof.State.Ref
public import proofs.«01_k».proof.Proof.Gen.Reference16Ideal.Run

@[expose] public section

/-! # The runs of the joined program and of its reference

Each of the two programs run whole, with its five results as named functions of the arguments. -/

set_option maxRecDepth 16384

noncomputable section

namespace Cert.Kernel16Ideal.Value

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The joined program ends with the five results at their terms and the arguments as they were. -/
theorem run_joined : θ_run defs (onTc (τ := τ) (main (F := Ideal))) ⟨m, fun _ => 0, ρ⟩ (fun r => ∀ c : Dev nD,
      r.2.mem ((c.tc : Thread nD τ).loc main_v34) = HEAD (XV m c) (KW1024 (m ((c : Thread nD τ).loc main_arg5))) (KG (m ((c : Thread nD τ).loc main_arg6)))
      ∧ r.2.mem ((c.tc : Thread nD τ).loc main_v35) = PROD (XV m c) (KW2048 (m ((c : Thread nD τ).loc main_arg5)))
      ∧ r.2.mem ((c.tc : Thread nD τ).loc main_v37) = HEAD (XV m c) (KW4096 (m ((c : Thread nD τ).loc main_arg5))) (KG (m ((c : Thread nD τ).loc main_arg7)))
      ∧ r.2.mem ((c.tc : Thread nD τ).loc main_v38) = PROD (XV m c) (KW5120 (m ((c : Thread nD τ).loc main_arg5)))
      ∧ r.2.mem ((c.tc : Thread nD τ).loc main_v39) = PROD64 (XV m c) (KW7168 (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c =>
      ⟨(h c _ (mem_uc main_v34 (by decide))).trans (W11_v34 m ρ c),
       (h c _ (mem_uc main_v35 (by decide))).trans (W11_v35 m ρ c),
       (h c _ (mem_uc main_v37 (by decide))).trans (W11_v37 m ρ c),
       (h c _ (mem_uc main_v38 (by decide))).trans (W11_v38 m ρ c),
       (h c _ (mem_uc main_v39 (by decide))).trans (W11_v39 m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.Kernel16Ideal.Value

namespace Cert.Reference16Ideal.Stage

open Cert.Reference16Ideal
open Idealize.ShloMosaic Idealize.ShloMosaic.TcCoe Idealize.SL.Sem

set_option maxHeartbeats 4000000 in
/-- The reference ends with the five results at their named terms and the arguments as they were. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v62) = HEADR (SEC1024 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5)))) (m ((c : Thread nD τ).loc main_arg6))
      ∧ r.2.mem ((c.tc : Thread nD τ).loc main_v63) = ROWS1024 (SEC2048 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5))))
      ∧ r.2.mem ((c.tc : Thread nD τ).loc main_v64) = HEADR (SEC4096 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5)))) (m ((c : Thread nD τ).loc main_arg7))
      ∧ r.2.mem ((c.tc : Thread nD τ).loc main_v65) = ROWS1024 (SEC5120 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5))))
      ∧ r.2.mem ((c.tc : Thread nD τ).loc main_v66) = ROWS64 (SEC7168 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans rfl, (h c).2.1.trans rfl, (h c).2.2.1.trans rfl, (h c).2.2.2.1.trans rfl, (h c).2.2.2.2.1.trans rfl, (h c).2.2.2.2.2⟩)
    (Cert.Reference16Ideal.Value.run (F := Ideal) m ρ)

end Cert.Reference16Ideal.Stage
-- ==== Proof.State.Value.lean ====
module

public import proofs.«01_k».proof.Proof.State.Chain
public import proofs.«01_k».proof.Proof.State.Ref
public import Idealize.ShloMosaic.Lib.Pipeline.ValueKit

@[expose] public section

/-! # The joined program and its reference

Each array of the kernel is the same stage of the reference, entry by entry: the tokens are rows, and a section of the weights is
cut before the product rather than after it. -/

set_option maxRecDepth 16384

noncomputable section

open Idealize.ShloMosaic Idealize.ShloMosaic.TcCoe Idealize.SL.Sem

namespace Cert.Kernel16Ideal.Value

open Cert.Kernel16Ideal Cert.Kernel16Ideal.Gen

open Cert.Reference16Ideal.Stage

theorem CALL_at (C : FVec Ideal S4x2048 .f32) (r : Fin 4) (k : Fin 2048) : CALL C (ix2 ⟨r.val, by omega⟩ k) = C (ix2 r k) := by
  pointwise [CALL]

theorem bias_at (B : FVec Ideal S12288 .f32) (d : Fin 12288) :
    (shapeCast S1x12288 B shapeCasts_S12288_S1x12288 : FVec Ideal S1x12288 .f32) (ix2 0 d) = B (ix1 d) := by
  pointwise []

/-- The modulation of a sequence. -/
theorem KM_at (C : FVec Ideal S4x2048 .f32) (WA : FVec Ideal S2048x12288 .f32) (BA : FVec Ideal S12288 .f32) (r : Fin 4) (d : Fin 12288) :
    KM C WA BA (ix2 ⟨r.val, by omega⟩ d) = ADAR C WA BA (ix2 r d) := by
  unfold KM
  rw [ADAR_at, MODA_at, bias_at]
  simp only [CALL_at]

theorem KSC_at (M : FVec Ideal S136x12288 .f32) (b : Fin 4) (d : Fin 2048) :
    KSC M (ix3 b 0 d) = M (ix2 ⟨b.val, by omega⟩ ⟨2048 + d.val, by omega⟩) := by
  pointwise [KSC]

theorem KSH_at (M : FVec Ideal S136x12288 .f32) (b : Fin 4) (d : Fin 2048) :
    KSH M (ix3 b 0 d) = M (ix2 ⟨b.val, by omega⟩ ⟨d.val, by omega⟩) := by
  pointwise [KSH]

theorem token_at (X : FVec Ideal S4x4096x2048 .f32) (t : Fin 16384) (d : Fin 2048) :
    (shapeCast S16384x2048 X shapeCasts_S4x4096x2048_S16384x2048 : FVec Ideal S16384x2048 .f32) (ix2 t d)
    = X (ix3 ⟨t.val / 4096, by omega⟩ ⟨t.val % 4096, by omega⟩ d) := by
  pointwise []

theorem gain_at (N : FVec Ideal S2048 .f32) (d : Fin 2048) :
    (shapeCast S1x2048 N shapeCasts_S2048_S1x2048 : FVec Ideal S1x2048 .f32) (ix2 0 d) = N (ix1 d) := by
  pointwise []

theorem KG_at (G : FVec Ideal S128 .f32) (l : Fin 128) : KG G (ix2 0 l) = G (ix1 l) := by
  pointwise [KG]

/-- A normed token. -/
theorem KX_at (X : FVec Ideal S4x4096x2048 .f32) (N : FVec Ideal S2048 .f32) (C : FVec Ideal S4x2048 .f32) (WA : FVec Ideal S2048x12288 .f32)
    (BA : FVec Ideal S12288 .f32) (t : Fin 16384) (d : Fin 2048) :
    KX X N (KM C WA BA) (ix2 t d) = XMR X N (ADAR C WA BA) (ix3 ⟨t.val / 4096, by omega⟩ ⟨t.val % 4096, by omega⟩ d) := by
  unfold KX
  rw [NORM_at, XMR_at, KSC_at, KSH_at, gain_at]
  simp only [token_at]
  rw [← KM_at, ← KM_at]

/-! ## The section from column 1024 -/

theorem KW1024_at (W : FVec Ideal S2048x11344 .f32) (k : Fin 2048) (d : Fin 1024) : KW1024 W (ix2 k d) = W (ix2 k ⟨1024 + d.val, by omega⟩) := by
  pointwise [KW1024]

theorem section1024_at (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) (t : Fin 16384) (d : Fin 1024) :
    PROD (KX X N (KM C WA BA)) (KW1024 WI) (ix2 t d)
    = SEC1024 (ZR (XMR X N (ADAR C WA BA)) WI) (ix3 ⟨t.val / 4096, by omega⟩ ⟨t.val % 4096, by omega⟩ d) := by
  rw [PROD_at, SEC1024_at, ZR_at]
  simp only [KX_at, KW1024_at]

theorem result1024 (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) (K : FVec Ideal S128 .f32) :
    HEAD (KX X N (KM C WA BA)) (KW1024 WI) (KG K) = HEADR (SEC1024 (ZR (XMR X N (ADAR C WA BA)) WI)) K := by
  funext y
  obtain ⟨t, d, rfl⟩ : ∃ (t : Fin 16384) (d : Fin 1024), y = (ix2 t d : S16384x1024.Idx) := ⟨y 0, y 1, eq_ix2 (n0 := 16384) (n1 := 1024) y⟩
  rw [HEAD_at]
  refine Eq.trans ?_ (HEADR_at _ _ t d).symm
  simp only [section1024_at, KG_at]

/-! ## The section from column 2048 -/

theorem KW2048_at (W : FVec Ideal S2048x11344 .f32) (k : Fin 2048) (d : Fin 1024) : KW2048 W (ix2 k d) = W (ix2 k ⟨2048 + d.val, by omega⟩) := by
  pointwise [KW2048]

theorem section2048_at (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) (t : Fin 16384) (d : Fin 1024) :
    PROD (KX X N (KM C WA BA)) (KW2048 WI) (ix2 t d)
    = SEC2048 (ZR (XMR X N (ADAR C WA BA)) WI) (ix3 ⟨t.val / 4096, by omega⟩ ⟨t.val % 4096, by omega⟩ d) := by
  rw [PROD_at, SEC2048_at, ZR_at]
  simp only [KX_at, KW2048_at]

theorem result2048 (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) :
    PROD (KX X N (KM C WA BA)) (KW2048 WI) = ROWS1024 (SEC2048 (ZR (XMR X N (ADAR C WA BA)) WI)) := by
  funext y
  obtain ⟨t, d, rfl⟩ : ∃ (t : Fin 16384) (d : Fin 1024), y = (ix2 t d : S16384x1024.Idx) := ⟨y 0, y 1, eq_ix2 (n0 := 16384) (n1 := 1024) y⟩
  exact (section2048_at X C WA BA N WI t d).trans (ROWS1024_at _ t d).symm

/-! ## The section from column 4096 -/

theorem KW4096_at (W : FVec Ideal S2048x11344 .f32) (k : Fin 2048) (d : Fin 1024) : KW4096 W (ix2 k d) = W (ix2 k ⟨4096 + d.val, by omega⟩) := by
  pointwise [KW4096]

theorem section4096_at (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) (t : Fin 16384) (d : Fin 1024) :
    PROD (KX X N (KM C WA BA)) (KW4096 WI) (ix2 t d)
    = SEC4096 (ZR (XMR X N (ADAR C WA BA)) WI) (ix3 ⟨t.val / 4096, by omega⟩ ⟨t.val % 4096, by omega⟩ d) := by
  rw [PROD_at, SEC4096_at, ZR_at]
  simp only [KX_at, KW4096_at]

theorem result4096 (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) (K : FVec Ideal S128 .f32) :
    HEAD (KX X N (KM C WA BA)) (KW4096 WI) (KG K) = HEADR (SEC4096 (ZR (XMR X N (ADAR C WA BA)) WI)) K := by
  funext y
  obtain ⟨t, d, rfl⟩ : ∃ (t : Fin 16384) (d : Fin 1024), y = (ix2 t d : S16384x1024.Idx) := ⟨y 0, y 1, eq_ix2 (n0 := 16384) (n1 := 1024) y⟩
  rw [HEAD_at]
  refine Eq.trans ?_ (HEADR_at _ _ t d).symm
  simp only [section4096_at, KG_at]

/-! ## The section from column 5120 -/

theorem KW5120_at (W : FVec Ideal S2048x11344 .f32) (k : Fin 2048) (d : Fin 1024) : KW5120 W (ix2 k d) = W (ix2 k ⟨5120 + d.val, by omega⟩) := by
  pointwise [KW5120]

theorem section5120_at (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) (t : Fin 16384) (d : Fin 1024) :
    PROD (KX X N (KM C WA BA)) (KW5120 WI) (ix2 t d)
    = SEC5120 (ZR (XMR X N (ADAR C WA BA)) WI) (ix3 ⟨t.val / 4096, by omega⟩ ⟨t.val % 4096, by omega⟩ d) := by
  rw [PROD_at, SEC5120_at, ZR_at]
  simp only [KX_at, KW5120_at]

theorem result5120 (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) :
    PROD (KX X N (KM C WA BA)) (KW5120 WI) = ROWS1024 (SEC5120 (ZR (XMR X N (ADAR C WA BA)) WI)) := by
  funext y
  obtain ⟨t, d, rfl⟩ : ∃ (t : Fin 16384) (d : Fin 1024), y = (ix2 t d : S16384x1024.Idx) := ⟨y 0, y 1, eq_ix2 (n0 := 16384) (n1 := 1024) y⟩
  exact (section5120_at X C WA BA N WI t d).trans (ROWS1024_at _ t d).symm

/-! ## The section from column 7168 -/

theorem KW7168_at (W : FVec Ideal S2048x11344 .f32) (k : Fin 2048) (d : Fin 64) : KW7168 W (ix2 k d) = W (ix2 k ⟨7168 + d.val, by omega⟩) := by
  pointwise [KW7168]

theorem section7168_at (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) (t : Fin 16384) (d : Fin 64) :
    PROD64 (KX X N (KM C WA BA)) (KW7168 WI) (ix2 t d)
    = SEC7168 (ZR (XMR X N (ADAR C WA BA)) WI) (ix3 ⟨t.val / 4096, by omega⟩ ⟨t.val % 4096, by omega⟩ d) := by
  rw [PROD64_at, SEC7168_at, ZR_at]
  simp only [KX_at, KW7168_at]

theorem result7168 (X : FVec Ideal S4x4096x2048 .f32) (C : FVec Ideal S4x2048 .f32) (WA : FVec Ideal S2048x12288 .f32) (BA : FVec Ideal S12288 .f32)
    (N : FVec Ideal S2048 .f32) (WI : FVec Ideal S2048x11344 .f32) :
    PROD64 (KX X N (KM C WA BA)) (KW7168 WI) = ROWS64 (SEC7168 (ZR (XMR X N (ADAR C WA BA)) WI)) := by
  funext y
  obtain ⟨t, d, rfl⟩ : ∃ (t : Fin 16384) (d : Fin 64), y = (ix2 t d : S16384x64.Idx) := ⟨y 0, y 1, eq_ix2 (n0 := 16384) (n1 := 64) y⟩
  exact (section7168_at X C WA BA N WI t d).trans (ROWS64_at _ t d).symm

end Cert.Kernel16Ideal.Value

end
-- ==== Proof.SampleState.Regions.lean ====
module

public import proofs.«01_k».proof.Proof.Gen.Kernel22Ideal.Frame
public import Idealize.ShloMosaic.Lib.Pipeline.ValueKit

@[expose] public section

/-! # The calls of the joined program of the sample that write whole blocks

What each call leaves in its result array, for any contents of the arrays that it reads: the modulation, the normed tokens and the
plain products. -/

set_option maxRecDepth 16384

noncomputable section

open Idealize.ShloMosaic Idealize.ShloMosaic.TcCoe Idealize.SL.Sem

namespace Cert.Kernel22Ideal.Value

open Cert.Kernel22Ideal Cert.Kernel22Ideal.Gen

variable (V : (c : Dev nD) → (b : Ref sig .tc) → Buf (Elt Ideal) ((c : Thread nD τ).loc b))

/-! ## The modulation -/

/-- The gated condition. -/
def gate (v : EReal) : EReal := v * Ideal.div 1 (1 + Ideal.exp (-v))

/-- The modulation of a row at a column. -/
def MODA (C : FVec Ideal S136x2048 .f32) (W : FVec Ideal S2048x12288 .f32) (B : FVec Ideal S1x12288 .f32) : FVec Ideal S136x12288 .f32 :=
  fun i => (∑ k : Fin 2048, gate (C (ix2 (i 0) k : S136x2048.Idx)) * W (ix2 k (i 1) : S2048x12288.Idx)) + B (ix2 0 (i 1) : S1x12288.Idx)

theorem MODA_at (C : FVec Ideal S136x2048 .f32) (W : FVec Ideal S2048x12288 .f32) (B : FVec Ideal S1x12288 .f32) (r : Fin 136) (d : Fin 12288) :
    MODA C W B (ix2 r d) = (∑ k : Fin 2048, gate (C (ix2 r k)) * W (ix2 k d)) + B (ix2 0 d) := rfl

theorem block_mod (a : Vec Ideal S136x2048 .f32) (w : Vec Ideal S2048x512 .f32) (b : Vec Ideal S1x512 .f32) (r : Fin 136) (d : Fin 512) :
    k0_pay1 a w b (ix2 r d) = (∑ k : Fin 2048, gate (a (ix2 r k)) * w (ix2 k d)) + b (ix2 0 d) := by
  pointwise [k0_pay1, gate, Ideal.logistic]

theorem idx0 : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem cond_at (c : Dev nD) (t : Fin cfg0.N) (r : Fin 136) (k : Fin 2048) :
    iblk0 V c 0 t (ix2 r k : S136x2048.Idx) = V c main_v2 (ix2 r k : S136x2048.Idx) := by
  blk_point [iblk0, idx0 t]

theorem final0 (c : Dev nD) : (dat0 V c).arrAt 3 cfg0.N = MODA (V c main_v2) (V c main_arg2) (V c main_v3) := by
  refine (dat0 V c).arrAt_eq_of_covers 3 _ (by decide +kernel) fun t _ y => ?_
  have hN : t.val < 24 := lt_of_lt_of_eq t.isLt N_0
  blk_simp
  rw [after0_3]; frame_out
  obtain ⟨k, d, rfl⟩ : ∃ (k : Fin 136) (d : Fin 512), y = (ix2 k d : S136x512.Idx) := ⟨y 0, y 1, eq_ix2 (n0 := 136) (n1 := 512) y⟩
  have hb : t.val * 512 + d.val < 12288 := by omega
  have he : (win0_3.blk t).view.emb (ix2 k d : S136x512.Idx) = (ix2 k ⟨t.val * 512 + d.val, hb⟩ : S136x12288.Idx) := by
    blk_ext [idx0 t]
  refine Eq.trans ?_ ((MODA_at _ _ _ _ _).symm.trans (congrArg (MODA _ _ _) he.symm))
  refine (block_mod _ _ _ k d).trans ?_
  simp only [cond_at V c t k]
  blk_point [iblk0, idx0 t]

/-! ## The norm before the projections -/

/-- One feature normed by the sum of the squares of its row, scaled and shifted. -/
def normed (h : EReal) (s : EReal) (g sc sh : EReal) : EReal :=
  h * Ideal.rsqrt (Ideal.div s (Ideal.ofBits .f32 0x45000000#32) + Ideal.ofBits .f32 0x358637BD#32) * g * (1 + sc) + sh

/-- The normed, scaled and shifted tokens. -/
def NORM (X : FVec Ideal S128x2048 .f32) (N : FVec Ideal S1x2048 .f32) (SC SH : FVec Ideal S1x128x2048 .f32) : FVec Ideal S128x2048 .bf16 :=
  fun i => normed (X (ix2 (i 0) (i 1) : S128x2048.Idx)) (∑ e : Fin 2048, X (ix2 (i 0) e : S128x2048.Idx) * X (ix2 (i 0) e : S128x2048.Idx)) (N (ix2 0 (i 1) : S1x2048.Idx))
    (SC (ix3 0 (i 0) (i 1) : S1x128x2048.Idx))
    (SH (ix3 0 (i 0) (i 1) : S1x128x2048.Idx))

theorem NORM_at (X : FVec Ideal S128x2048 .f32) (N : FVec Ideal S1x2048 .f32) (SC SH : FVec Ideal S1x128x2048 .f32) (t : Fin 128) (d : Fin 2048) : NORM X N SC SH (ix2 t d)
    = normed (X (ix2 t d)) (∑ e : Fin 2048, X (ix2 t e) * X (ix2 t e)) (N (ix2 0 d)) (SC (ix3 0 t d)) (SH (ix3 0 t d)) := rfl

theorem block_normed (x : Vec Ideal S128x2048 .f32) (n : Vec Ideal S1x2048 .f32) (sc sh : Vec Ideal S1x128x2048 .f32) (k : Fin 128) (d : Fin 2048) :
    k1_pay1 x n sc sh (ix2 k d) = normed (x (ix2 k d)) (∑ e : Fin 2048, x (ix2 k e) * x (ix2 k e)) (n (ix2 0 d))
      (sc (ix3 0 k d)) (sh (ix3 0 k d)) := by
  pointwise [k1_pay1, normed]

theorem idx1 : ∀ t : Fin cfg1.N, win1_0.index t = ![t.val, 0] ∧ win1_1.index t = ![0, 0] ∧ win1_2.index t = ![0, t.val, 0] ∧ win1_3.index t = ![0, t.val, 0] ∧ win1_4.index t = ![t.val, 0] :=
  (by decide +kernel : ∀ t : Fin grid1.N, _)

theorem row_at (c : Dev nD) (t : Fin cfg1.N) (k : Fin 128) (d : Fin 2048) (hk : t.val * 128 + k.val < 128) :
    iblk1 V c 0 t (ix2 k d : S128x2048.Idx) = V c main_v32 (ix2 ⟨t.val * 128 + k.val, hk⟩ d : S128x2048.Idx) := by
  blk_point [iblk1, idx1 t]

theorem final1 (c : Dev nD) : (dat1 V c).arrAt 4 cfg1.N = NORM (V c main_v32) (V c main_v33) (V c main_v8) (V c main_v6) := by
  refine (dat1 V c).arrAt_eq_of_covers 4 _ (by decide +kernel) fun t _ y => ?_
  have hN : t.val < 1 := lt_of_lt_of_eq t.isLt N_1
  blk_simp
  rw [after1_4]; frame_out
  obtain ⟨k, d, rfl⟩ : ∃ (k : Fin 128) (d : Fin 2048), y = (ix2 k d : S128x2048.Idx) := ⟨y 0, y 1, eq_ix2 (n0 := 128) (n1 := 2048) y⟩
  have hb : t.val * 128 + k.val < 128 := by omega
  have he : (win1_4.blk t).view.emb (ix2 k d : S128x2048.Idx) = (ix2 ⟨t.val * 128 + k.val, hb⟩ d : S128x2048.Idx) := by
    blk_ext [idx1 t]
  refine Eq.trans ?_ ((NORM_at _ _ _ _ _ _).symm.trans (congrArg (NORM _ _ _ _) he.symm))
  refine (block_normed _ _ _ _ k d).trans ?_
  simp only [row_at V c t k _ hb]
  congr 1
  · blk_point [iblk1, idx1 t]
  · blk_point [iblk1, idx1 t]
  · blk_point [iblk1, idx1 t]

/-! ## The plain products -/

/-- The product of the tokens and a section of 1024 columns. -/
def PROD (X : FVec Ideal S128x2048 .bf16) (W : FVec Ideal S2048x1024 .bf16) : FVec Ideal S128x1024 .f32 :=
  fun i => ∑ k : Fin 2048, X (ix2 (i 0) k : S128x2048.Idx) * W (ix2 k (i 1) : S2048x1024.Idx)

/-- The product of the tokens and the section of 64 columns. -/
def PROD64 (X : FVec Ideal S128x2048 .bf16) (W : FVec Ideal S2048x64 .bf16) : FVec Ideal S128x64 .f32 :=
  fun i => ∑ k : Fin 2048, X (ix2 (i 0) k : S128x2048.Idx) * W (ix2 k (i 1) : S2048x64.Idx)

theorem PROD_at (X : FVec Ideal S128x2048 .bf16) (W : FVec Ideal S2048x1024 .bf16) (t : Fin 128) (d : Fin 1024) :
    PROD X W (ix2 t d) = ∑ k : Fin 2048, X (ix2 t k) * W (ix2 k d) := rfl

theorem PROD64_at (X : FVec Ideal S128x2048 .bf16) (W : FVec Ideal S2048x64 .bf16) (t : Fin 128) (d : Fin 64) :
    PROD64 X W (ix2 t d) = ∑ k : Fin 2048, X (ix2 t k) * W (ix2 k d) := rfl

theorem block_prod3 (x : Vec Ideal S128x2048 .bf16) (w : Vec Ideal S2048x1024 .bf16) (k : Fin 128) (d : Fin 1024) :
    k3_pay1 x w (ix2 k d) = ∑ j : Fin 2048, x (ix2 k j) * w (ix2 j d) := by
  pointwise [k3_pay1]

theorem idx3 : ∀ t : Fin cfg3.N, win3_0.index t = ![t.val, 0] ∧ win3_1.index t = ![0, 0] ∧ win3_2.index t = ![t.val, 0] :=
  (by decide +kernel : ∀ t : Fin grid3.N, _)

theorem final3 (c : Dev nD) : (dat3 V c).arrAt 2 cfg3.N = PROD (V c main_v34) (V c main_v14) := by
  refine (dat3 V c).arrAt_eq_of_covers 2 _ (by decide +kernel) fun t _ y => ?_
  have hN : t.val < 1 := lt_of_lt_of_eq t.isLt N_3
  blk_simp
  rw [after3_2]; frame_out
  obtain ⟨k, d, rfl⟩ : ∃ (k : Fin 128) (d : Fin 1024), y = (ix2 k d : S128x1024.Idx) := ⟨y 0, y 1, eq_ix2 (n0 := 128) (n1 := 1024) y⟩
  have hb : t.val * 128 + k.val < 128 := by omega
  have he : (win3_2.blk t).view.emb (ix2 k d : S128x1024.Idx) = (ix2 ⟨t.val * 128 + k.val, hb⟩ d : S128x1024.Idx) := by
    blk_ext [idx3 t]
  refine Eq.trans ?_ ((PROD_at _ _ _ _).symm.trans (congrArg (PROD _ _) he.symm))
  refine (block_prod3 _ _ k d).trans ?_
  blk_point [iblk3, idx3 t]

theorem block_prod5 (x : Vec Ideal S128x2048 .bf16) (w : Vec Ideal S2048x1024 .bf16) (k : Fin 128) (d : Fin 1024) :
    k5_pay1 x w (ix2 k d) = ∑ j : Fin 2048, x (ix2 k j) * w (ix2 j d) := by
  pointwise [k5_pay1]

theorem idx5 : ∀ t : Fin cfg5.N, win5_0.index t = ![t.val, 0] ∧ win5_1.index t = ![0, 0] ∧ win5_2.index t = ![t.val, 0] :=
  (by decide +kernel : ∀ t : Fin grid5.N, _)

theorem final5 (c : Dev nD) : (dat5 V c).arrAt 2 cfg5.N = PROD (V c main_v34) (V c main_v20) := by
  refine (dat5 V c).arrAt_eq_of_covers 2 _ (by decide +kernel) fun t _ y => ?_
  have hN : t.val < 1 := lt_of_lt_of_eq t.isLt N_5
  blk_simp
  rw [after5_2]; frame_out
  obtain ⟨k, d, rfl⟩ : ∃ (k : Fin 128) (d : Fin 1024), y = (ix2 k d : S128x1024.Idx) := ⟨y 0, y 1, eq_ix2 (n0 := 128) (n1 := 1024) y⟩
  have hb : t.val * 128 + k.val < 128 := by omega
  have he : (win5_2.blk t).view.emb (ix2 k d : S128x1024.Idx) = (ix2 ⟨t.val * 128 + k.val, hb⟩ d : S128x1024.Idx) := by
    blk_ext [idx5 t]
  refine Eq.trans ?_ ((PROD_at _ _ _ _).symm.trans (congrArg (PROD _ _) he.symm))
  refine (block_prod5 _ _ k d).trans ?_
  blk_point [iblk5, idx5 t]

theorem block_prod6 (x : Vec Ideal S128x2048 .bf16) (w : Vec Ideal S2048x64 .bf16) (k : Fin 128) (d : Fin 64) :
    k6_pay1 x w (ix2 k d) = ∑ j : Fin 2048, x (ix2 k j) * w (ix2 j d) := by
  pointwise [k6_pay1]

theorem idx6 : ∀ t : Fin cfg6.N, win6_0.index t = ![t.val, 0] ∧ win6_1.index t = ![0, 0] ∧ win6_2.index t = ![t.val, 0] :=
  (by decide +kernel : ∀ t : Fin grid6.N, _)

theorem final6 (c : Dev nD) : (dat6 V c).arrAt 2 cfg6.N = PROD64 (V c main_v34) (V c main_v24) := by
  refine (dat6 V c).arrAt_eq_of_covers 2 _ (by decide +kernel) fun t _ y => ?_
  have hN : t.val < 1 := lt_of_lt_of_eq t.isLt N_6
  blk_simp
  rw [after6_2]; frame_out
  obtain ⟨k, d, rfl⟩ : ∃ (k : Fin 128) (d : Fin 64), y = (ix2 k d : S128x64.Idx) := ⟨y 0, y 1, eq_ix2 (n0 := 128) (n1 := 64) y⟩
  have hb : t.val * 128 + k.val < 128 := by omega
  have he : (win6_2.blk t).view.emb (ix2 k d : S128x64.Idx) = (ix2 ⟨t.val * 128 + k.val, hb⟩ d : S128x64.Idx) := by
    blk_ext [idx6 t]
  refine Eq.trans ?_ ((PROD64_at _ _ _ _).symm.trans (congrArg (PROD64 _ _) he.symm))
  refine (block_prod6 _ _ k d).trans ?_
  blk_point [iblk6, idx6 t]

end Cert.Kernel22Ideal.Value

end
-- ==== Proof.SampleState.Heads.lean ====
module

public import proofs.«01_k».proof.Proof.SampleState.Regions
public import Idealize.ShloMosaic.Lib.Pipeline.ValueKit

@[expose] public section

/-! # The calls of the joined program of the sample that norm each head

For all tokens at once the call multiplies by a section of 1024 columns and norms each head of 128 columns. The array it leaves
is the whole normed product, for any contents of the arrays that it reads. -/

set_option maxRecDepth 16384

noncomputable section

open Idealize.ShloMosaic Idealize.ShloMosaic.TcCoe Idealize.SL.Sem

namespace Cert.Kernel22Ideal.Value

open Cert.Kernel22Ideal Cert.Kernel22Ideal.Gen

variable (V : (c : Dev nD) → (b : Ref sig .tc) → Buf (Elt Ideal) ((c : Thread nD τ).loc b))

/-- One column normed by the sum of the squares of its head. -/
def headed (h s g : EReal) : EReal :=
  h * Ideal.rsqrt (Ideal.div s (Ideal.ofBits .f32 0x43000000#32) + Ideal.ofBits .f32 0x358637BD#32) * g

/-- The columns of one row, each normed in its head, at a column. -/
def headAt (z : Fin 1024 → EReal) (g : Fin 128 → EReal) (d : Fin 1024) : EReal :=
  headed (z d) (∑ l : Fin 128, z ⟨d.val / 128 * 128 + l.val, by omega⟩ * z ⟨d.val / 128 * 128 + l.val, by omega⟩) (g ⟨d.val % 128, by omega⟩)

/-- A column of the head that starts at `o`. -/
theorem headAt_of (z : Fin 1024 → EReal) (g : Fin 128 → EReal) (o : ℕ) (ho : o + 128 ≤ 1024) (h8 : o % 128 = 0) (l : Fin 128) :
    headAt z g ⟨o + l.val, by omega⟩ = headed (z ⟨o + l.val, by omega⟩) (∑ j : Fin 128, z ⟨o + j.val, by omega⟩ * z ⟨o + j.val, by omega⟩) (g l) := by
  have e1 : (o + l.val) / 128 * 128 = o := by omega
  have e2 : (o + l.val) % 128 = l.val := by omega
  unfold headAt
  simp only [e1, e2]

/-- The normed product of the tokens and a section. -/
def HEAD (X : FVec Ideal S128x2048 .bf16) (W : FVec Ideal S2048x1024 .bf16) (G : FVec Ideal S1x128 .f32) : FVec Ideal S128x1024 .f32 :=
  fun i => headAt (fun d => PROD X W (ix2 (i 0) d : S128x1024.Idx)) (fun l => G (ix2 0 l : S1x128.Idx)) (i 1)

theorem HEAD_at (X : FVec Ideal S128x2048 .bf16) (W : FVec Ideal S2048x1024 .bf16) (G : FVec Ideal S1x128 .f32) (t : Fin 128) (d : Fin 1024) :
    HEAD X W G (ix2 t d) = headAt (fun d => PROD X W (ix2 t d)) (fun l => G (ix2 0 l)) d := rfl

/-- The normed block, from the block's product and the gain. -/
def HB (Z : FVec Ideal S128x1024 .f32) (g : Vec Ideal S1x128 .f32) : Vec Ideal S128x1024 .f32 :=
  fun y => headAt (fun d => Z (ix2 (y 0) d : S128x1024.Idx)) (fun l => g (ix2 0 l : S1x128.Idx)) (y 1)

theorem HB_at (Z : FVec Ideal S128x1024 .f32) (g : Vec Ideal S1x128 .f32) (k : Fin 128) (d : Fin 1024) :
    HB Z g (ix2 k d) = headAt (fun d => Z (ix2 k d)) (fun l => g (ix2 0 l)) d := rfl

/-- A piece of 128 columns that holds the normed values of its head is the block's at its place. -/
theorem piece_at (Z : FVec Ideal S128x1024 .f32) (g : Vec Ideal S1x128 .f32) (p : FVec Ideal S128x128 .f32) (o : ℕ) (ho : o + 128 ≤ 1024) (h8 : o % 128 = 0)
    (e : S128x128.Idx → S128x1024.Idx) (he : ∀ (k : Fin 128) (l : Fin 128), e (ix2 k l) = (ix2 k ⟨o + l.val, by omega⟩ : S128x1024.Idx))
    (hp : ∀ (k : Fin 128) (l : Fin 128), p (ix2 k l) = headed (Z (ix2 k ⟨o + l.val, by omega⟩))
      (∑ j : Fin 128, Z (ix2 k ⟨o + j.val, by omega⟩) * Z (ix2 k ⟨o + j.val, by omega⟩)) (g (ix2 0 l))) (x : S128x128.Idx) :
    p x = HB Z g (e x) := by
  obtain ⟨k, l, rfl⟩ : ∃ (k : Fin 128) (l : Fin 128), x = (ix2 k l : S128x128.Idx) := ⟨x 0, x 1, eq_ix2 (n0 := 128) (n1 := 128) x⟩
  rw [hp, he, HB_at, headAt_of _ _ o ho h8]

/-! ## Call 2 -/

theorem block_prod2 (x : Vec Ideal S128x2048 .bf16) (w : Vec Ideal S2048x1024 .bf16) (k : Fin 128) (d : Fin 1024) :
    k2_pay2 x w (ix2 k d) = ∑ j : Fin 2048, x (ix2 k j) * w (ix2 j d) := by
  pointwise [k2_pay2]

theorem head2_0 (x : Vec Ideal S128x2048 .bf16) (w : Vec Ideal S2048x1024 .bf16) (g : Vec Ideal S1x128 .f32) (k : Fin 128) (l : Fin 128) :
    (k2_pay3 x w g : FVec Ideal S128x128 .f32) (ix2 k l) = headed (k2_pay2 x w (ix2 k ⟨0 + l.val, by omega⟩))
      (∑ j : Fin 128, k2_pay2 x w (ix2 k ⟨0 + j.val, by omega⟩) * k2_pay2 x w (ix2 k ⟨0 + j.val, by omega⟩)) (g (ix2 0 l)) := by
  pointwise [k2_pay3, headed]

theorem head2_128 (x : Vec Ideal S128x2048 .bf16) (w : Vec Ideal S2048x1024 .bf16) (g : Vec Ideal S1x128 .f32) (k : Fin 128) (l : Fin 128) :
    (k2_pay4 x w g : FVec Ideal S128x128 .f32) (ix2 k l) = headed (k2_pay2 x w (ix2 k ⟨128 + l.val, by omega⟩))
      (∑ j : Fin 128, k2_pay2 x w (ix2 k ⟨128 + j.val, by omega⟩) * k2_pay2 x w (ix2 k ⟨128 + j.val, by omega⟩)) (g (ix2 0 l)) := by
  pointwise [k2_pay4, headed]

theorem head2_256 (x : Vec Ideal S128x2048 .bf16) (w : Vec Ideal S2048x1024 .bf16) (g : Vec Ideal S1x128 .f32) (k : Fin 128) (l : Fin 128) :
    (k2_pay6 (k2_pay5 x w) g : FVec Ideal S128x128 .f32) (ix2 k l) = headed (k2_pay2 x w (ix2 k ⟨256 + l.val, by omega⟩))
      (∑ j : Fin 128, k2_pay2 x w (ix2 k ⟨256 + j.val, by omega⟩) * k2_pay2 x w (ix2 k ⟨256 + j.val, by omega⟩)) (g (ix2 0 l)) := by
  pointwise [k2_pay6, k2_pay5, headed]

theorem head2_384 (x : Vec Ideal S128x2048 .bf16) (w : Vec Ideal S2048x1024 .bf16) (g : Vec Ideal S1x128 .f32) (k : Fin 128) (l : Fin 128) :
    (k2_pay7 (k2_pay2 x w) g : FVec Ideal S128x128 .f32) (ix2 k l) = headed (k2_pay2 x w (ix2 k ⟨384 + l.val, by omega⟩))
      (∑ j : Fin 128, k2_pay2 x w (ix2 k ⟨384 + j.val, by omega⟩) * k2_pay2 x w (ix2 k ⟨384 + j.val, by omega⟩)) (g (ix2 0 l)) := by
  pointwise [k2_pay7, headed]

theorem head2_512 (x : Vec Ideal S128x2048 .bf16) (w : Vec Ideal S2048x1024 .bf16) (g : Vec Ideal S1x128 .f32) (k : Fin 128) (l : Fin 128) :
    (k2_pay10 (k2_pay8 (k2_pay2 x w)) (k2_pay9 (k2_pay2 x w)) g : FVec Ideal S128x128 .f32) (ix2 k l) = headed (k2_pay2 x w (ix2 k ⟨512 + l.val, by omega⟩))
      (∑ j : Fin 128, k2_pay2 x w (ix2 k ⟨512 + j.val, by omega⟩) * k2_pay2 x w (ix2 k ⟨512 + j.val, by omega⟩)) (g (ix2 0 l)) := by
  pointwise [k2_pay10, k2_pay9, k2_pay8, headed]

theorem head2_640 (x : Vec Ideal S128x2048 .bf16) (w : Vec Ideal S2048x1024 .bf16) (g : Vec Ideal S1x128 .f32) (k : Fin 128) (l : Fin 128) :
    (k2_pay11 (k2_pay2 x w) g : FVec Ideal S128x128 .f32) (ix2 k l) = headed (k2_pay2 x w (ix2 k ⟨640 + l.val, by omega⟩))
      (∑ j : Fin 128, k2_pay2 x w (ix2 k ⟨640 + j.val, by omega⟩) * k2_pay2 x w (ix2 k ⟨640 + j.val, by omega⟩)) (g (ix2 0 l)) := by
  pointwise [k2_pay11, headed]

theorem head2_768 (x : Vec Ideal S128x2048 .bf16) (w : Vec Ideal S2048x1024 .bf16) (g : Vec Ideal S1x128 .f32) (k : Fin 128) (l : Fin 128) :
    (k2_pay12 (k2_pay2 x w) g : FVec Ideal S128x128 .f32) (ix2 k l) = headed (k2_pay2 x w (ix2 k ⟨768 + l.val, by omega⟩))
      (∑ j : Fin 128, k2_pay2 x w (ix2 k ⟨768 + j.val, by omega⟩) * k2_pay2 x w (ix2 k ⟨768 + j.val, by omega⟩)) (g (ix2 0 l)) := by
  pointwise [k2_pay12, headed]

theorem head2_896 (x : Vec Ideal S128x2048 .bf16) (w : Vec Ideal S2048x1024 .bf16) (g : Vec Ideal S1x128 .f32) (k : Fin 128) (l : Fin 128) :
    (k2_pay1 (k2_pay13 (k2_pay2 x w)) g : FVec Ideal S128x128 .f32) (ix2 k l) = headed (k2_pay2 x w (ix2 k ⟨896 + l.val, by omega⟩))
      (∑ j : Fin 128, k2_pay2 x w (ix2 k ⟨896 + j.val, by omega⟩) * k2_pay2 x w (ix2 k ⟨896 + j.val, by omega⟩)) (g (ix2 0 l)) := by
  pointwise [k2_pay1, k2_pay13, headed]

/-- The block that the body leaves. -/
theorem out_at2 (x : Vec Ideal S128x2048 .bf16) (w : Vec Ideal S2048x1024 .bf16) (g : Vec Ideal S1x128 .f32) (y : S128x1024.Idx) :
    out2_3 x w g y = HB (k2_pay2 x w) g y := by
  unfold_out out2_3
  rw [View.ld_unit_lit (S := S128x2048) _ x (by decide), View.ld_unit_lit (S := S2048x1024) _ w (by decide),
    View.ld_unit_lit (S := S1x128) _ g (by decide)]
  refine View.canon_apply_of_pieces (HB (k2_pay2 x w) g) _ ?_ y (cover2_3 _ _ _ _ _ _ _ _ y)
  intro pc hpc
  rcases List.mem_cons.mp hpc with rfl | hpc
  · exact piece_at _ _ _ 896 (by omega) (by omega) _ (fun k l => by
      funext a; apply Fin.ext; fin_cases a
      · show 0 + 1 * k.val = k.val; omega
      · show 896 + 1 * l.val = 896 + l.val; omega) (head2_896 x w g)
  rcases List.mem_cons.mp hpc with rfl | hpc
  · exact piece_at _ _ _ 768 (by omega) (by omega) _ (fun k l => by
      funext a; apply Fin.ext; fin_cases a
      · show 0 + 1 * k.val = k.val; omega
      · show 768 + 1 * l.val = 768 + l.val; omega) (head2_768 x w g)
  rcases List.mem_cons.mp hpc with rfl | hpc
  · exact piece_at _ _ _ 640 (by omega) (by omega) _ (fun k l => by
      funext a; apply Fin.ext; fin_cases a
      · show 0 + 1 * k.val = k.val; omega
      · show 640 + 1 * l.val = 640 + l.val; omega) (head2_640 x w g)
  rcases List.mem_cons.mp hpc with rfl | hpc
  · exact piece_at _ _ _ 512 (by omega) (by omega) _ (fun k l => by
      funext a; apply Fin.ext; fin_cases a
      · show 0 + 1 * k.val = k.val; omega
      · show 512 + 1 * l.val = 512 + l.val; omega) (head2_512 x w g)
  rcases List.mem_cons.mp hpc with rfl | hpc
  · exact piece_at _ _ _ 384 (by omega) (by omega) _ (fun k l => by
      funext a; apply Fin.ext; fin_cases a
      · show 0 + 1 * k.val = k.val; omega
      · show 384 + 1 * l.val = 384 + l.val; omega) (head2_384 x w g)
  rcases List.mem_cons.mp hpc with rfl | hpc
  · exact piece_at _ _ _ 256 (by omega) (by omega) _ (fun k l => by
      funext a; apply Fin.ext; fin_cases a
      · show 0 + 1 * k.val = k.val; omega
      · show 256 + 1 * l.val = 256 + l.val; omega) (head2_256 x w g)
  rcases List.mem_cons.mp hpc with rfl | hpc
  · exact piece_at _ _ _ 128 (by omega) (by omega) _ (fun k l => by
      funext a; apply Fin.ext; fin_cases a
      · show 0 + 1 * k.val = k.val; omega
      · show 128 + 1 * l.val = 128 + l.val; omega) (head2_128 x w g)
  rcases List.mem_cons.mp hpc with rfl | hpc
  · exact piece_at _ _ _ 0 (by omega) (by omega) _ (fun k l => by
      funext a; apply Fin.ext; fin_cases a
      · show 0 + 1 * k.val = k.val; omega
      · show 0 + 1 * l.val = 0 + l.val; omega) (head2_0 x w g)
  nomatch hpc

theorem idx2 : ∀ t : Fin cfg2.N, win2_0.index t = ![t.val, 0] ∧ win2_1.index t = ![0, 0] ∧ win2_2.index t = ![0, 0] ∧ win2_3.index t = ![t.val, 0] :=
  (by decide +kernel : ∀ t : Fin grid2.N, _)

theorem prod_at2 (c : Dev nD) (t : Fin cfg2.N) (k : Fin 128) (d : Fin 1024) (hk : t.val * 128 + k.val < 128) :
    k2_pay2 (iblk2 V c 0 t) (iblk2 V c 1 t) (ix2 k d) = PROD (V c main_v34) (V c main_v12) (ix2 ⟨t.val * 128 + k.val, hk⟩ d) := by
  rw [block_prod2, PROD_at]
  blk_point [iblk2, idx2 t]

theorem gain_at2 (c : Dev nD) (t : Fin cfg2.N) (l : Fin 128) :
    iblk2 V c 2 t (ix2 0 l : S1x128.Idx) = V c main_v35 (ix2 0 l : S1x128.Idx) := by
  blk_point [iblk2, idx2 t]

theorem final2 (c : Dev nD) : (dat2 V c).arrAt 3 cfg2.N = HEAD (V c main_v34) (V c main_v12) (V c main_v35) := by
  refine (dat2 V c).arrAt_eq_of_covers 3 _ (by decide +kernel) fun t _ y => ?_
  have hN : t.val < 1 := lt_of_lt_of_eq t.isLt N_2
  blk_simp
  rw [after2_3]
  obtain ⟨k, d, rfl⟩ : ∃ (k : Fin 128) (d : Fin 1024), y = (ix2 k d : S128x1024.Idx) := ⟨y 0, y 1, eq_ix2 (n0 := 128) (n1 := 1024) y⟩
  have hb : t.val * 128 + k.val < 128 := by omega
  have he : (win2_3.blk t).view.emb (ix2 k d : S128x1024.Idx) = (ix2 ⟨t.val * 128 + k.val, hb⟩ d : S128x1024.Idx) := by
    blk_ext [idx2 t]
  refine Eq.trans ?_ ((HEAD_at _ _ _ _ _).symm.trans (congrArg (HEAD _ _ _) he.symm))
  refine (out_at2 _ _ _ _).trans ((HB_at _ _ _ _).trans ?_)
  simp only [prod_at2 V c t k _ hb, gain_at2 V c t]

/-! ## Call 4 -/

theorem block_prod4 (x : Vec Ideal S128x2048 .bf16) (w : Vec Ideal S2048x1024 .bf16) (k : Fin 128) (d : Fin 1024) :
    k4_pay2 x w (ix2 k d) = ∑ j : Fin 2048, x (ix2 k j) * w (ix2 j d) := by
  pointwise [k4_pay2]

theorem head4_0 (x : Vec Ideal S128x2048 .bf16) (w : Vec Ideal S2048x1024 .bf16) (g : Vec Ideal S1x128 .f32) (k : Fin 128) (l : Fin 128) :
    (k4_pay3 x w g : FVec Ideal S128x128 .f32) (ix2 k l) = headed (k4_pay2 x w (ix2 k ⟨0 + l.val, by omega⟩))
      (∑ j : Fin 128, k4_pay2 x w (ix2 k ⟨0 + j.val, by omega⟩) * k4_pay2 x w (ix2 k ⟨0 + j.val, by omega⟩)) (g (ix2 0 l)) := by
  pointwise [k4_pay3, headed]

theorem head4_128 (x : Vec Ideal S128x2048 .bf16) (w : Vec Ideal S2048x1024 .bf16) (g : Vec Ideal S1x128 .f32) (k : Fin 128) (l : Fin 128) :
    (k4_pay4 x w g : FVec Ideal S128x128 .f32) (ix2 k l) = headed (k4_pay2 x w (ix2 k ⟨128 + l.val, by omega⟩))
      (∑ j : Fin 128, k4_pay2 x w (ix2 k ⟨128 + j.val, by omega⟩) * k4_pay2 x w (ix2 k ⟨128 + j.val, by omega⟩)) (g (ix2 0 l)) := by
  pointwise [k4_pay4, headed]

theorem head4_256 (x : Vec Ideal S128x2048 .bf16) (w : Vec Ideal S2048x1024 .bf16) (g : Vec Ideal S1x128 .f32) (k : Fin 128) (l : Fin 128) :
    (k4_pay6 (k4_pay5 x w) g : FVec Ideal S128x128 .f32) (ix2 k l) = headed (k4_pay2 x w (ix2 k ⟨256 + l.val, by omega⟩))
      (∑ j : Fin 128, k4_pay2 x w (ix2 k ⟨256 + j.val, by omega⟩) * k4_pay2 x w (ix2 k ⟨256 + j.val, by omega⟩)) (g (ix2 0 l)) := by
  pointwise [k4_pay6, k4_pay5, headed]

theorem head4_384 (x : Vec Ideal S128x2048 .bf16) (w : Vec Ideal S2048x1024 .bf16) (g : Vec Ideal S1x128 .f32) (k : Fin 128) (l : Fin 128) :
    (k4_pay7 (k4_pay2 x w) g : FVec Ideal S128x128 .f32) (ix2 k l) = headed (k4_pay2 x w (ix2 k ⟨384 + l.val, by omega⟩))
      (∑ j : Fin 128, k4_pay2 x w (ix2 k ⟨384 + j.val, by omega⟩) * k4_pay2 x w (ix2 k ⟨384 + j.val, by omega⟩)) (g (ix2 0 l)) := by
  pointwise [k4_pay7, headed]

theorem head4_512 (x : Vec Ideal S128x2048 .bf16) (w : Vec Ideal S2048x1024 .bf16) (g : Vec Ideal S1x128 .f32) (k : Fin 128) (l : Fin 128) :
    (k4_pay10 (k4_pay8 (k4_pay2 x w)) (k4_pay9 (k4_pay2 x w)) g : FVec Ideal S128x128 .f32) (ix2 k l) = headed (k4_pay2 x w (ix2 k ⟨512 + l.val, by omega⟩))
      (∑ j : Fin 128, k4_pay2 x w (ix2 k ⟨512 + j.val, by omega⟩) * k4_pay2 x w (ix2 k ⟨512 + j.val, by omega⟩)) (g (ix2 0 l)) := by
  pointwise [k4_pay10, k4_pay9, k4_pay8, headed]

theorem head4_640 (x : Vec Ideal S128x2048 .bf16) (w : Vec Ideal S2048x1024 .bf16) (g : Vec Ideal S1x128 .f32) (k : Fin 128) (l : Fin 128) :
    (k4_pay11 (k4_pay2 x w) g : FVec Ideal S128x128 .f32) (ix2 k l) = headed (k4_pay2 x w (ix2 k ⟨640 + l.val, by omega⟩))
      (∑ j : Fin 128, k4_pay2 x w (ix2 k ⟨640 + j.val, by omega⟩) * k4_pay2 x w (ix2 k ⟨640 + j.val, by omega⟩)) (g (ix2 0 l)) := by
  pointwise [k4_pay11, headed]

theorem head4_768 (x : Vec Ideal S128x2048 .bf16) (w : Vec Ideal S2048x1024 .bf16) (g : Vec Ideal S1x128 .f32) (k : Fin 128) (l : Fin 128) :
    (k4_pay12 (k4_pay2 x w) g : FVec Ideal S128x128 .f32) (ix2 k l) = headed (k4_pay2 x w (ix2 k ⟨768 + l.val, by omega⟩))
      (∑ j : Fin 128, k4_pay2 x w (ix2 k ⟨768 + j.val, by omega⟩) * k4_pay2 x w (ix2 k ⟨768 + j.val, by omega⟩)) (g (ix2 0 l)) := by
  pointwise [k4_pay12, headed]

theorem head4_896 (x : Vec Ideal S128x2048 .bf16) (w : Vec Ideal S2048x1024 .bf16) (g : Vec Ideal S1x128 .f32) (k : Fin 128) (l : Fin 128) :
    (k4_pay1 (k4_pay13 (k4_pay2 x w)) g : FVec Ideal S128x128 .f32) (ix2 k l) = headed (k4_pay2 x w (ix2 k ⟨896 + l.val, by omega⟩))
      (∑ j : Fin 128, k4_pay2 x w (ix2 k ⟨896 + j.val, by omega⟩) * k4_pay2 x w (ix2 k ⟨896 + j.val, by omega⟩)) (g (ix2 0 l)) := by
  pointwise [k4_pay1, k4_pay13, headed]

/-- The block that the body leaves. -/
theorem out_at4 (x : Vec Ideal S128x2048 .bf16) (w : Vec Ideal S2048x1024 .bf16) (g : Vec Ideal S1x128 .f32) (y : S128x1024.Idx) :
    out4_3 x w g y = HB (k4_pay2 x w) g y := by
  unfold_out out4_3
  rw [View.ld_unit_lit (S := S128x2048) _ x (by decide), View.ld_unit_lit (S := S2048x1024) _ w (by decide),
    View.ld_unit_lit (S := S1x128) _ g (by decide)]
  refine View.canon_apply_of_pieces (HB (k4_pay2 x w) g) _ ?_ y (cover4_3 _ _ _ _ _ _ _ _ y)
  intro pc hpc
  rcases List.mem_cons.mp hpc with rfl | hpc
  · exact piece_at _ _ _ 896 (by omega) (by omega) _ (fun k l => by
      funext a; apply Fin.ext; fin_cases a
      · show 0 + 1 * k.val = k.val; omega
      · show 896 + 1 * l.val = 896 + l.val; omega) (head4_896 x w g)
  rcases List.mem_cons.mp hpc with rfl | hpc
  · exact piece_at _ _ _ 768 (by omega) (by omega) _ (fun k l => by
      funext a; apply Fin.ext; fin_cases a
      · show 0 + 1 * k.val = k.val; omega
      · show 768 + 1 * l.val = 768 + l.val; omega) (head4_768 x w g)
  rcases List.mem_cons.mp hpc with rfl | hpc
  · exact piece_at _ _ _ 640 (by omega) (by omega) _ (fun k l => by
      funext a; apply Fin.ext; fin_cases a
      · show 0 + 1 * k.val = k.val; omega
      · show 640 + 1 * l.val = 640 + l.val; omega) (head4_640 x w g)
  rcases List.mem_cons.mp hpc with rfl | hpc
  · exact piece_at _ _ _ 512 (by omega) (by omega) _ (fun k l => by
      funext a; apply Fin.ext; fin_cases a
      · show 0 + 1 * k.val = k.val; omega
      · show 512 + 1 * l.val = 512 + l.val; omega) (head4_512 x w g)
  rcases List.mem_cons.mp hpc with rfl | hpc
  · exact piece_at _ _ _ 384 (by omega) (by omega) _ (fun k l => by
      funext a; apply Fin.ext; fin_cases a
      · show 0 + 1 * k.val = k.val; omega
      · show 384 + 1 * l.val = 384 + l.val; omega) (head4_384 x w g)
  rcases List.mem_cons.mp hpc with rfl | hpc
  · exact piece_at _ _ _ 256 (by omega) (by omega) _ (fun k l => by
      funext a; apply Fin.ext; fin_cases a
      · show 0 + 1 * k.val = k.val; omega
      · show 256 + 1 * l.val = 256 + l.val; omega) (head4_256 x w g)
  rcases List.mem_cons.mp hpc with rfl | hpc
  · exact piece_at _ _ _ 128 (by omega) (by omega) _ (fun k l => by
      funext a; apply Fin.ext; fin_cases a
      · show 0 + 1 * k.val = k.val; omega
      · show 128 + 1 * l.val = 128 + l.val; omega) (head4_128 x w g)
  rcases List.mem_cons.mp hpc with rfl | hpc
  · exact piece_at _ _ _ 0 (by omega) (by omega) _ (fun k l => by
      funext a; apply Fin.ext; fin_cases a
      · show 0 + 1 * k.val = k.val; omega
      · show 0 + 1 * l.val = 0 + l.val; omega) (head4_0 x w g)
  nomatch hpc

theorem idx4 : ∀ t : Fin cfg4.N, win4_0.index t = ![t.val, 0] ∧ win4_1.index t = ![0, 0] ∧ win4_2.index t = ![0, 0] ∧ win4_3.index t = ![t.val, 0] :=
  (by decide +kernel : ∀ t : Fin grid4.N, _)

theorem prod_at4 (c : Dev nD) (t : Fin cfg4.N) (k : Fin 128) (d : Fin 1024) (hk : t.val * 128 + k.val < 128) :
    k4_pay2 (iblk4 V c 0 t) (iblk4 V c 1 t) (ix2 k d) = PROD (V c main_v34) (V c main_v18) (ix2 ⟨t.val * 128 + k.val, hk⟩ d) := by
  rw [block_prod4, PROD_at]
  blk_point [iblk4, idx4 t]

theorem gain_at4 (c : Dev nD) (t : Fin cfg4.N) (l : Fin 128) :
    iblk4 V c 2 t (ix2 0 l : S1x128.Idx) = V c main_v38 (ix2 0 l : S1x128.Idx) := by
  blk_point [iblk4, idx4 t]

theorem final4 (c : Dev nD) : (dat4 V c).arrAt 3 cfg4.N = HEAD (V c main_v34) (V c main_v18) (V c main_v38) := by
  refine (dat4 V c).arrAt_eq_of_covers 3 _ (by decide +kernel) fun t _ y => ?_
  have hN : t.val < 1 := lt_of_lt_of_eq t.isLt N_4
  blk_simp
  rw [after4_3]
  obtain ⟨k, d, rfl⟩ : ∃ (k : Fin 128) (d : Fin 1024), y = (ix2 k d : S128x1024.Idx) := ⟨y 0, y 1, eq_ix2 (n0 := 128) (n1 := 1024) y⟩
  have hb : t.val * 128 + k.val < 128 := by omega
  have he : (win4_3.blk t).view.emb (ix2 k d : S128x1024.Idx) = (ix2 ⟨t.val * 128 + k.val, hb⟩ d : S128x1024.Idx) := by
    blk_ext [idx4 t]
  refine Eq.trans ?_ ((HEAD_at _ _ _ _ _).symm.trans (congrArg (HEAD _ _ _) he.symm))
  refine (out_at4 _ _ _ _).trans ((HB_at _ _ _ _).trans ?_)
  simp only [prod_at4 V c t k _ hb, gain_at4 V c t]

end Cert.Kernel22Ideal.Value

end
-- ==== Proof.SampleState.Chain.lean ====
module

public import proofs.«01_k».proof.Proof.SampleState.Heads
public import Idealize.ShloMosaic.Lib.Pipeline.ValueKit

@[expose] public section

/-! # The arrays between the calls of the joined program of the sample

Each array that a call reads or leaves, as a function of the arguments. -/

set_option maxRecDepth 16384

noncomputable section

open Idealize.ShloMosaic Idealize.ShloMosaic.TcCoe Idealize.SL.Sem

namespace Cert.Kernel22Ideal.Value

open Cert.Kernel22Ideal Cert.Kernel22Ideal.Gen

/-- The conditions with rows of zeros before and behind them. -/
def CALL (C : FVec Ideal S32x2048 .f32) : FVec Ideal S136x2048 .f32 :=
  concatenate S136x2048 0 [⟨S4x2048, broadcastInDim S4x2048 ![] bcast_S_S4x2048 (constant S_ .f32 0x00000000#32)⟩, ⟨S32x2048, C⟩, ⟨S100x2048, broadcastInDim S100x2048 ![] bcast_S_S100x2048 (constant S_ .f32 0x00000000#32)⟩] concatenates_S4x2048_S32x2048_S100x2048_S136x2048_d0

/-- The tokens with rows of zeros behind them. -/
def XPAD (X : FVec Ideal S32x2048 .f32) : FVec Ideal S128x2048 .f32 :=
  concatenate S128x2048 0 [⟨S32x2048, X⟩, ⟨S96x2048, broadcastInDim S96x2048 ![] bcast_S_S96x2048 (constant S_ .f32 0x00000000#32)⟩] concatenates_S32x2048_S96x2048_S128x2048_d0

/-- The first rows of 1024 columns. -/
def TOP (A : FVec Ideal S128x1024 .f32) : FVec Ideal S32x1024 .f32 :=
  extractStridedSlice S32x1024 ![0, 0] A slices_S128x1024_S32x1024_0_0

/-- The first rows of 64 columns. -/
def TOP64 (A : FVec Ideal S128x64 .f32) : FVec Ideal S32x64 .f32 :=
  extractStridedSlice S32x64 ![0, 0] A slices_S128x64_S32x64_0_0

/-- The modulation. -/
def KM (C : FVec Ideal S32x2048 .f32) (WA : FVec Ideal S2048x12288 .f32) (BA : FVec Ideal S12288 .f32) : FVec Ideal S136x12288 .f32 :=
  MODA (CALL C) WA (shapeCast S1x12288 BA shapeCasts_S12288_S1x12288)

/-- The shift of each token. -/
def KSH (M : FVec Ideal S136x12288 .f32) : FVec Ideal S1x128x2048 .f32 :=
  shapeCast S1x128x2048 (extractStridedSlice S128x2048 ![4, 0] M slices_S136x12288_S128x2048_4_0) shapeCasts_S128x2048_S1x128x2048

/-- The scale of each token. -/
def KSC (M : FVec Ideal S136x12288 .f32) : FVec Ideal S1x128x2048 .f32 :=
  shapeCast S1x128x2048 (extractStridedSlice S128x2048 ![4, 2048] M slices_S136x12288_S128x2048_4_2048) shapeCasts_S128x2048_S1x128x2048

/-- The normed, scaled and shifted tokens. -/
def KX (X : FVec Ideal S32x2048 .f32) (N : FVec Ideal S2048 .f32) (M : FVec Ideal S136x12288 .f32) : FVec Ideal S128x2048 .bf16 :=
  NORM (XPAD X) (shapeCast S1x2048 N shapeCasts_S2048_S1x2048) (KSC M) (KSH M)

/-- The section of 1024 columns of the weights from column 1024. -/
def KW1024 (W : FVec Ideal S2048x11344 .f32) : FVec Ideal S2048x1024 .bf16 :=
  truncf .bf16 (extractStridedSlice S2048x1024 ![0, 1024] W slices_S2048x11344_S2048x1024_0_1024) bitsLt_bf16_f32

/-- The section of 1024 columns of the weights from column 2048. -/
def KW2048 (W : FVec Ideal S2048x11344 .f32) : FVec Ideal S2048x1024 .bf16 :=
  truncf .bf16 (extractStridedSlice S2048x1024 ![0, 2048] W slices_S2048x11344_S2048x1024_0_2048) bitsLt_bf16_f32

/-- The section of 1024 columns of the weights from column 4096. -/
def KW4096 (W : FVec Ideal S2048x11344 .f32) : FVec Ideal S2048x1024 .bf16 :=
  truncf .bf16 (extractStridedSlice S2048x1024 ![0, 4096] W slices_S2048x11344_S2048x1024_0_4096) bitsLt_bf16_f32

/-- The section of 1024 columns of the weights from column 5120. -/
def KW5120 (W : FVec Ideal S2048x11344 .f32) : FVec Ideal S2048x1024 .bf16 :=
  truncf .bf16 (extractStridedSlice S2048x1024 ![0, 5120] W slices_S2048x11344_S2048x1024_0_5120) bitsLt_bf16_f32

/-- The section of 64 columns of the weights from column 7168. -/
def KW7168 (W : FVec Ideal S2048x11344 .f32) : FVec Ideal S2048x64 .bf16 :=
  truncf .bf16 (extractStridedSlice S2048x64 ![0, 7168] W slices_S2048x11344_S2048x64_0_7168) bitsLt_bf16_f32

/-- A gain as one row. -/
def KG (G : FVec Ideal S128 .f32) : FVec Ideal S1x128 .f32 := shapeCast S1x128 G shapeCasts_S128_S1x128

variable (m : (ℓ : Loc nD τ sig) → Buf (Elt Ideal) ℓ) (ρ : Dev nD → PrngReg)

/-- The modulation from the arguments. -/
def MV (c : Dev nD) : FVec Ideal S136x12288 .f32 := KM (m ((c : Thread nD τ).loc main_arg1)) (m ((c : Thread nD τ).loc main_arg2)) (m ((c : Thread nD τ).loc main_arg3))

/-- The tokens that the projections read, from the arguments. -/
def XV (c : Dev nD) : FVec Ideal S128x2048 .bf16 := KX (m ((c : Thread nD τ).loc main_arg0)) (m ((c : Thread nD τ).loc main_arg4)) (MV m c)

/-! ## Before the first call -/

theorem W1_v2 (c : Dev nD) : W1 m ρ c (Proc.devRef .tc main_v2) = CALL (m ((c : Thread nD τ).loc main_arg1)) := by
  unfold_abbrev_sides
  after_results
  rfl

theorem W1_v3 (c : Dev nD) : W1 m ρ c (Proc.devRef .tc main_v3) = shapeCast S1x12288 (m ((c : Thread nD τ).loc main_arg3)) shapeCasts_S12288_S1x12288 := by
  unfold_abbrev_sides
  after_results
  rfl

theorem W2_v4 (c : Dev nD) : W2 m ρ c (Proc.devRef .tc main_v4) = MV m c := by
  refine (W2_arr m ρ c 3).trans ((final0 (V1 m ρ) c).trans ?_)
  show MODA (W1 m ρ c (Proc.devRef .tc main_v2)) (W1 m ρ c (Proc.devRef .tc main_arg2)) (W1 m ρ c (Proc.devRef .tc main_v3)) = _
  rw [W1_v2, W1_v3, W1_args m ρ c main_arg2 (by decide)]
  rfl

/-! ## Between the first two calls -/

theorem W3_v6 (c : Dev nD) : W3 m ρ c (Proc.devRef .tc main_v6) = KSH (MV m c) := by
  unfold_abbrev_sides
  after_results
  rw [W2_v4]
  rfl

theorem W3_v8 (c : Dev nD) : W3 m ρ c (Proc.devRef .tc main_v8) = KSC (MV m c) := by
  unfold_abbrev_sides
  after_results
  rw [W2_v4]
  rfl

theorem W3_v12 (c : Dev nD) : W3 m ρ c (Proc.devRef .tc main_v12) = KW1024 (m ((c : Thread nD τ).loc main_arg5)) := by
  unfold_abbrev_sides
  after_results
  rw [W2_args m ρ c main_arg5 (by decide)]
  rfl

theorem W3_v14 (c : Dev nD) : W3 m ρ c (Proc.devRef .tc main_v14) = KW2048 (m ((c : Thread nD τ).loc main_arg5)) := by
  unfold_abbrev_sides
  after_results
  rw [W2_args m ρ c main_arg5 (by decide)]
  rfl

theorem W3_v18 (c : Dev nD) : W3 m ρ c (Proc.devRef .tc main_v18) = KW4096 (m ((c : Thread nD τ).loc main_arg5)) := by
  unfold_abbrev_sides
  after_results
  rw [W2_args m ρ c main_arg5 (by decide)]
  rfl

theorem W3_v20 (c : Dev nD) : W3 m ρ c (Proc.devRef .tc main_v20) = KW5120 (m ((c : Thread nD τ).loc main_arg5)) := by
  unfold_abbrev_sides
  after_results
  rw [W2_args m ρ c main_arg5 (by decide)]
  rfl

theorem W3_v24 (c : Dev nD) : W3 m ρ c (Proc.devRef .tc main_v24) = KW7168 (m ((c : Thread nD τ).loc main_arg5)) := by
  unfold_abbrev_sides
  after_results
  rw [W2_args m ρ c main_arg5 (by decide)]
  rfl

theorem W3_v32 (c : Dev nD) : W3 m ρ c (Proc.devRef .tc main_v32) = XPAD (m ((c : Thread nD τ).loc main_arg0)) := by
  unfold_abbrev_sides
  after_results
  rw [W2_args m ρ c main_arg0 (by decide)]
  rfl

theorem W3_v33 (c : Dev nD) : W3 m ρ c (Proc.devRef .tc main_v33) = shapeCast S1x2048 (m ((c : Thread nD τ).loc main_arg4)) shapeCasts_S2048_S1x2048 := by
  unfold_abbrev_sides
  after_results
  rw [W2_args m ρ c main_arg4 (by decide)]
  rfl

theorem W4_v34 (c : Dev nD) : W4 m ρ c (Proc.devRef .tc main_v34) = XV m c := by
  refine (W4_arr m ρ c 4).trans ((final1 (V3 m ρ) c).trans ?_)
  show NORM (W3 m ρ c (Proc.devRef .tc main_v32)) (W3 m ρ c (Proc.devRef .tc main_v33)) (W3 m ρ c (Proc.devRef .tc main_v8)) (W3 m ρ c (Proc.devRef .tc main_v6)) = _
  rw [W3_v32, W3_v33, W3_v8, W3_v6]
  rfl

/-! ## The projections -/

theorem W4_v12 (c : Dev nD) : W4 m ρ c (Proc.devRef .tc main_v12) = KW1024 (m ((c : Thread nD τ).loc main_arg5)) :=
  (W4_of m ρ c main_v12 (by decide +kernel)).trans (W3_v12 m ρ c)

theorem W4_v14 (c : Dev nD) : W4 m ρ c (Proc.devRef .tc main_v14) = KW2048 (m ((c : Thread nD τ).loc main_arg5)) :=
  (W4_of m ρ c main_v14 (by decide +kernel)).trans (W3_v14 m ρ c)

theorem W4_v18 (c : Dev nD) : W4 m ρ c (Proc.devRef .tc main_v18) = KW4096 (m ((c : Thread nD τ).loc main_arg5)) :=
  (W4_of m ρ c main_v18 (by decide +kernel)).trans (W3_v18 m ρ c)

theorem W4_v20 (c : Dev nD) : W4 m ρ c (Proc.devRef .tc main_v20) = KW5120 (m ((c : Thread nD τ).loc main_arg5)) :=
  (W4_of m ρ c main_v20 (by decide +kernel)).trans (W3_v20 m ρ c)

theorem W4_v24 (c : Dev nD) : W4 m ρ c (Proc.devRef .tc main_v24) = KW7168 (m ((c : Thread nD τ).loc main_arg5)) :=
  (W4_of m ρ c main_v24 (by decide +kernel)).trans (W3_v24 m ρ c)

theorem W5_v35 (c : Dev nD) : W5 m ρ c (Proc.devRef .tc main_v35) = KG (m ((c : Thread nD τ).loc main_arg6)) := by
  unfold_abbrev_sides
  after_results
  rw [W4_args m ρ c main_arg6 (by decide)]
  rfl

theorem W5_v34 (c : Dev nD) : W5 m ρ c (Proc.devRef .tc main_v34) = XV m c :=
  (W5_of m ρ c main_v34 (by decide +kernel)).trans (W4_v34 m ρ c)

theorem W5_v12 (c : Dev nD) : W5 m ρ c (Proc.devRef .tc main_v12) = KW1024 (m ((c : Thread nD τ).loc main_arg5)) :=
  (W5_of m ρ c main_v12 (by decide +kernel)).trans (W4_v12 m ρ c)

theorem W5_v14 (c : Dev nD) : W5 m ρ c (Proc.devRef .tc main_v14) = KW2048 (m ((c : Thread nD τ).loc main_arg5)) :=
  (W5_of m ρ c main_v14 (by decide +kernel)).trans (W4_v14 m ρ c)

theorem W5_v18 (c : Dev nD) : W5 m ρ c (Proc.devRef .tc main_v18) = KW4096 (m ((c : Thread nD τ).loc main_arg5)) :=
  (W5_of m ρ c main_v18 (by decide +kernel)).trans (W4_v18 m ρ c)

theorem W5_v20 (c : Dev nD) : W5 m ρ c (Proc.devRef .tc main_v20) = KW5120 (m ((c : Thread nD τ).loc main_arg5)) :=
  (W5_of m ρ c main_v20 (by decide +kernel)).trans (W4_v20 m ρ c)

theorem W5_v24 (c : Dev nD) : W5 m ρ c (Proc.devRef .tc main_v24) = KW7168 (m ((c : Thread nD τ).loc main_arg5)) :=
  (W5_of m ρ c main_v24 (by decide +kernel)).trans (W4_v24 m ρ c)

theorem W6_v36 (c : Dev nD) : W6 m ρ c (Proc.devRef .tc main_v36) = HEAD (XV m c) (KW1024 (m ((c : Thread nD τ).loc main_arg5))) (KG (m ((c : Thread nD τ).loc main_arg6))) := by
  refine (W6_arr m ρ c 3).trans ((final2 (V5 m ρ) c).trans ?_)
  show HEAD (W5 m ρ c (Proc.devRef .tc main_v34)) (W5 m ρ c (Proc.devRef .tc main_v12)) (W5 m ρ c (Proc.devRef .tc main_v35)) = _
  rw [W5_v34, W5_v12, W5_v35]

theorem W6_v34 (c : Dev nD) : W6 m ρ c (Proc.devRef .tc main_v34) = XV m c :=
  (W6_of m ρ c main_v34 (by decide +kernel)).trans (W5_v34 m ρ c)

theorem W6_v14 (c : Dev nD) : W6 m ρ c (Proc.devRef .tc main_v14) = KW2048 (m ((c : Thread nD τ).loc main_arg5)) :=
  (W6_of m ρ c main_v14 (by decide +kernel)).trans (W5_v14 m ρ c)

theorem W6_v18 (c : Dev nD) : W6 m ρ c (Proc.devRef .tc main_v18) = KW4096 (m ((c : Thread nD τ).loc main_arg5)) :=
  (W6_of m ρ c main_v18 (by decide +kernel)).trans (W5_v18 m ρ c)

theorem W6_v20 (c : Dev nD) : W6 m ρ c (Proc.devRef .tc main_v20) = KW5120 (m ((c : Thread nD τ).loc main_arg5)) :=
  (W6_of m ρ c main_v20 (by decide +kernel)).trans (W5_v20 m ρ c)

theorem W6_v24 (c : Dev nD) : W6 m ρ c (Proc.devRef .tc main_v24) = KW7168 (m ((c : Thread nD τ).loc main_arg5)) :=
  (W6_of m ρ c main_v24 (by decide +kernel)).trans (W5_v24 m ρ c)

theorem W7_v37 (c : Dev nD) : W7 m ρ c (Proc.devRef .tc main_v37) = PROD (XV m c) (KW2048 (m ((c : Thread nD τ).loc main_arg5))) := by
  refine (W7_arr m ρ c 2).trans ((final3 (V6 m ρ) c).trans ?_)
  show PROD (W6 m ρ c (Proc.devRef .tc main_v34)) (W6 m ρ c (Proc.devRef .tc main_v14)) = _
  rw [W6_v34, W6_v14]

theorem W7_v34 (c : Dev nD) : W7 m ρ c (Proc.devRef .tc main_v34) = XV m c :=
  (W7_of m ρ c main_v34 (by decide +kernel)).trans (W6_v34 m ρ c)

theorem W7_v18 (c : Dev nD) : W7 m ρ c (Proc.devRef .tc main_v18) = KW4096 (m ((c : Thread nD τ).loc main_arg5)) :=
  (W7_of m ρ c main_v18 (by decide +kernel)).trans (W6_v18 m ρ c)

theorem W7_v20 (c : Dev nD) : W7 m ρ c (Proc.devRef .tc main_v20) = KW5120 (m ((c : Thread nD τ).loc main_arg5)) :=
  (W7_of m ρ c main_v20 (by decide +kernel)).trans (W6_v20 m ρ c)

theorem W7_v24 (c : Dev nD) : W7 m ρ c (Proc.devRef .tc main_v24) = KW7168 (m ((c : Thread nD τ).loc main_arg5)) :=
  (W7_of m ρ c main_v24 (by decide +kernel)).trans (W6_v24 m ρ c)

theorem W7_v36 (c : Dev nD) : W7 m ρ c (Proc.devRef .tc main_v36) = HEAD (XV m c) (KW1024 (m ((c : Thread nD τ).loc main_arg5))) (KG (m ((c : Thread nD τ).loc main_arg6))) :=
  (W7_of m ρ c main_v36 (by decide +kernel)).trans (W6_v36 m ρ c)

theorem W8_v38 (c : Dev nD) : W8 m ρ c (Proc.devRef .tc main_v38) = KG (m ((c : Thread nD τ).loc main_arg7)) := by
  unfold_abbrev_sides
  after_results
  rw [W7_args m ρ c main_arg7 (by decide)]
  rfl

theorem W8_v34 (c : Dev nD) : W8 m ρ c (Proc.devRef .tc main_v34) = XV m c :=
  (W8_of m ρ c main_v34 (by decide +kernel)).trans (W7_v34 m ρ c)

theorem W8_v18 (c : Dev nD) : W8 m ρ c (Proc.devRef .tc main_v18) = KW4096 (m ((c : Thread nD τ).loc main_arg5)) :=
  (W8_of m ρ c main_v18 (by decide +kernel)).trans (W7_v18 m ρ c)

theorem W8_v20 (c : Dev nD) : W8 m ρ c (Proc.devRef .tc main_v20) = KW5120 (m ((c : Thread nD τ).loc main_arg5)) :=
  (W8_of m ρ c main_v20 (by decide +kernel)).trans (W7_v20 m ρ c)

theorem W8_v24 (c : Dev nD) : W8 m ρ c (Proc.devRef .tc main_v24) = KW7168 (m ((c : Thread nD τ).loc main_arg5)) :=
  (W8_of m ρ c main_v24 (by decide +kernel)).trans (W7_v24 m ρ c)

theorem W8_v36 (c : Dev nD) : W8 m ρ c (Proc.devRef .tc main_v36) = HEAD (XV m c) (KW1024 (m ((c : Thread nD τ).loc main_arg5))) (KG (m ((c : Thread nD τ).loc main_arg6))) :=
  (W8_of m ρ c main_v36 (by decide +kernel)).trans (W7_v36 m ρ c)

theorem W8_v37 (c : Dev nD) : W8 m ρ c (Proc.devRef .tc main_v37) = PROD (XV m c) (KW2048 (m ((c : Thread nD τ).loc main_arg5))) :=
  (W8_of m ρ c main_v37 (by decide +kernel)).trans (W7_v37 m ρ c)

theorem W9_v39 (c : Dev nD) : W9 m ρ c (Proc.devRef .tc main_v39) = HEAD (XV m c) (KW4096 (m ((c : Thread nD τ).loc main_arg5))) (KG (m ((c : Thread nD τ).loc main_arg7))) := by
  refine (W9_arr m ρ c 3).trans ((final4 (V8 m ρ) c).trans ?_)
  show HEAD (W8 m ρ c (Proc.devRef .tc main_v34)) (W8 m ρ c (Proc.devRef .tc main_v18)) (W8 m ρ c (Proc.devRef .tc main_v38)) = _
  rw [W8_v34, W8_v18, W8_v38]

theorem W9_v34 (c : Dev nD) : W9 m ρ c (Proc.devRef .tc main_v34) = XV m c :=
  (W9_of m ρ c main_v34 (by decide +kernel)).trans (W8_v34 m ρ c)

theorem W9_v20 (c : Dev nD) : W9 m ρ c (Proc.devRef .tc main_v20) = KW5120 (m ((c : Thread nD τ).loc main_arg5)) :=
  (W9_of m ρ c main_v20 (by decide +kernel)).trans (W8_v20 m ρ c)

theorem W9_v24 (c : Dev nD) : W9 m ρ c (Proc.devRef .tc main_v24) = KW7168 (m ((c : Thread nD τ).loc main_arg5)) :=
  (W9_of m ρ c main_v24 (by decide +kernel)).trans (W8_v24 m ρ c)

theorem W9_v36 (c : Dev nD) : W9 m ρ c (Proc.devRef .tc main_v36) = HEAD (XV m c) (KW1024 (m ((c : Thread nD τ).loc main_arg5))) (KG (m ((c : Thread nD τ).loc main_arg6))) :=
  (W9_of m ρ c main_v36 (by decide +kernel)).trans (W8_v36 m ρ c)

theorem W9_v37 (c : Dev nD) : W9 m ρ c (Proc.devRef .tc main_v37) = PROD (XV m c) (KW2048 (m ((c : Thread nD τ).loc main_arg5))) :=
  (W9_of m ρ c main_v37 (by decide +kernel)).trans (W8_v37 m ρ c)

theorem W10_v40 (c : Dev nD) : W10 m ρ c (Proc.devRef .tc main_v40) = PROD (XV m c) (KW5120 (m ((c : Thread nD τ).loc main_arg5))) := by
  refine (W10_arr m ρ c 2).trans ((final5 (V9 m ρ) c).trans ?_)
  show PROD (W9 m ρ c (Proc.devRef .tc main_v34)) (W9 m ρ c (Proc.devRef .tc main_v20)) = _
  rw [W9_v34, W9_v20]

theorem W10_v34 (c : Dev nD) : W10 m ρ c (Proc.devRef .tc main_v34) = XV m c :=
  (W10_of m ρ c main_v34 (by decide +kernel)).trans (W9_v34 m ρ c)

theorem W10_v24 (c : Dev nD) : W10 m ρ c (Proc.devRef .tc main_v24) = KW7168 (m ((c : Thread nD τ).loc main_arg5)) :=
  (W10_of m ρ c main_v24 (by decide +kernel)).trans (W9_v24 m ρ c)

theorem W10_v36 (c : Dev nD) : W10 m ρ c (Proc.devRef .tc main_v36) = HEAD (XV m c) (KW1024 (m ((c : Thread nD τ).loc main_arg5))) (KG (m ((c : Thread nD τ).loc main_arg6))) :=
  (W10_of m ρ c main_v36 (by decide +kernel)).trans (W9_v36 m ρ c)

theorem W10_v37 (c : Dev nD) : W10 m ρ c (Proc.devRef .tc main_v37) = PROD (XV m c) (KW2048 (m ((c : Thread nD τ).loc main_arg5))) :=
  (W10_of m ρ c main_v37 (by decide +kernel)).trans (W9_v37 m ρ c)

theorem W10_v39 (c : Dev nD) : W10 m ρ c (Proc.devRef .tc main_v39) = HEAD (XV m c) (KW4096 (m ((c : Thread nD τ).loc main_arg5))) (KG (m ((c : Thread nD τ).loc main_arg7))) :=
  (W10_of m ρ c main_v39 (by decide +kernel)).trans (W9_v39 m ρ c)

theorem W11_v41 (c : Dev nD) : W11 m ρ c (Proc.devRef .tc main_v41) = PROD64 (XV m c) (KW7168 (m ((c : Thread nD τ).loc main_arg5))) := by
  refine (W11_arr m ρ c 2).trans ((final6 (V10 m ρ) c).trans ?_)
  show PROD64 (W10 m ρ c (Proc.devRef .tc main_v34)) (W10 m ρ c (Proc.devRef .tc main_v24)) = _
  rw [W10_v34, W10_v24]

theorem W11_v36 (c : Dev nD) : W11 m ρ c (Proc.devRef .tc main_v36) = HEAD (XV m c) (KW1024 (m ((c : Thread nD τ).loc main_arg5))) (KG (m ((c : Thread nD τ).loc main_arg6))) :=
  (W11_of m ρ c main_v36 (by decide +kernel)).trans (W10_v36 m ρ c)

theorem W11_v37 (c : Dev nD) : W11 m ρ c (Proc.devRef .tc main_v37) = PROD (XV m c) (KW2048 (m ((c : Thread nD τ).loc main_arg5))) :=
  (W11_of m ρ c main_v37 (by decide +kernel)).trans (W10_v37 m ρ c)

theorem W11_v39 (c : Dev nD) : W11 m ρ c (Proc.devRef .tc main_v39) = HEAD (XV m c) (KW4096 (m ((c : Thread nD τ).loc main_arg5))) (KG (m ((c : Thread nD τ).loc main_arg7))) :=
  (W11_of m ρ c main_v39 (by decide +kernel)).trans (W10_v39 m ρ c)

theorem W11_v40 (c : Dev nD) : W11 m ρ c (Proc.devRef .tc main_v40) = PROD (XV m c) (KW5120 (m ((c : Thread nD τ).loc main_arg5))) :=
  (W11_of m ρ c main_v40 (by decide +kernel)).trans (W10_v40 m ρ c)

/-! ## The rows of the sample -/

theorem W12_v42 (c : Dev nD) : W12 m ρ c (Proc.devRef .tc main_v42) = TOP (HEAD (XV m c) (KW1024 (m ((c : Thread nD τ).loc main_arg5))) (KG (m ((c : Thread nD τ).loc main_arg6)))) := by
  unfold_abbrev_sides
  after_results
  rw [W11_v36]
  rfl

theorem W12_v43 (c : Dev nD) : W12 m ρ c (Proc.devRef .tc main_v43) = TOP (PROD (XV m c) (KW2048 (m ((c : Thread nD τ).loc main_arg5)))) := by
  unfold_abbrev_sides
  after_results
  rw [W11_v37]
  rfl

theorem W12_v44 (c : Dev nD) : W12 m ρ c (Proc.devRef .tc main_v44) = TOP (HEAD (XV m c) (KW4096 (m ((c : Thread nD τ).loc main_arg5))) (KG (m ((c : Thread nD τ).loc main_arg7)))) := by
  unfold_abbrev_sides
  after_results
  rw [W11_v39]
  rfl

theorem W12_v45 (c : Dev nD) : W12 m ρ c (Proc.devRef .tc main_v45) = TOP (PROD (XV m c) (KW5120 (m ((c : Thread nD τ).loc main_arg5)))) := by
  unfold_abbrev_sides
  after_results
  rw [W11_v40]
  rfl

theorem W12_v46 (c : Dev nD) : W12 m ρ c (Proc.devRef .tc main_v46) = TOP64 (PROD64 (XV m c) (KW7168 (m ((c : Thread nD τ).loc main_arg5)))) := by
  unfold_abbrev_sides
  after_results
  rw [W11_v41]
  rfl

end Cert.Kernel22Ideal.Value

end
-- ==== Proof.SampleState.Ref.lean ====
module

public import proofs.«01_k».proof.Proof.SampleState.Heads
public import proofs.«01_k».proof.Proof.Gen.Reference22Ideal

@[expose] public section

/-! # The reference of the joined program of the sample, stage by stage

The modulation, the normed tokens, the whole product and its sections, each at an entry. -/

set_option maxRecDepth 16384

noncomputable section

open Idealize.ShloMosaic Idealize.ShloMosaic.TcCoe Idealize.SL.Sem

namespace Cert.Reference22Ideal.Stage

open Cert.Reference22Ideal Cert.Kernel22Ideal.Value

/-- The modulation. -/
def ADAR (C : FVec Ideal S32x2048 .f32) (WA : FVec Ideal S2048x12288 .f32) (BA : FVec Ideal S12288 .f32) : FVec Ideal S32x12288 .f32 :=
  (addf (Host.dotGeneral dot_S32x2048_S2048x12288_S32x12288_1_0_0_1_n_n none (mulf C (Host.divf (broadcastInDim S32x2048 ![] Gen.bcast_S_S32x2048 (constant S_ .f32 0x3F800000#32)) (addf (broadcastInDim S32x2048 ![] Gen.bcast_S_S32x2048 (constant S_ .f32 0x3F800000#32)) (Host.exp (Host.negf C))))) WA) (broadcastInDim S32x12288 ![0, 1] Gen.bcast_S1x12288_S32x12288_0_1 (broadcastInDim S1x12288 ![1] Gen.bcast_S12288_S1x12288_1 BA)))

theorem ADAR_at (C : FVec Ideal S32x2048 .f32) (WA : FVec Ideal S2048x12288 .f32) (BA : FVec Ideal S12288 .f32) (r : Fin 32) (d : Fin 12288) :
    ADAR C WA BA (ix2 r d) = (∑ k : Fin 2048, gate (C (ix2 r k)) * WA (ix2 k d)) + BA (ix1 d) := by
  pointwise [ADAR, gate]

/-- The normed, scaled and shifted tokens. -/
def XMR (X : FVec Ideal S32x2048 .f32) (N : FVec Ideal S2048 .f32) (M : FVec Ideal S32x12288 .f32) : FVec Ideal S32x2048 .f32 :=
  (addf (mulf (mulf (mulf X (broadcastInDim S32x2048 ![0, 1] Gen.bcast_S32x1_S32x2048_0_1 (Host.rsqrt (addf (Host.divf (broadcastInDim S32x1 ![0] Gen.bcast_S32_S32x1_0 (Host.reduceAdd (mulf X X) (constant S_ .f32 0x00000000#32) Gen.reducesTo_S32x2048_S32_d1 Gen.h_S_)) (broadcastInDim S32x1 ![] Gen.bcast_S_S32x1 (constant S_ .f32 0x45000000#32))) (broadcastInDim S32x1 ![] Gen.bcast_S_S32x1 (constant S_ .f32 0x358637BD#32)))))) (broadcastInDim S32x2048 ![0, 1] Gen.bcast_S1x2048_S32x2048_0_1 (broadcastInDim S1x2048 ![1] Gen.bcast_S2048_S1x2048_1 N))) (addf (broadcastInDim S32x2048 ![] Gen.bcast_S_S32x2048 (constant S_ .f32 0x3F800000#32)) (extractStridedSlice S32x2048 ![0, 2048] M Gen.slices_S32x12288_S32x2048_0_2048))) (extractStridedSlice S32x2048 ![0, 0] M Gen.slices_S32x12288_S32x2048_0_0))

theorem XMR_at (X : FVec Ideal S32x2048 .f32) (N : FVec Ideal S2048 .f32) (M : FVec Ideal S32x12288 .f32) (b : Fin 32) (d : Fin 2048) :
    XMR X N M (ix2 b d) = normed (X (ix2 b d)) (∑ e : Fin 2048, X (ix2 b e) * X (ix2 b e)) (N (ix1 d))
      (M (ix2 b ⟨2048 + d.val, by omega⟩)) (M (ix2 b ⟨d.val, by omega⟩)) := by
  pointwise [XMR, normed]

/-- The tokens times all the weights. -/
def ZR (XM : FVec Ideal S32x2048 .f32) (WI : FVec Ideal S2048x11344 .f32) : FVec Ideal S32x11344 .f32 :=
  (Host.dotGeneral dot_S32x2048_S2048x11344_S32x11344_1_0_0_1_n_n none XM WI)

theorem ZR_at (XM : FVec Ideal S32x2048 .f32) (WI : FVec Ideal S2048x11344 .f32) (b : Fin 32) (d : Fin 11344) :
    ZR XM WI (ix2 b d) = ∑ k : Fin 2048, XM (ix2 b k) * WI (ix2 k d) := by
  pointwise [ZR]

/-- A section whose heads are normed, as rows of tokens. -/
def HEADR (Y : FVec Ideal S32x1024 .f32) (K : FVec Ideal S128 .f32) : FVec Ideal S32x1024 .f32 :=
  shapeCast _ (mulf (mulf (shapeCast _ Y Gen.shapeCasts_S32x1024_S32x8x128) (broadcastInDim S32x8x128 ![0, 1, 2] Gen.bcast_S32x8x1_S32x8x128_0_1_2 (Host.rsqrt (addf (Host.divf (broadcastInDim S32x8x1 ![0, 1] Gen.bcast_S32x8_S32x8x1_0_1 (Host.reduceAdd (mulf (shapeCast _ Y Gen.shapeCasts_S32x1024_S32x8x128) (shapeCast _ Y Gen.shapeCasts_S32x1024_S32x8x128)) (constant S_ .f32 0x00000000#32) Gen.reducesTo_S32x8x128_S32x8_d2 Gen.h_S_)) (broadcastInDim S32x8x1 ![] Gen.bcast_S_S32x8x1 (constant S_ .f32 0x43000000#32))) (broadcastInDim S32x8x1 ![] Gen.bcast_S_S32x8x1 (constant S_ .f32 0x358637BD#32)))))) (broadcastInDim S32x8x128 ![0, 1, 2] Gen.bcast_S1x1x128_S32x8x128_0_1_2 (broadcastInDim S1x1x128 ![2] Gen.bcast_S128_S1x1x128_2 K))) Gen.shapeCasts_S32x8x128_S32x1024

theorem HEADR_at (Y : FVec Ideal S32x1024 .f32) (K : FVec Ideal S128 .f32) (t : Fin 32) (d : Fin 1024) :
    HEADR Y K (ix2 t d) = headAt (fun j => Y (ix2 t j)) (fun l => K (ix1 l)) d := by
  pointwise [HEADR, headAt, headed]

/-- The section of 1024 columns from column 1024. -/
def SEC1024 (Z : FVec Ideal S32x11344 .f32) : FVec Ideal S32x1024 .f32 :=
  extractStridedSlice S32x1024 ![0, 1024] Z Gen.slices_S32x11344_S32x1024_0_1024

theorem SEC1024_at (Z : FVec Ideal S32x11344 .f32) (b : Fin 32) (d : Fin 1024) :
    SEC1024 Z (ix2 b d) = Z (ix2 b ⟨1024 + d.val, by omega⟩) := by
  pointwise [SEC1024]

/-- The section of 1024 columns from column 2048. -/
def SEC2048 (Z : FVec Ideal S32x11344 .f32) : FVec Ideal S32x1024 .f32 :=
  extractStridedSlice S32x1024 ![0, 2048] Z Gen.slices_S32x11344_S32x1024_0_2048

theorem SEC2048_at (Z : FVec Ideal S32x11344 .f32) (b : Fin 32) (d : Fin 1024) :
    SEC2048 Z (ix2 b d) = Z (ix2 b ⟨2048 + d.val, by omega⟩) := by
  pointwise [SEC2048]

/-- The section of 1024 columns from column 4096. -/
def SEC4096 (Z : FVec Ideal S32x11344 .f32) : FVec Ideal S32x1024 .f32 :=
  extractStridedSlice S32x1024 ![0, 4096] Z Gen.slices_S32x11344_S32x1024_0_4096

theorem SEC4096_at (Z : FVec Ideal S32x11344 .f32) (b : Fin 32) (d : Fin 1024) :
    SEC4096 Z (ix2 b d) = Z (ix2 b ⟨4096 + d.val, by omega⟩) := by
  pointwise [SEC4096]

/-- The section of 1024 columns from column 5120. -/
def SEC5120 (Z : FVec Ideal S32x11344 .f32) : FVec Ideal S32x1024 .f32 :=
  extractStridedSlice S32x1024 ![0, 5120] Z Gen.slices_S32x11344_S32x1024_0_5120

theorem SEC5120_at (Z : FVec Ideal S32x11344 .f32) (b : Fin 32) (d : Fin 1024) :
    SEC5120 Z (ix2 b d) = Z (ix2 b ⟨5120 + d.val, by omega⟩) := by
  pointwise [SEC5120]

/-- The section of 64 columns from column 7168. -/
def SEC7168 (Z : FVec Ideal S32x11344 .f32) : FVec Ideal S32x64 .f32 :=
  extractStridedSlice S32x64 ![0, 7168] Z Gen.slices_S32x11344_S32x64_0_7168

theorem SEC7168_at (Z : FVec Ideal S32x11344 .f32) (b : Fin 32) (d : Fin 64) :
    SEC7168 Z (ix2 b d) = Z (ix2 b ⟨7168 + d.val, by omega⟩) := by
  pointwise [SEC7168]

end Cert.Reference22Ideal.Stage

end
-- ==== Proof.SampleState.Run.lean ====
module

public import proofs.«01_k».proof.Proof.SampleState.Chain
public import proofs.«01_k».proof.Proof.SampleState.Ref
public import proofs.«01_k».proof.Proof.Gen.Reference22Ideal.Run

@[expose] public section

/-! # The runs of the joined program of the sample and of its reference

Each of the two programs run whole, with its five results as named functions of the arguments. -/

set_option maxRecDepth 16384

noncomputable section

namespace Cert.Kernel22Ideal.Value

open Cert.Kernel22Ideal Cert.Kernel22Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The joined program ends with the five results at their terms and the arguments as they were. -/
theorem run_joined : θ_run defs (onTc (τ := τ) (main (F := Ideal))) ⟨m, fun _ => 0, ρ⟩ (fun r => ∀ c : Dev nD,
      r.2.mem ((c.tc : Thread nD τ).loc main_v42) = TOP (HEAD (XV m c) (KW1024 (m ((c : Thread nD τ).loc main_arg5))) (KG (m ((c : Thread nD τ).loc main_arg6))))
      ∧ r.2.mem ((c.tc : Thread nD τ).loc main_v43) = TOP (PROD (XV m c) (KW2048 (m ((c : Thread nD τ).loc main_arg5))))
      ∧ r.2.mem ((c.tc : Thread nD τ).loc main_v44) = TOP (HEAD (XV m c) (KW4096 (m ((c : Thread nD τ).loc main_arg5))) (KG (m ((c : Thread nD τ).loc main_arg7))))
      ∧ r.2.mem ((c.tc : Thread nD τ).loc main_v45) = TOP (PROD (XV m c) (KW5120 (m ((c : Thread nD τ).loc main_arg5))))
      ∧ r.2.mem ((c.tc : Thread nD τ).loc main_v46) = TOP64 (PROD64 (XV m c) (KW7168 (m ((c : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v42 (by decide))).trans (W12_v42 m ρ c),
       (h c _ (mem_uc main_v43 (by decide))).trans (W12_v43 m ρ c),
       (h c _ (mem_uc main_v44 (by decide))).trans (W12_v44 m ρ c),
       (h c _ (mem_uc main_v45 (by decide))).trans (W12_v45 m ρ c),
       (h c _ (mem_uc main_v46 (by decide))).trans (W12_v46 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.Kernel22Ideal.Value

namespace Cert.Reference22Ideal.Stage

open Cert.Reference22Ideal
open Idealize.ShloMosaic Idealize.ShloMosaic.TcCoe Idealize.SL.Sem

set_option maxHeartbeats 4000000 in
/-- The reference ends with the five results at their named terms and the arguments as they were. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v58) = HEADR (SEC1024 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5)))) (m ((c : Thread nD τ).loc main_arg6))
      ∧ r.2.mem ((c.tc : Thread nD τ).loc main_v40) = SEC2048 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5)))
      ∧ r.2.mem ((c.tc : Thread nD τ).loc main_v59) = HEADR (SEC4096 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5)))) (m ((c : Thread nD τ).loc main_arg7))
      ∧ r.2.mem ((c.tc : Thread nD τ).loc main_v56) = SEC5120 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5)))
      ∧ r.2.mem ((c.tc : Thread nD τ).loc main_v57) = SEC7168 (ZR (XMR (m ((c : Thread nD τ).loc main_arg0)) (m ((c : Thread nD τ).loc main_arg4)) (ADAR (m ((c : Thread nD τ).loc main_arg1)) (m ((c : Thread nD τ).loc main_arg2)) (m ((c : Thread nD τ).loc main_arg3)))) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans rfl, (h c).2.1.trans rfl, (h c).2.2.1.trans rfl, (h c).2.2.2.1.trans rfl, (h c).2.2.2.2.1.trans rfl, (h c).2.2.2.2.2⟩)
    (Cert.Reference22Ideal.Value.run (F := Ideal) m ρ)

end Cert.Reference22Ideal.Stage
-- ==== Proof.SampleState.Value.lean ====
module

public import proofs.«01_k».proof.Proof.SampleState.Chain
public import proofs.«01_k».proof.Proof.SampleState.Ref
public import Idealize.ShloMosaic.Lib.Pipeline.ValueKit

@[expose] public section

/-! # The joined program of the sample and its reference

Each array of the kernel is the same stage of the reference, entry by entry: the rows behind the tokens are cut off at the end, and a section of the weights is
cut before the product rather than after it. -/

set_option maxRecDepth 16384

noncomputable section

open Idealize.ShloMosaic Idealize.ShloMosaic.TcCoe Idealize.SL.Sem

namespace Cert.Kernel22Ideal.Value

open Cert.Kernel22Ideal Cert.Kernel22Ideal.Gen

open Cert.Reference22Ideal.Stage

theorem CALL_at (C : FVec Ideal S32x2048 .f32) (r : Fin 32) (k : Fin 2048) : CALL C (ix2 ⟨4 + r.val, by omega⟩ k) = C (ix2 r k) := by
  pointwise [CALL]

theorem bias_at (B : FVec Ideal S12288 .f32) (d : Fin 12288) :
    (shapeCast S1x12288 B shapeCasts_S12288_S1x12288 : FVec Ideal S1x12288 .f32) (ix2 0 d) = B (ix1 d) := by
  pointwise []

/-- The modulation of a token. -/
theorem KM_at (C : FVec Ideal S32x2048 .f32) (WA : FVec Ideal S2048x12288 .f32) (BA : FVec Ideal S12288 .f32) (r : Fin 32) (d : Fin 12288) :
    KM C WA BA (ix2 ⟨4 + r.val, by omega⟩ d) = ADAR C WA BA (ix2 r d) := by
  unfold KM
  rw [ADAR_at, MODA_at, bias_at]
  simp only [CALL_at]

theorem KSC_at (M : FVec Ideal S136x12288 .f32) (b : Fin 128) (d : Fin 2048) :
    KSC M (ix3 0 b d) = M (ix2 ⟨4 + b.val, by omega⟩ ⟨2048 + d.val, by omega⟩) := by
  pointwise [KSC]

theorem KSH_at (M : FVec Ideal S136x12288 .f32) (b : Fin 128) (d : Fin 2048) :
    KSH M (ix3 0 b d) = M (ix2 ⟨4 + b.val, by omega⟩ ⟨d.val, by omega⟩) := by
  pointwise [KSH]

theorem token_at (X : FVec Ideal S32x2048 .f32) (t : Fin 32) (d : Fin 2048) : XPAD X (ix2 ⟨t.val, by omega⟩ d) = X (ix2 t d) := by
  pointwise [XPAD]

theorem gain_at (N : FVec Ideal S2048 .f32) (d : Fin 2048) :
    (shapeCast S1x2048 N shapeCasts_S2048_S1x2048 : FVec Ideal S1x2048 .f32) (ix2 0 d) = N (ix1 d) := by
  pointwise []

theorem KG_at (G : FVec Ideal S128 .f32) (l : Fin 128) : KG G (ix2 0 l) = G (ix1 l) := by
  pointwise [KG]

theorem TOP_at (A : FVec Ideal S128x1024 .f32) (t : Fin 32) (d : Fin 1024) : TOP A (ix2 t d) = A (ix2 ⟨t.val, by omega⟩ d) := by
  pointwise [TOP]

theorem TOP64_at (A : FVec Ideal S128x64 .f32) (t : Fin 32) (d : Fin 64) : TOP64 A (ix2 t d) = A (ix2 ⟨t.val, by omega⟩ d) := by
  pointwise [TOP64]

/-- A normed token. -/
theorem KX_at (X : FVec Ideal S32x2048 .f32) (N : FVec Ideal S2048 .f32) (C : FVec Ideal S32x2048 .f32) (WA : FVec Ideal S2048x12288 .f32)
    (BA : FVec Ideal S12288 .f32) (t : Fin 32) (d : Fin 2048) :
    KX X N (KM C WA BA) (ix2 ⟨t.val, by omega⟩ d) = XMR X N (ADAR C WA BA) (ix2 t d) := by
  unfold KX
  rw [NORM_at, XMR_at, KSC_at, KSH_at, gain_at]
  simp only [token_at]
  rw [← KM_at, ← KM_at]

/-! ## The section from column 1024 -/

theorem KW1024_at (W : FVec Ideal S2048x11344 .f32) (k : Fin 2048) (d : Fin 1024) : KW1024 W (ix2 k d) = W (ix2 k ⟨1024 + d.val, by omega⟩) := by
  pointwise [KW1024]

theorem section1024_at (X : FVec Ideal S32x2048 .f32) (C : FVec Ideal S32x2048 .f32) (WA : FVec Ideal S2048x12288 .f32) (BA : FVec Ideal S12288 .f32)
    (N : FVec Ideal S2048 .f32) (WI : FVec Ideal S2048x11344 .f32) (t : Fin 32) (d : Fin 1024) :
    PROD (KX X N (KM C WA BA)) (KW1024 WI) (ix2 ⟨t.val, by omega⟩ d)
    = SEC1024 (ZR (XMR X N (ADAR C WA BA)) WI) (ix2 t d) := by
  rw [PROD_at, SEC1024_at, ZR_at]
  simp only [KX_at, KW1024_at]

theorem result1024 (X : FVec Ideal S32x2048 .f32) (C : FVec Ideal S32x2048 .f32) (WA : FVec Ideal S2048x12288 .f32) (BA : FVec Ideal S12288 .f32)
    (N : FVec Ideal S2048 .f32) (WI : FVec Ideal S2048x11344 .f32) (K : FVec Ideal S128 .f32) :
    TOP (HEAD (KX X N (KM C WA BA)) (KW1024 WI) (KG K)) = HEADR (SEC1024 (ZR (XMR X N (ADAR C WA BA)) WI)) K := by
  funext y
  obtain ⟨t, d, rfl⟩ : ∃ (t : Fin 32) (d : Fin 1024), y = (ix2 t d : S32x1024.Idx) := ⟨y 0, y 1, eq_ix2 (n0 := 32) (n1 := 1024) y⟩
  rw [TOP_at, HEAD_at]
  refine Eq.trans ?_ (HEADR_at _ _ t d).symm
  simp only [section1024_at, KG_at]

/-! ## The section from column 2048 -/

theorem KW2048_at (W : FVec Ideal S2048x11344 .f32) (k : Fin 2048) (d : Fin 1024) : KW2048 W (ix2 k d) = W (ix2 k ⟨2048 + d.val, by omega⟩) := by
  pointwise [KW2048]

theorem section2048_at (X : FVec Ideal S32x2048 .f32) (C : FVec Ideal S32x2048 .f32) (WA : FVec Ideal S2048x12288 .f32) (BA : FVec Ideal S12288 .f32)
    (N : FVec Ideal S2048 .f32) (WI : FVec Ideal S2048x11344 .f32) (t : Fin 32) (d : Fin 1024) :
    PROD (KX X N (KM C WA BA)) (KW2048 WI) (ix2 ⟨t.val, by omega⟩ d)
    = SEC2048 (ZR (XMR X N (ADAR C WA BA)) WI) (ix2 t d) := by
  rw [PROD_at, SEC2048_at, ZR_at]
  simp only [KX_at, KW2048_at]

theorem result2048 (X : FVec Ideal S32x2048 .f32) (C : FVec Ideal S32x2048 .f32) (WA : FVec Ideal S2048x12288 .f32) (BA : FVec Ideal S12288 .f32)
    (N : FVec Ideal S2048 .f32) (WI : FVec Ideal S2048x11344 .f32) :
    TOP (PROD (KX X N (KM C WA BA)) (KW2048 WI)) = SEC2048 (ZR (XMR X N (ADAR C WA BA)) WI) := by
  funext y
  obtain ⟨t, d, rfl⟩ : ∃ (t : Fin 32) (d : Fin 1024), y = (ix2 t d : S32x1024.Idx) := ⟨y 0, y 1, eq_ix2 (n0 := 32) (n1 := 1024) y⟩
  exact (TOP_at _ t d).trans (section2048_at X C WA BA N WI t d)

/-! ## The section from column 4096 -/

theorem KW4096_at (W : FVec Ideal S2048x11344 .f32) (k : Fin 2048) (d : Fin 1024) : KW4096 W (ix2 k d) = W (ix2 k ⟨4096 + d.val, by omega⟩) := by
  pointwise [KW4096]

theorem section4096_at (X : FVec Ideal S32x2048 .f32) (C : FVec Ideal S32x2048 .f32) (WA : FVec Ideal S2048x12288 .f32) (BA : FVec Ideal S12288 .f32)
    (N : FVec Ideal S2048 .f32) (WI : FVec Ideal S2048x11344 .f32) (t : Fin 32) (d : Fin 1024) :
    PROD (KX X N (KM C WA BA)) (KW4096 WI) (ix2 ⟨t.val, by omega⟩ d)
    = SEC4096 (ZR (XMR X N (ADAR C WA BA)) WI) (ix2 t d) := by
  rw [PROD_at, SEC4096_at, ZR_at]
  simp only [KX_at, KW4096_at]

theorem result4096 (X : FVec Ideal S32x2048 .f32) (C : FVec Ideal S32x2048 .f32) (WA : FVec Ideal S2048x12288 .f32) (BA : FVec Ideal S12288 .f32)
    (N : FVec Ideal S2048 .f32) (WI : FVec Ideal S2048x11344 .f32) (K : FVec Ideal S128 .f32) :
    TOP (HEAD (KX X N (KM C WA BA)) (KW4096 WI) (KG K)) = HEADR (SEC4096 (ZR (XMR X N (ADAR C WA BA)) WI)) K := by
  funext y
  obtain ⟨t, d, rfl⟩ : ∃ (t : Fin 32) (d : Fin 1024), y = (ix2 t d : S32x1024.Idx) := ⟨y 0, y 1, eq_ix2 (n0 := 32) (n1 := 1024) y⟩
  rw [TOP_at, HEAD_at]
  refine Eq.trans ?_ (HEADR_at _ _ t d).symm
  simp only [section4096_at, KG_at]

/-! ## The section from column 5120 -/

theorem KW5120_at (W : FVec Ideal S2048x11344 .f32) (k : Fin 2048) (d : Fin 1024) : KW5120 W (ix2 k d) = W (ix2 k ⟨5120 + d.val, by omega⟩) := by
  pointwise [KW5120]

theorem section5120_at (X : FVec Ideal S32x2048 .f32) (C : FVec Ideal S32x2048 .f32) (WA : FVec Ideal S2048x12288 .f32) (BA : FVec Ideal S12288 .f32)
    (N : FVec Ideal S2048 .f32) (WI : FVec Ideal S2048x11344 .f32) (t : Fin 32) (d : Fin 1024) :
    PROD (KX X N (KM C WA BA)) (KW5120 WI) (ix2 ⟨t.val, by omega⟩ d)
    = SEC5120 (ZR (XMR X N (ADAR C WA BA)) WI) (ix2 t d) := by
  rw [PROD_at, SEC5120_at, ZR_at]
  simp only [KX_at, KW5120_at]

theorem result5120 (X : FVec Ideal S32x2048 .f32) (C : FVec Ideal S32x2048 .f32) (WA : FVec Ideal S2048x12288 .f32) (BA : FVec Ideal S12288 .f32)
    (N : FVec Ideal S2048 .f32) (WI : FVec Ideal S2048x11344 .f32) :
    TOP (PROD (KX X N (KM C WA BA)) (KW5120 WI)) = SEC5120 (ZR (XMR X N (ADAR C WA BA)) WI) := by
  funext y
  obtain ⟨t, d, rfl⟩ : ∃ (t : Fin 32) (d : Fin 1024), y = (ix2 t d : S32x1024.Idx) := ⟨y 0, y 1, eq_ix2 (n0 := 32) (n1 := 1024) y⟩
  exact (TOP_at _ t d).trans (section5120_at X C WA BA N WI t d)

/-! ## The section from column 7168 -/

theorem KW7168_at (W : FVec Ideal S2048x11344 .f32) (k : Fin 2048) (d : Fin 64) : KW7168 W (ix2 k d) = W (ix2 k ⟨7168 + d.val, by omega⟩) := by
  pointwise [KW7168]

theorem section7168_at (X : FVec Ideal S32x2048 .f32) (C : FVec Ideal S32x2048 .f32) (WA : FVec Ideal S2048x12288 .f32) (BA : FVec Ideal S12288 .f32)
    (N : FVec Ideal S2048 .f32) (WI : FVec Ideal S2048x11344 .f32) (t : Fin 32) (d : Fin 64) :
    PROD64 (KX X N (KM C WA BA)) (KW7168 WI) (ix2 ⟨t.val, by omega⟩ d)
    = SEC7168 (ZR (XMR X N (ADAR C WA BA)) WI) (ix2 t d) := by
  rw [PROD64_at, SEC7168_at, ZR_at]
  simp only [KX_at, KW7168_at]

theorem result7168 (X : FVec Ideal S32x2048 .f32) (C : FVec Ideal S32x2048 .f32) (WA : FVec Ideal S2048x12288 .f32) (BA : FVec Ideal S12288 .f32)
    (N : FVec Ideal S2048 .f32) (WI : FVec Ideal S2048x11344 .f32) :
    TOP64 (PROD64 (KX X N (KM C WA BA)) (KW7168 WI)) = SEC7168 (ZR (XMR X N (ADAR C WA BA)) WI) := by
  funext y
  obtain ⟨t, d, rfl⟩ : ∃ (t : Fin 32) (d : Fin 64), y = (ix2 t d : S32x64.Idx) := ⟨y 0, y 1, eq_ix2 (n0 := 32) (n1 := 64) y⟩
  exact (TOP64_at _ t d).trans (section7168_at X C WA BA N WI t d)

end Cert.Kernel22Ideal.Value

end
-- ==== Proof.lean ====
module

public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Value
public import proofs.«01_k».proof.Proof.Gen.Reference15Ideal.Run
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Bits.Body
public import proofs.«01_k».proof.Proof.Ideal.Value
public import proofs.«01_k».proof.Proof.SampleBits.Body
public import proofs.«01_k».proof.Proof.SampleIdeal.Value
public import proofs.«01_k».proof.Proof.Layer.Heads
public import proofs.«01_k».proof.Proof.Layer.Linear
public import proofs.«01_k».proof.Proof.Layer.Merge
public import proofs.«01_k».proof.Proof.Layer.Modulation
public import proofs.«01_k».proof.Proof.Layer.Norm
public import proofs.«01_k».proof.Proof.Layer.Out
public import proofs.«01_k».proof.Proof.Layer.Residual
public import proofs.«01_k».proof.Proof.Layer.Sample
public import proofs.«01_k».proof.Proof.Layer.SampleHeads
public import proofs.«01_k».proof.Proof.Layer.SampleMore
public import proofs.«01_k».proof.Proof.Layer.IndexWeights
public import proofs.«01_k».proof.Proof.State.Run
public import proofs.«01_k».proof.Proof.State.Value
public import proofs.«01_k».proof.Proof.SampleState.Run
public import proofs.«01_k».proof.Proof.SampleState.Value
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference's run: its arguments end as they were, and it declares no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with equal results over the extended reals. -/
theorem experts_equal : Cert.algebraic_KernelIdeal_ReferenceIdeal := by
  pair_intro
  · run_from Cert.KernelIdeal.Gen.run_main m g
  · refine (θ_run Cert.ReferenceIdeal.defs _ _).mono (fun r h c => ⟨?_, (h c).2⟩) (Cert.ReferenceIdeal.Value.run (F := Ideal) m' g')
    have e : r.2.mem ((c.tc : Thread Cert.ReferenceIdeal.nD Cert.ReferenceIdeal.τ).loc Cert.ReferenceIdeal.main_v31)
        = Cert.ReferenceIdeal.Value.REF (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := (h c).1
    obtain ⟨a0, a1, a2, a3, a4, a5⟩ := hagree c
    refine e.trans (Eq.trans ?_ (Cert.KernelIdeal.Gen.final m c).symm)
    rw [a0, a1, a2, a3, a4, a5]

/-- The reference of the projection with normed heads: its arguments end as they were. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Of the projection with normed heads: kernel and reference end with equal results over the extended reals. -/
theorem equal2 : Cert.algebraic_Kernel2Ideal_Reference2Ideal := by
  pair_intro
  · run_from Cert.Kernel2Ideal.Value.run_blocks m g
  · refine (θ_run Cert.Reference2Ideal.defs _ _).mono (fun r h c => ⟨?_, (h c).2⟩) (Cert.Reference2Ideal.Value.run (F := Ideal) m' g')
    obtain ⟨a0, a1, a2⟩ := hagree c
    refine (h c).1.trans (Eq.trans ?_ (Cert.Kernel2Ideal.Value.final m c).symm)
    rw [a0, a1, a2, Cert.Kernel2Ideal.Value.REF]

/-- The reference of the plain projection to 1024 columns: its arguments end as they were. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Of the plain projection to 1024 columns: kernel and reference end with equal results over the extended reals. -/
theorem equal3 : Cert.algebraic_Kernel3Ideal_Reference3Ideal := by
  pair_intro
  · run_from Cert.Kernel3Ideal.Value.run_blocks m g
  · refine (θ_run Cert.Reference3Ideal.defs _ _).mono (fun r h c => ⟨?_, (h c).2⟩) (Cert.Reference3Ideal.Value.run (F := Ideal) m' g')
    obtain ⟨a0, a1⟩ := hagree c
    refine (h c).1.trans (Eq.trans ?_ (Cert.Kernel3Ideal.Value.final m c).symm)
    rw [a0, a1]

/-- The reference of the plain projection to 2048 columns: its arguments end as they were. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Of the plain projection to 2048 columns: kernel and reference end with equal results over the extended reals. -/
theorem equal4 : Cert.algebraic_Kernel4Ideal_Reference4Ideal := by
  pair_intro
  · run_from Cert.Kernel4Ideal.Value.run_blocks m g
  · refine (θ_run Cert.Reference4Ideal.defs _ _).mono (fun r h c => ⟨?_, (h c).2⟩) (Cert.Reference4Ideal.Value.run (F := Ideal) m' g')
    obtain ⟨a0, a1⟩ := hagree c
    refine (h c).1.trans (Eq.trans ?_ (Cert.Kernel4Ideal.Value.final m c).symm)
    rw [a0, a1]

/-- The reference of the projection to the index keys: its arguments end as they were. -/
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Of the projection to the index keys: kernel and reference end with equal results over the extended reals. -/
theorem equal5 : Cert.algebraic_Kernel5Ideal_Reference5Ideal := by
  pair_intro
  · run_from Cert.Kernel5Ideal.Value.run_blocks m g
  · refine (θ_run Cert.Reference5Ideal.defs _ _).mono (fun r h c => ⟨?_, (h c).2⟩) (Cert.Reference5Ideal.Value.run (F := Ideal) m' g')
    obtain ⟨a0, a1⟩ := hagree c
    refine (h c).1.trans (Eq.trans ?_ (Cert.Kernel5Ideal.Value.final m c).symm)
    rw [a0, a1]

/-- The reference of the gated merge: its arguments end as they were. -/
theorem reference6_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Of the gated merge: kernel and reference end with equal results over the extended reals. -/
theorem equal6 : Cert.algebraic_Kernel6Ideal_Reference6Ideal := by
  pair_intro
  · run_from Cert.Kernel6Ideal.Value.run_blocks m g
  · refine (θ_run Cert.Reference6Ideal.defs _ _).mono (fun r h c => ⟨?_, (h c).2⟩) (Cert.Reference6Ideal.Value.run (F := Ideal) m' g')
    obtain ⟨a0, a1, a2, a3, a4, a5⟩ := hagree c
    refine (h c).1.trans (Eq.trans ?_ (Cert.Kernel6Ideal.Value.final m c).symm)
    rw [a0, a1, a2, a3, a4, a5]

/-- The reference of the output projection and the norm after it: its arguments end as they were. -/
theorem reference7_frame : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Of the output projection and the norm after it: kernel and reference end with equal results over the extended reals. -/
theorem equal7 : Cert.algebraic_Kernel7Ideal_Reference7Ideal := by
  pair_intro
  · run_from Cert.Kernel7Ideal.Value.run_blocks m g
  · refine (θ_run Cert.Reference7Ideal.defs _ _).mono (fun r h c => ⟨?_, ?_, (h c).2.2⟩) (Cert.Reference7Ideal.Value.run (F := Ideal) m' g')
    · obtain ⟨a0, a1, a2, a3, -⟩ := hagree c
      refine (h c).1.trans (Eq.trans ?_ (Cert.Kernel7Ideal.Value.final_stream m c).symm)
      rw [a0, a1, a2, a3, Cert.Kernel7Ideal.Value.REFH]
    · obtain ⟨a0, a1, a2, a3, a4, a5, a6⟩ := hagree c
      refine (h c).2.1.trans (Eq.trans ?_ (Cert.Kernel7Ideal.Value.final_normed m c).symm)
      rw [a0, a1, a2, a3, a4, a5, a6, Cert.Kernel7Ideal.Value.REFM]

/-- The reference of the modulation: its arguments end as they were. -/
theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Of the modulation: kernel and reference end with equal results over the extended reals. -/
theorem equal8 : Cert.algebraic_Kernel8Ideal_Reference8Ideal := by
  pair_intro
  · run_from Cert.Kernel8Ideal.Value.run_blocks m g
  · refine (θ_run Cert.Reference8Ideal.defs _ _).mono (fun r h c => ⟨?_, (h c).2⟩) (Cert.Reference8Ideal.Value.run (F := Ideal) m' g')
    obtain ⟨a0, a1, a2⟩ := hagree c
    refine (h c).1.trans (Eq.trans ?_ (Cert.Kernel8Ideal.Value.final m c).symm)
    rw [a0, a1, a2, Cert.Kernel8Ideal.Value.REF]

/-- The reference of the norm before the projections of the prompt: its arguments end as they were. -/
theorem reference9_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Of the norm before the projections of the prompt: kernel and reference end with equal results over the extended reals. -/
theorem equal9 : Cert.algebraic_Kernel9Ideal_Reference9Ideal := by
  pair_intro
  · run_from Cert.Kernel9Ideal.Value.run_blocks m g
  · refine (θ_run Cert.Reference9Ideal.defs _ _).mono (fun r h c => ⟨?_, (h c).2⟩) (Cert.Reference9Ideal.Value.run (F := Ideal) m' g')
    obtain ⟨a0, a1, a2, a3⟩ := hagree c
    refine (h c).1.trans (Eq.trans ?_ (Cert.Kernel9Ideal.Value.final m c).symm)
    rw [a0, a1, a2, a3, Cert.Kernel9Ideal.Value.REF]

/-- The reference of the norm before the projections of the sample: its arguments end as they were. -/
theorem reference10_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Of the norm before the projections of the sample: kernel and reference end with equal results over the extended reals. -/
theorem equal10 : Cert.algebraic_Kernel10Ideal_Reference10Ideal := by
  pair_intro
  · run_from Cert.Kernel10Ideal.Value.run_blocks m g
  · refine (θ_run Cert.Reference10Ideal.defs _ _).mono (fun r h c => ⟨?_, (h c).2⟩) (Cert.Reference10Ideal.Value.run (F := Ideal) m' g')
    obtain ⟨a0, a1, a2, a3⟩ := hagree c
    refine (h c).1.trans (Eq.trans ?_ (Cert.Kernel10Ideal.Value.final m c).symm)
    rw [a0, a1, a2, a3, Cert.Kernel10Ideal.Value.REF]
    rfl

/-- The reference of the projection of the sample with normed heads: its arguments end as they were. -/
theorem reference11_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Of the projection of the sample with normed heads: kernel and reference end with equal results over the extended reals. -/
theorem equal11 : Cert.algebraic_Kernel11Ideal_Reference11Ideal := by
  pair_intro
  · run_from Cert.Kernel11Ideal.Value.run_blocks m g
  · refine (θ_run Cert.Reference11Ideal.defs _ _).mono (fun r h c => ⟨?_, (h c).2⟩) (Cert.Reference11Ideal.Value.run (F := Ideal) m' g')
    obtain ⟨a0, a1, a2⟩ := hagree c
    refine (h c).1.trans (Eq.trans ?_ (Cert.Kernel11Ideal.Value.final m c).symm)
    rw [a0, a1, a2, Cert.Kernel11Ideal.Value.REF]

/-- The reference of the plain projection of the sample: its arguments end as they were. -/
theorem reference12_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Of the plain projection of the sample: kernel and reference end with equal results over the extended reals. -/
theorem equal12 : Cert.algebraic_Kernel12Ideal_Reference12Ideal := by
  pair_intro
  · run_from Cert.Kernel12Ideal.Value.run_blocks m g
  · refine (θ_run Cert.Reference12Ideal.defs _ _).mono (fun r h c => ⟨?_, (h c).2⟩) (Cert.Reference12Ideal.Value.run (F := Ideal) m' g')
    obtain ⟨a0, a1⟩ := hagree c
    refine (h c).1.trans (Eq.trans ?_ (Cert.Kernel12Ideal.Value.final m c).symm)
    rw [a0, a1, Cert.Kernel12Ideal.Value.REF]

/-- The reference of the projection of the sample to the index keys: its arguments end as they were. -/
theorem reference13_frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Of the projection of the sample to the index keys: kernel and reference end with equal results over the extended reals. -/
theorem equal13 : Cert.algebraic_Kernel13Ideal_Reference13Ideal := by
  pair_intro
  · run_from Cert.Kernel13Ideal.Value.run_blocks m g
  · refine (θ_run Cert.Reference13Ideal.defs _ _).mono (fun r h c => ⟨?_, (h c).2⟩) (Cert.Reference13Ideal.Value.run (F := Ideal) m' g')
    obtain ⟨a0, a1⟩ := hagree c
    refine (h c).1.trans (Eq.trans ?_ (Cert.Kernel13Ideal.Value.final m c).symm)
    rw [a0, a1, Cert.Kernel13Ideal.Value.REF]

/-- The reference of the last residual sum of the prompt: its arguments end as they were. -/
theorem reference14_frame : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- Of the last residual sum of the prompt: kernel and reference end with equal results over the extended reals. -/
theorem equal14 : Cert.algebraic_Kernel14Ideal_Reference14Ideal := by
  pair_intro
  · run_from Cert.Kernel14Ideal.Value.run_blocks m g
  · refine (θ_run Cert.Reference14Ideal.defs _ _).mono (fun r h c => ⟨?_, (h c).2⟩) (Cert.Reference14Ideal.Value.run (F := Ideal) m' g')
    obtain ⟨a0, a1, a2⟩ := hagree c
    refine (h c).1.trans (Eq.trans ?_ (Cert.Kernel14Ideal.Value.final m c).symm)
    rw [a0, a1, a2, Cert.Kernel14Ideal.Value.REF]

/-- The reference of the last residual sum of the sample: its arguments end as they were. -/
theorem reference15_frame : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- Of the last residual sum of the sample: kernel and reference end with equal results over the extended reals. -/
theorem equal15 : Cert.algebraic_Kernel15Ideal_Reference15Ideal := by
  pair_intro
  · run_from Cert.Kernel15Ideal.Value.run_blocks m g
  · refine (θ_run Cert.Reference15Ideal.defs _ _).mono (fun r h c => ⟨?_, (h c).2⟩) (Cert.Reference15Ideal.Value.run (F := Ideal) m' g')
    obtain ⟨a0, a1, a2⟩ := hagree c
    refine (h c).1.trans (Eq.trans ?_ (Cert.Kernel15Ideal.Value.final m c).symm)
    rw [a0, a1, a2, Cert.Kernel15Ideal.Value.REF]
    rfl

/-- The reference of the joined calls: its arguments end as they were. -/
theorem reference16_frame : Cert.quiescent_Reference16Ideal := fun m ρ _ =>
  (θ_run Cert.Reference16Ideal.defs _ _).mono (fun r h => ⟨fun c => (h c).2.2.2.2.2, sem_eq_zero_of_no_sems (by decide) r.2⟩)
    (Cert.Reference16Ideal.Value.run (F := Ideal) m ρ)

/-- Of the joined calls: kernel and reference end with the five equal results over the extended reals. -/
theorem equal16 : Cert.algebraic_Kernel16Ideal_Reference16Ideal := by
  pair_intro
  · exact Cert.Kernel16Ideal.Value.run_joined m g
  · refine (θ_run Cert.Reference16Ideal.defs _ _).mono (fun r h c => ⟨?_, ?_, ?_, ?_, ?_, (h c).2.2.2.2.2⟩) (Cert.Reference16Ideal.Stage.run_named m' g')
    · obtain ⟨a0, a1, a2, a3, a4, a5, a6, a7⟩ := hagree c
      refine ((h c).1).trans ?_
      rw [a0, a1, a2, a3, a4, a5, a6]
      exact (Cert.Kernel16Ideal.Value.result1024 _ _ _ _ _ _ _).symm
    · obtain ⟨a0, a1, a2, a3, a4, a5, a6, a7⟩ := hagree c
      refine ((h c).2.1).trans ?_
      rw [a0, a1, a2, a3, a4, a5]
      exact (Cert.Kernel16Ideal.Value.result2048 _ _ _ _ _ _).symm
    · obtain ⟨a0, a1, a2, a3, a4, a5, a6, a7⟩ := hagree c
      refine ((h c).2.2.1).trans ?_
      rw [a0, a1, a2, a3, a4, a5, a7]
      exact (Cert.Kernel16Ideal.Value.result4096 _ _ _ _ _ _ _).symm
    · obtain ⟨a0, a1, a2, a3, a4, a5, a6, a7⟩ := hagree c
      refine ((h c).2.2.2.1).trans ?_
      rw [a0, a1, a2, a3, a4, a5]
      exact (Cert.Kernel16Ideal.Value.result5120 _ _ _ _ _ _).symm
    · obtain ⟨a0, a1, a2, a3, a4, a5, a6, a7⟩ := hagree c
      refine ((h c).2.2.2.2.1).trans ?_
      rw [a0, a1, a2, a3, a4, a5]
      exact (Cert.Kernel16Ideal.Value.result7168 _ _ _ _ _ _).symm

/-- The reference of the weights of the index heads of the prompt: its arguments end as they were. -/
theorem reference17_frame : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- Of the weights of the index heads of the prompt: kernel and reference end with equal results over the extended reals. -/
theorem equal17 : Cert.algebraic_Kernel17Ideal_Reference17Ideal := by
  pair_intro
  · run_from Cert.Kernel17Ideal.Value.run_blocks m g
  · refine (θ_run Cert.Reference17Ideal.defs _ _).mono (fun r h c => ⟨?_, (h c).2⟩) (Cert.Reference17Ideal.Value.run (F := Ideal) m' g')
    obtain ⟨a0, a1⟩ := hagree c
    refine (h c).1.trans (Eq.trans ?_ (Cert.Kernel17Ideal.Value.final m c).symm)
    rw [a0, a1, Cert.Kernel17Ideal.Value.REF]

/-- The reference of the weights of the index heads of the sample: its arguments end as they were. -/
theorem reference18_frame : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- Of the weights of the index heads of the sample: kernel and reference end with equal results over the extended reals. -/
theorem equal18 : Cert.algebraic_Kernel18Ideal_Reference18Ideal := by
  pair_intro
  · run_from Cert.Kernel18Ideal.Value.run_blocks m g
  · refine (θ_run Cert.Reference18Ideal.defs _ _).mono (fun r h c => ⟨?_, (h c).2⟩) (Cert.Reference18Ideal.Value.run (F := Ideal) m' g')
    obtain ⟨a0, a1⟩ := hagree c
    refine (h c).1.trans (Eq.trans ?_ (Cert.Kernel18Ideal.Value.final m c).symm)
    rw [a0, a1, Cert.Kernel18Ideal.Value.REF]

/-- The reference of the plain projection of the sample to 2048 columns: its arguments end as they were. -/
theorem reference19_frame : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- Of the plain projection of the sample to 2048 columns: kernel and reference end with equal results over the extended reals. -/
theorem equal19 : Cert.algebraic_Kernel19Ideal_Reference19Ideal := by
  pair_intro
  · run_from Cert.Kernel19Ideal.Value.run_blocks m g
  · refine (θ_run Cert.Reference19Ideal.defs _ _).mono (fun r h c => ⟨?_, (h c).2⟩) (Cert.Reference19Ideal.Value.run (F := Ideal) m' g')
    obtain ⟨a0, a1⟩ := hagree c
    refine (h c).1.trans (Eq.trans ?_ (Cert.Kernel19Ideal.Value.final m c).symm)
    rw [a0, a1, Cert.Kernel19Ideal.Value.REF]

/-- The reference of the gated merge of the sample: its arguments end as they were. -/
theorem reference20_frame : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- Of the gated merge of the sample: kernel and reference end with equal results over the extended reals. -/
theorem equal20 : Cert.algebraic_Kernel20Ideal_Reference20Ideal := by
  pair_intro
  · run_from Cert.Kernel20Ideal.Value.run_blocks m g
  · refine (θ_run Cert.Reference20Ideal.defs _ _).mono (fun r h c => ⟨?_, (h c).2⟩) (Cert.Reference20Ideal.Value.run (F := Ideal) m' g')
    obtain ⟨a0, a1, a2, a3, a4, a5⟩ := hagree c
    refine (h c).1.trans (Eq.trans ?_ (Cert.Kernel20Ideal.Value.final m c).symm)
    rw [a0, a1, a2, a3, a4, a5]

/-- The reference of the output projection of the sample and the norm after it: its arguments end as they were. -/
theorem reference21_frame : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

/-- Of the output projection of the sample and the norm after it: kernel and reference end with equal results over the extended reals. -/
theorem equal21 : Cert.algebraic_Kernel21Ideal_Reference21Ideal := by
  pair_intro
  · run_from Cert.Kernel21Ideal.Value.run_blocks m g
  · refine (θ_run Cert.Reference21Ideal.defs _ _).mono (fun r h c => ⟨?_, ?_, (h c).2.2⟩) (Cert.Reference21Ideal.Value.run (F := Ideal) m' g')
    · obtain ⟨a0, a1, a2, a3, -⟩ := hagree c
      refine (h c).1.trans (Eq.trans ?_ (Cert.Kernel21Ideal.Value.final_stream m c).symm)
      rw [a0, a1, a2, a3, Cert.Kernel21Ideal.Value.REFH]
      rfl
    · obtain ⟨a0, a1, a2, a3, a4, a5, a6⟩ := hagree c
      refine (h c).2.1.trans (Eq.trans ?_ (Cert.Kernel21Ideal.Value.final_normed m c).symm)
      rw [a0, a1, a2, a3, a4, a5, a6, Cert.Kernel21Ideal.Value.REFM]
      rfl

/-- The reference of the joined calls of the sample: its arguments end as they were. -/
theorem reference22_frame : Cert.quiescent_Reference22Ideal := fun m ρ _ =>
  (θ_run Cert.Reference22Ideal.defs _ _).mono (fun r h => ⟨fun c => (h c).2.2.2.2.2, sem_eq_zero_of_no_sems (by decide) r.2⟩)
    (Cert.Reference22Ideal.Value.run (F := Ideal) m ρ)

/-- Of the joined calls of the sample: kernel and reference end with the five equal results over the extended reals. -/
theorem equal22 : Cert.algebraic_Kernel22Ideal_Reference22Ideal := by
  pair_intro
  · exact Cert.Kernel22Ideal.Value.run_joined m g
  · refine (θ_run Cert.Reference22Ideal.defs _ _).mono (fun r h c => ⟨?_, ?_, ?_, ?_, ?_, (h c).2.2.2.2.2⟩) (Cert.Reference22Ideal.Stage.run_named m' g')
    · obtain ⟨a0, a1, a2, a3, a4, a5, a6, a7⟩ := hagree c
      refine ((h c).1).trans ?_
      rw [a0, a1, a2, a3, a4, a5, a6]
      exact (Cert.Kernel22Ideal.Value.result1024 _ _ _ _ _ _ _).symm
    · obtain ⟨a0, a1, a2, a3, a4, a5, a6, a7⟩ := hagree c
      refine ((h c).2.1).trans ?_
      rw [a0, a1, a2, a3, a4, a5]
      exact (Cert.Kernel22Ideal.Value.result2048 _ _ _ _ _ _).symm
    · obtain ⟨a0, a1, a2, a3, a4, a5, a6, a7⟩ := hagree c
      refine ((h c).2.2.1).trans ?_
      rw [a0, a1, a2, a3, a4, a5, a7]
      exact (Cert.Kernel22Ideal.Value.result4096 _ _ _ _ _ _ _).symm
    · obtain ⟨a0, a1, a2, a3, a4, a5, a6, a7⟩ := hagree c
      refine ((h c).2.2.2.1).trans ?_
      rw [a0, a1, a2, a3, a4, a5]
      exact (Cert.Kernel22Ideal.Value.result5120 _ _ _ _ _ _).symm
    · obtain ⟨a0, a1, a2, a3, a4, a5, a6, a7⟩ := hagree c
      refine ((h c).2.2.2.2.1).trans ?_
      rw [a0, a1, a2, a3, a4, a5]
      exact (Cert.Kernel22Ideal.Value.result7168 _ _ _ _ _ _).symm

/-- The reference of the expert mixing of the sample: its arguments end as they were. -/
theorem reference23_frame : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- Of the expert mixing of the sample: kernel and reference end with equal results over the extended reals. -/
theorem equal23 : Cert.algebraic_Kernel23Ideal_Reference23Ideal := by
  pair_intro
  · run_from Cert.Kernel23Ideal.Gen.run_main m g
  · refine (θ_run Cert.Reference23Ideal.defs _ _).mono (fun r h c => ⟨?_, (h c).2⟩) (Cert.Reference23Ideal.Value.run (F := Ideal) m' g')
    have e : r.2.mem ((c.tc : Thread Cert.Reference23Ideal.nD Cert.Reference23Ideal.τ).loc Cert.Reference23Ideal.main_v31)
        = Cert.Reference23Ideal.Value.REF (m' ((c.tc : Thread Cert.Reference23Ideal.nD Cert.Reference23Ideal.τ).loc Cert.Reference23Ideal.main_arg0)) (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg2)) (m' ((c.tc : Thread Cert.Reference23Ideal.nD Cert.Reference23Ideal.τ).loc Cert.Reference23Ideal.main_arg3)) (m' ((c.tc : Thread Cert.Reference23Ideal.nD Cert.Reference23Ideal.τ).loc Cert.Reference23Ideal.main_arg4)) (m' ((c.tc : Thread Cert.Reference23Ideal.nD Cert.Reference23Ideal.τ).loc Cert.Reference23Ideal.main_arg5)) := (h c).1
    obtain ⟨a0, a1, a2, a3, a4, a5⟩ := hagree c
    refine e.trans (Eq.trans ?_ (Cert.Kernel23Ideal.Gen.final m c).symm)
    rw [a0, a1, a2, a3, a4, a5]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  fun m ρ _ => Cert.Kernel12.Gen.frame m ρ, fun m ρ _ => Cert.Kernel12Ideal.Gen.frame m ρ, reference12_frame,
  fun m ρ _ => Cert.Kernel13.Gen.frame m ρ, fun m ρ _ => Cert.Kernel13Ideal.Gen.frame m ρ, reference13_frame,
  fun m ρ _ => Cert.Kernel14.Gen.frame m ρ, fun m ρ _ => Cert.Kernel14Ideal.Gen.frame m ρ, reference14_frame,
  fun m ρ _ => Cert.Kernel15.Gen.frame m ρ, fun m ρ _ => Cert.Kernel15Ideal.Gen.frame m ρ, reference15_frame,
  fun m ρ _ => Cert.Kernel16.Gen.frame m ρ, fun m ρ _ => Cert.Kernel16Ideal.Gen.frame m ρ, reference16_frame,
  fun m ρ _ => Cert.Kernel17.Gen.frame m ρ, fun m ρ _ => Cert.Kernel17Ideal.Gen.frame m ρ, reference17_frame,
  fun m ρ _ => Cert.Kernel18.Gen.frame m ρ, fun m ρ _ => Cert.Kernel18Ideal.Gen.frame m ρ, reference18_frame,
  fun m ρ _ => Cert.Kernel19.Gen.frame m ρ, fun m ρ _ => Cert.Kernel19Ideal.Gen.frame m ρ, reference19_frame,
  fun m ρ _ => Cert.Kernel20.Gen.frame m ρ, fun m ρ _ => Cert.Kernel20Ideal.Gen.frame m ρ, reference20_frame,
  fun m ρ _ => Cert.Kernel21.Gen.frame m ρ, fun m ρ _ => Cert.Kernel21Ideal.Gen.frame m ρ, reference21_frame,
  fun m ρ _ => Cert.Kernel22.Gen.frame m ρ, fun m ρ _ => Cert.Kernel22Ideal.Gen.frame m ρ, reference22_frame,
  fun m ρ _ => Cert.Kernel23.Gen.frame m ρ, fun m ρ _ => Cert.Kernel23Ideal.Gen.frame m ρ, reference23_frame,
  trivial, experts_equal,
  trivial, equal2,
  trivial, equal3,
  trivial, equal4,
  trivial, equal5,
  trivial, equal6,
  trivial, equal7,
  trivial, equal8,
  trivial, equal9,
  trivial, equal10,
  trivial, equal11,
  trivial, equal12,
  trivial, equal13,
  trivial, equal14,
  trivial, equal15,
  trivial, equal16,
  trivial, equal17,
  trivial, equal18,
  trivial, equal19,
  trivial, equal20,
  trivial, equal21,
  trivial, equal22,
  trivial, equal23⟩

end Cert.Proof

end
